-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_prepared [hPre_prepared : Cert.Pre_prepared.Facts] (m : (ℓ : Loc Cert.KernelIdeal.nD Cert.KernelIdeal.τ Cert.KernelIdeal.sig) → Buf (Elt Ideal) ℓ) : Prop :=
  ∀ c : Dev Cert.KernelIdeal.nD,
    (Cert.Pre_prepared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prepared [hPre_prepared : Cert.Pre_prepared.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prepared.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_prepared [hKernelIdeal : Cert.KernelIdeal.Facts] [hPre_prepared : Cert.Pre_prepared.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prepared m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_prepared [hReferenceIdeal : Cert.ReferenceIdeal.Facts] [hPre_prepared : Cert.Pre_prepared.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prepared m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_prepared [hKernelIdeal : Cert.KernelIdeal.Facts] [hReferenceIdeal : Cert.ReferenceIdeal.Facts] [hPre_prepared : Cert.Pre_prepared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prepared m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v70) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_prepared : Cert.Pre_prepared.Facts),
    quiescent_Kernel (hKernel := hKernel)
    ∧ quiescent_KernelIdeal (hKernelIdeal := hKernelIdeal)
    ∧ quiescent_KernelIdeal_pre_prepared (hKernelIdeal := hKernelIdeal) (hPre_prepared := hPre_prepared)
    ∧ quiescent_ReferenceIdeal (hReferenceIdeal := hReferenceIdeal)
    ∧ quiescent_ReferenceIdeal_pre_prepared (hReferenceIdeal := hReferenceIdeal) (hPre_prepared := hPre_prepared)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_prepared (hKernelIdeal := hKernelIdeal) (hReferenceIdeal := hReferenceIdeal) (hPre_prepared := hPre_prepared)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_prepared.lean ====
abbrev S2x8448x2048 : Shape := ⟨3, ![2, 8448, 2048]⟩
abbrev S2x8448x1024 : Shape := ⟨3, ![2, 8448, 1024]⟩
abbrev S128 : Shape := ⟨1, ![128]⟩
abbrev S_ : Shape := ⟨0, ![]⟩

class Facts : Prop where
  bcast_S_S2x8448x1024 : S_.BroadcastsInDim S2x8448x1024 (![] : Fin 0 → Fin S2x8448x1024.rank)
  bitsLt_bf16_f32 : FTy.bits .bf16 < FTy.bits .f32
  bcast_S_S2x8448x2048 : S_.BroadcastsInDim S2x8448x2048 (![] : Fin 0 → Fin S2x8448x2048.rank)
  slices_S2x8448x2048_S2x8448x1024_0_0_0 : S2x8448x2048.Slices ![0, 0, 0] S2x8448x1024
  slices_S2x8448x2048_S2x8448x1024_0_0_1024 : S2x8448x2048.Slices ![0, 0, 1024] S2x8448x1024

variable [Facts]

def fn_where {F : FTy → Type} [FloatOps F] (arg0 : IVec S2x8448x1024 1) (arg1 : IVec S2x8448x1024 1) (arg2 : IVec S2x8448x1024 1) : IVec S2x8448x1024 1 :=
  let v0 : IVec S2x8448x1024 1 := select arg0 arg1 arg2
  v0

def fn_part1 {F : FTy → Type} [FloatOps F] (main_arg0 : FVec F S2x8448x2048 .bf16) (main_arg2 : FVec F S2x8448x1024 .bf16) (main_v2 : IVec S2x8448x1024 32) (main_v17 : IVec S2x8448x1024 1) : IVec S2x8448x1024 1 :=
  let main_c_4 : IVec S_ 32 := constantI S_ 32 128#32
  let main_v18 : IVec S2x8448x1024 32 := broadcastInDim S2x8448x1024 ![] bcast_S_S2x8448x1024 main_c_4
  let main_v19 : IVec S2x8448x1024 1 := cmpi .slt main_v2 main_v18
  let main_v20 : FVec F S2x8448x1024 .f32 := (extf .f32 · bitsLt_bf16_f32) main_arg2
  let main_cst_5 : FVec F S_ .f32 := constant S_ .f32 0x3F800000#32
  let main_v21 : FVec F S2x8448x1024 .f32 := broadcastInDim S2x8448x1024 ![] bcast_S_S2x8448x1024 main_cst_5
  let main_v22 : IVec S2x8448x1024 1 := cmpf .oeq main_v20 main_v21
  let main_v23 : IVec S2x8448x1024 1 := ori main_v19 main_v22
  let main_v24 : FVec F S2x8448x2048 .f32 := (extf .f32 · bitsLt_bf16_f32) main_arg0
  let main_cst_6 : FVec F S_ .f32 := constant S_ .f32 0x7F800000#32
  let main_v25 : FVec F S2x8448x2048 .f32 := broadcastInDim S2x8448x2048 ![] bcast_S_S2x8448x2048 main_cst_6
  let main_v26 : IVec S2x8448x2048 1 := cmpf .olt main_v24 main_v25
  let main_cst_7 : FVec F S_ .f32 := constant S_ .f32 0xFF800000#32
  let main_v27 : FVec F S2x8448x2048 .f32 := broadcastInDim S2x8448x2048 ![] bcast_S_S2x8448x2048 main_cst_7
  let main_v28 : IVec S2x8448x2048 1 := cmpf .ogt main_v24 main_v27
  let main_v29 : IVec S2x8448x2048 1 := andi main_v26 main_v28
  let main_v30 : IVec S2x8448x1024 1 := (extractStridedSlice S2x8448x1024 ![0, 0, 0] · slices_S2x8448x2048_S2x8448x1024_0_0_0) main_v29
  let main_v31 : IVec S2x8448x1024 1 := (extractStridedSlice S2x8448x1024 ![0, 0, 1024] · slices_S2x8448x2048_S2x8448x1024_0_0_1024) main_v29
  let main_v32 : IVec S2x8448x1024 1 := andi main_v30 main_v31
  let main_v33 : IVec S2x8448x1024 1 := andi main_v32 main_v17
  let main_v34 : IVec S2x8448x1024 1 := andi main_v33 main_v23
  main_v34

def fn {F : FTy → Type} [FloatOps F] (main_arg0 : FVec F S2x8448x2048 .bf16) (main_arg1 : FVec F S2x8448x1024 .bf16) (main_arg2 : FVec F S2x8448x1024 .bf16) (main_arg3 : FVec F S128 .f32) (main_arg4 : FVec F S128 .f32) : IVec S2x8448x1024 1 :=
  let main_v0 : IVec S2x8448x1024 32 := iotaInDim S2x8448x1024 32 2
  let main_c : IVec S_ 32 := constantI S_ 32 255#32
  let main_v1 : IVec S2x8448x1024 32 := broadcastInDim S2x8448x1024 ![] bcast_S_S2x8448x1024 main_c
  let main_v2 : IVec S2x8448x1024 32 := andi main_v0 main_v1
  let main_c_0 : IVec S_ 32 := constantI S_ 32 128#32
  let main_v3 : IVec S2x8448x1024 32 := broadcastInDim S2x8448x1024 ![] bcast_S_S2x8448x1024 main_c_0
  let main_v4 : IVec S2x8448x1024 1 := cmpi .slt main_v2 main_v3
  let main_v5 : FVec F S2x8448x1024 .f32 := (extf .f32 · bitsLt_bf16_f32) main_arg1
  let main_cst : FVec F S_ .f32 := constant S_ .f32 0x7F800000#32
  let main_v6 : FVec F S2x8448x1024 .f32 := broadcastInDim S2x8448x1024 ![] bcast_S_S2x8448x1024 main_cst
  let main_v7 : IVec S2x8448x1024 1 := cmpf .olt main_v5 main_v6
  let main_cst_1 : FVec F S_ .f32 := constant S_ .f32 0xFF800000#32
  let main_v8 : FVec F S2x8448x1024 .f32 := broadcastInDim S2x8448x1024 ![] bcast_S_S2x8448x1024 main_cst_1
  let main_v9 : IVec S2x8448x1024 1 := cmpf .ogt main_v5 main_v8
  let main_v10 : IVec S2x8448x1024 1 := andi main_v7 main_v9
  let main_c_2 : IVec S_ 32 := constantI S_ 32 128#32
  let main_v11 : IVec S2x8448x1024 32 := broadcastInDim S2x8448x1024 ![] bcast_S_S2x8448x1024 main_c_2
  let main_v12 : IVec S2x8448x1024 1 := cmpi .sgt main_v2 main_v11
  let main_v13 : FVec F S2x8448x1024 .f32 := (extf .f32 · bitsLt_bf16_f32) main_arg1
  let main_cst_3 : FVec F S_ .f32 := constant S_ .f32 0x3F800000#32
  let main_v14 : FVec F S2x8448x1024 .f32 := broadcastInDim S2x8448x1024 ![] bcast_S_S2x8448x1024 main_cst_3
  let main_v15 : IVec S2x8448x1024 1 := cmpf .oeq main_v13 main_v14
  let main_v16 : IVec S2x8448x1024 1 := ori main_v12 main_v15
  let main_v17 : IVec S2x8448x1024 1 := fn_where (F := F) main_v4 main_v10 main_v16
  fn_part1 (F := F) main_arg0 main_arg2 main_v2 main_v17
-- ==== Kernel.lean ====
abbrev S2x8448x2048 : Shape := ⟨3, ![2, 8448, 2048]⟩
abbrev S2x8448x1024 : Shape := ⟨3, ![2, 8448, 1024]⟩
abbrev S128 : Shape := ⟨1, ![128]⟩
abbrev S1x128 : Shape := ⟨2, ![1, 128]⟩
abbrev S1x256x512 : Shape := ⟨3, ![1, 256, 512]⟩
abbrev S1x8448x256 : Shape := ⟨3, ![1, 8448, 256]⟩
abbrev S1024x256 : Shape := ⟨2, ![1024, 256]⟩
abbrev S1024x2304 : Shape := ⟨2, ![1024, 2304]⟩
abbrev S1024x1 : Shape := ⟨2, ![1024, 1]⟩
abbrev S256x512 : Shape := ⟨2, ![256, 512]⟩
abbrev S1 : Shape := ⟨1, ![1]⟩
abbrev S1x1 : Shape := ⟨2, ![1, 1]⟩
abbrev S256x128 : Shape := ⟨2, ![256, 128]⟩
abbrev S1x256x256 : Shape := ⟨3, ![1, 256, 256]⟩
abbrev S256x256 : Shape := ⟨2, ![256, 256]⟩
abbrev S1x2304x256 : Shape := ⟨3, ![1, 2304, 256]⟩
abbrev S2304x256 : Shape := ⟨2, ![2304, 256]⟩
abbrev S1x2048x256 : Shape := ⟨3, ![1, 2048, 256]⟩
abbrev S2048x256 : Shape := ⟨2, ![2048, 256]⟩
abbrev S1024x2048 : Shape := ⟨2, ![1024, 2048]⟩
abbrev S1024x128 : Shape := ⟨2, ![1024, 128]⟩
abbrev S1x256x128 : Shape := ⟨3, ![1, 256, 128]⟩
abbrev S1x1024x128 : Shape := ⟨3, ![1, 1024, 128]⟩
abbrev S1x1x1 : Shape := ⟨3, ![1, 1, 1]⟩
abbrev S1024 : Shape := ⟨1, ![1024]⟩
abbrev S1x2048x128 : Shape := ⟨3, ![1, 2048, 128]⟩
abbrev S2048x128 : Shape := ⟨2, ![2048, 128]⟩

abbrev nBuf : Space → Nat
  | .hbm => 8
  | .vmem => 16
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x1024, .bf16⟩
  | .hbm, ⟨2, _⟩ => ⟨S2x8448x1024, .bf16⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S2x8448x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x256, .bf16⟩
  | .local _ .vmem, ⟨5, _⟩ => ⟨S1x8448x256, .bf16⟩
  | .local _ .vmem, ⟨6, _⟩ => ⟨S1x128, .f32⟩
  | .local _ .vmem, ⟨7, _⟩ => ⟨S1x128, .f32⟩
  | .local _ .vmem, ⟨8, _⟩ => ⟨S1x256x512, .bf16⟩
  | .local _ .vmem, ⟨9, _⟩ => ⟨S1x256x512, .bf16⟩
  | .local _ .vmem, ⟨10, _⟩ => ⟨S1024x256, .bf16⟩
  | .local _ .vmem, ⟨11, _⟩ => ⟨S1024x256, .f32⟩
  | .local _ .vmem, ⟨12, _⟩ => ⟨S1024x2304, .f32⟩
  | .local _ .vmem, ⟨13, _⟩ => ⟨S1024x2304, .f32⟩
  | .local _ .vmem, ⟨14, _⟩ => ⟨S1024x1, .f32⟩
  | .local _ .vmem, ⟨15, _⟩ => ⟨S1024x1, .f32⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 33], ![false, false, false]⟩

@[reducible] def k0_t1_loop (i : grid0.Coords) : Scf.Loop 32 :=
  let c0_i32_77 : BitVec 32 := 0#32
  let arg2 : BitVec 32 := BitVec.ofNat 32 (i 2).val
  let c1_i32 : BitVec 32 := 1#32
  let v61 : BitVec 1 := Scalar.cmpi .slt arg2 c1_i32
  let c0_i32_22 : BitVec 32 := 0#32
  let c4_i32 : BitVec 32 := 4#32
  let v62 : BitVec 32 := Scalar.select v61 c0_i32_22 c4_i32
  let v148 : BitVec 32 := Scalar.subi v62 c0_i32_77
  let c1_i32_78 : BitVec 32 := 1#32
  let v150 : BitVec 32 := Scalar.divsi v148 c1_i32_78
  let v151 : BitVec 32 := Scalar.muli v150 c1_i32_78
  let v152 : BitVec 32 := Scalar.addi c0_i32_77 v151
  let c1_i32_79 : BitVec 32 := 1#32
  ⟨c0_i32_77, v152, c1_i32_79⟩
def k0_mult1 (i : grid0.Coords) (k0_t1 : Fin (k0_t1_loop i).trips) : BitVec 32 :=
  let c256_i32 : BitVec 32 := 256#32
  let c0_i32_77 : BitVec 32 := 0#32
  let c1_i32_79 : BitVec 32 := 1#32
  let arg15 : BitVec 32 := Scf.iv c0_i32_77 c1_i32_79 k0_t1
  let c2048_i32 : BitVec 32 := 2048#32
  let v177 : BitVec 32 := Scalar.muli arg15 c2048_i32
  let v178 : BitVec 32 := Scalar.addi c256_i32 v177
  v178
def k0_off1 (i : grid0.Coords) (k0_t1 : Fin (k0_t1_loop i).trips) : Fin 3 → Nat :=
  let c0_97 : Index := 0#32
  let c256_i32 : BitVec 32 := 256#32
  let c0_i32_77 : BitVec 32 := 0#32
  let c1_i32_79 : BitVec 32 := 1#32
  let arg15 : BitVec 32 := Scf.iv c0_i32_77 c1_i32_79 k0_t1
  let c2048_i32 : BitVec 32 := 2048#32
  let v177 : BitVec 32 := Scalar.muli arg15 c2048_i32
  let v178 : BitVec 32 := Scalar.addi c256_i32 v177
  let v179 : BitVec 32 := v178
  let v180 : Index := Scalar.indexCast v179
  let c0_98 : Index := 0#32
  ![0, v180.toNat, 0]
@[reducible] def k0_t2_loop (i : grid0.Coords) : Scf.Loop 32 :=
  let c0_i32_77 : BitVec 32 := 0#32
  let arg2 : BitVec 32 := BitVec.ofNat 32 (i 2).val
  let c1_i32 : BitVec 32 := 1#32
  let v61 : BitVec 1 := Scalar.cmpi .slt arg2 c1_i32
  let c0_i32_22 : BitVec 32 := 0#32
  let c4_i32 : BitVec 32 := 4#32
  let v62 : BitVec 32 := Scalar.select v61 c0_i32_22 c4_i32
  let v148 : BitVec 32 := Scalar.subi v62 c0_i32_77
  let c1_i32_78 : BitVec 32 := 1#32
  let v150 : BitVec 32 := Scalar.divsi v148 c1_i32_78
  let v151 : BitVec 32 := Scalar.muli v150 c1_i32_78
  let v152 : BitVec 32 := Scalar.addi c0_i32_77 v151
  let v149 : BitVec 32 := Scalar.addi c0_i32_77 v148
  let c1_i32_80 : BitVec 32 := 1#32
  ⟨v152, v149, c1_i32_80⟩
def k0_mult2 (i : grid0.Coords) (k0_t2 : Fin (k0_t2_loop i).trips) : BitVec 32 :=
  let c256_i32 : BitVec 32 := 256#32
  let c0_i32_77 : BitVec 32 := 0#32
  let arg2 : BitVec 32 := BitVec.ofNat 32 (i 2).val
  let c1_i32 : BitVec 32 := 1#32
  let v61 : BitVec 1 := Scalar.cmpi .slt arg2 c1_i32
  let c0_i32_22 : BitVec 32 := 0#32
  let c4_i32 : BitVec 32 := 4#32
  let v62 : BitVec 32 := Scalar.select v61 c0_i32_22 c4_i32
  let v148 : BitVec 32 := Scalar.subi v62 c0_i32_77
  let c1_i32_78 : BitVec 32 := 1#32
  let v150 : BitVec 32 := Scalar.divsi v148 c1_i32_78
  let v151 : BitVec 32 := Scalar.muli v150 c1_i32_78
  let v152 : BitVec 32 := Scalar.addi c0_i32_77 v151
  let c1_i32_80 : BitVec 32 := 1#32
  let arg15 : BitVec 32 := Scf.iv v152 c1_i32_80 k0_t2
  let c2048_i32 : BitVec 32 := 2048#32
  let v177 : BitVec 32 := Scalar.muli arg15 c2048_i32
  let v178 : BitVec 32 := Scalar.addi c256_i32 v177
  v178
def k0_off2 (i : grid0.Coords) (k0_t2 : Fin (k0_t2_loop i).trips) : Fin 3 → Nat :=
  let c0_97 : Index := 0#32
  let c256_i32 : BitVec 32 := 256#32
  let c0_i32_77 : BitVec 32 := 0#32
  let arg2 : BitVec 32 := BitVec.ofNat 32 (i 2).val
  let c1_i32 : BitVec 32 := 1#32
  let v61 : BitVec 1 := Scalar.cmpi .slt arg2 c1_i32
  let c0_i32_22 : BitVec 32 := 0#32
  let c4_i32 : BitVec 32 := 4#32
  let v62 : BitVec 32 := Scalar.select v61 c0_i32_22 c4_i32
  let v148 : BitVec 32 := Scalar.subi v62 c0_i32_77
  let c1_i32_78 : BitVec 32 := 1#32
  let v150 : BitVec 32 := Scalar.divsi v148 c1_i32_78
  let v151 : BitVec 32 := Scalar.muli v150 c1_i32_78
  let v152 : BitVec 32 := Scalar.addi c0_i32_77 v151
  let c1_i32_80 : BitVec 32 := 1#32
  let arg15 : BitVec 32 := Scf.iv v152 c1_i32_80 k0_t2
  let c2048_i32 : BitVec 32 := 2048#32
  let v177 : BitVec 32 := Scalar.muli arg15 c2048_i32
  let v178 : BitVec 32 := Scalar.addi c256_i32 v177
  let v179 : BitVec 32 := v178
  let v180 : Index := Scalar.indexCast v179
  let c0_98 : Index := 0#32
  ![0, v180.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x8448x2048 : Shape := ⟨3, ![2, 8448, 2048]⟩
abbrev S2x8448x1024 : Shape := ⟨3, ![2, 8448, 1024]⟩
abbrev S128 : Shape := ⟨1, ![128]⟩
abbrev S2x8448x4x4x128 : Shape := ⟨5, ![2, 8448, 4, 4, 128]⟩
abbrev S2x8448x4x256 : Shape := ⟨4, ![2, 8448, 4, 256]⟩
abbrev S2x8448x4x128 : Shape := ⟨4, ![2, 8448, 4, 128]⟩
abbrev S2x256x4x4x128 : Shape := ⟨5, ![2, 256, 4, 4, 128]⟩
abbrev S2x256x4x128 : Shape := ⟨4, ![2, 256, 4, 128]⟩
abbrev S2x4x256x256x4 : Shape := ⟨5, ![2, 4, 256, 256, 4]⟩
abbrev S2x4x4x256x256 : Shape := ⟨5, ![2, 4, 4, 256, 256]⟩
abbrev S_ : Shape := ⟨0, ![]⟩
abbrev S2x4x4x256 : Shape := ⟨4, ![2, 4, 4, 256]⟩
abbrev S2x4x4x256x1 : Shape := ⟨5, ![2, 4, 4, 256, 1]⟩
abbrev S2x4x128x4x256 : Shape := ⟨5, ![2, 4, 128, 4, 256]⟩
abbrev S2x8192x4x4x128 : Shape := ⟨5, ![2, 8192, 4, 4, 128]⟩
abbrev S2x4x8448x8192x4 : Shape := ⟨5, ![2, 4, 8448, 8192, 4]⟩
abbrev S2x4x4x8192x8448 : Shape := ⟨5, ![2, 4, 4, 8192, 8448]⟩
abbrev S2x4x4x8192 : Shape := ⟨4, ![2, 4, 4, 8192]⟩
abbrev S2x4x4x8192x1 : Shape := ⟨5, ![2, 4, 4, 8192, 1]⟩
abbrev S2x4x128x4x8192 : Shape := ⟨5, ![2, 4, 128, 4, 8192]⟩

abbrev nBuf : Space → Nat
  | .hbm => 64
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x1024, .bf16⟩
  | .hbm, ⟨2, _⟩ => ⟨S2x8448x1024, .bf16⟩
  | .hbm, ⟨3, _⟩ => ⟨S128, .f32⟩
  | .hbm, ⟨4, _⟩ => ⟨S128, .f32⟩
  | .hbm, ⟨5, _⟩ => ⟨S2x8448x4x4x128, .bf16⟩
  | .hbm, ⟨6, _⟩ => ⟨S2x8448x4x256, .bf16⟩
  | .hbm, ⟨7, _⟩ => ⟨S2x8448x4x128, .bf16⟩
  | .hbm, ⟨8, _⟩ => ⟨S2x8448x4x256, .bf16⟩
  | .hbm, ⟨9, _⟩ => ⟨S2x8448x4x128, .bf16⟩
  | .hbm, ⟨10, _⟩ => ⟨S2x256x4x4x128, .bf16⟩
  | .hbm, ⟨11, _⟩ => ⟨S2x256x4x128, .bf16⟩
  | .hbm, ⟨12, _⟩ => ⟨S2x256x4x128, .bf16⟩
  | .hbm, ⟨13, _⟩ => ⟨S2x4x256x256x4, .f32⟩
  | .hbm, ⟨14, _⟩ => ⟨S2x4x4x256x256, .f32⟩
  | .hbm, ⟨15, _⟩ => ⟨S_, .f32⟩
  | .hbm, ⟨16, _⟩ => ⟨S_, .f32⟩
  | .hbm, ⟨17, _⟩ => ⟨S2x4x4x256x256, .f32⟩
  | .hbm, ⟨18, _⟩ => ⟨S2x4x4x256x256, .f32⟩
  | .hbm, ⟨19, _⟩ => ⟨S_, .f32⟩
  | .hbm, ⟨20, _⟩ => ⟨S2x4x4x256, .f32⟩
  | .hbm, ⟨21, _⟩ => ⟨S_, .f32⟩
  | .hbm, ⟨22, _⟩ => ⟨S2x4x4x256, .f32⟩
  | .hbm, ⟨23, _⟩ => ⟨S2x4x4x256, .f32⟩
  | .hbm, ⟨24, _⟩ => ⟨S2x4x4x256x1, .f32⟩
  | .hbm, ⟨25, _⟩ => ⟨S2x4x4x256x256, .f32⟩
  | .hbm, ⟨26, _⟩ => ⟨S2x4x4x256x256, .f32⟩
  | .hbm, ⟨27, _⟩ => ⟨S2x4x4x256x256, .f32⟩
  | .hbm, ⟨28, _⟩ => ⟨S_, .f32⟩
  | .hbm, ⟨29, _⟩ => ⟨S2x4x4x256, .f32⟩
  | .hbm, ⟨30, _⟩ => ⟨S2x4x4x256x1, .f32⟩
  | .hbm, ⟨31, _⟩ => ⟨S2x4x4x256x256, .f32⟩
  | .hbm, ⟨32, _⟩ => ⟨S2x4x4x256x256, .f32⟩
  | .hbm, ⟨33, _⟩ => ⟨S2x4x4x256x256, .bf16⟩
  | .hbm, ⟨34, _⟩ => ⟨S2x4x128x4x256, .f32⟩
  | .hbm, ⟨35, _⟩ => ⟨S2x256x4x4x128, .f32⟩
  | .hbm, ⟨36, _⟩ => ⟨S2x256x4x4x128, .bf16⟩
  | .hbm, ⟨37, _⟩ => ⟨S2x8192x4x4x128, .bf16⟩
  | .hbm, ⟨38, _⟩ => ⟨S2x4x8448x8192x4, .f32⟩
  | .hbm, ⟨39, _⟩ => ⟨S2x4x4x8192x8448, .f32⟩
  | .hbm, ⟨40, _⟩ => ⟨S_, .f32⟩
  | .hbm, ⟨41, _⟩ => ⟨S_, .f32⟩
  | .hbm, ⟨42, _⟩ => ⟨S2x4x4x8192x8448, .f32⟩
  | .hbm, ⟨43, _⟩ => ⟨S2x4x4x8192x8448, .f32⟩
  | .hbm, ⟨44, _⟩ => ⟨S_, .f32⟩
  | .hbm, ⟨45, _⟩ => ⟨S2x4x4x8192, .f32⟩
  | .hbm, ⟨46, _⟩ => ⟨S_, .f32⟩
  | .hbm, ⟨47, _⟩ => ⟨S2x4x4x8192, .f32⟩
  | .hbm, ⟨48, _⟩ => ⟨S2x4x4x8192, .f32⟩
  | .hbm, ⟨49, _⟩ => ⟨S2x4x4x8192x1, .f32⟩
  | .hbm, ⟨50, _⟩ => ⟨S2x4x4x8192x8448, .f32⟩
  | .hbm, ⟨51, _⟩ => ⟨S2x4x4x8192x8448, .f32⟩
  | .hbm, ⟨52, _⟩ => ⟨S2x4x4x8192x8448, .f32⟩
  | .hbm, ⟨53, _⟩ => ⟨S_, .f32⟩
  | .hbm, ⟨54, _⟩ => ⟨S2x4x4x8192, .f32⟩
  | .hbm, ⟨55, _⟩ => ⟨S2x4x4x8192x1, .f32⟩
  | .hbm, ⟨56, _⟩ => ⟨S2x4x4x8192x8448, .f32⟩
  | .hbm, ⟨57, _⟩ => ⟨S2x4x4x8192x8448, .f32⟩
  | .hbm, ⟨58, _⟩ => ⟨S2x4x4x8192x8448, .bf16⟩
  | .hbm, ⟨59, _⟩ => ⟨S2x4x128x4x8192, .f32⟩
  | .hbm, ⟨60, _⟩ => ⟨S2x8192x4x4x128, .f32⟩
  | .hbm, ⟨61, _⟩ => ⟨S2x8192x4x4x128, .bf16⟩
  | .hbm, ⟨62, _⟩ => ⟨S2x8448x4x4x128, .bf16⟩
  | .hbm, ⟨63, _⟩ => ⟨S2x8448x2048, .bf16⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Kernel2.lean ====
abbrev S2x8448x2048 : Shape := ⟨3, ![2, 8448, 2048]⟩
abbrev S2x8x12288 : Shape := ⟨3, ![2, 8, 12288]⟩
abbrev S2048 : Shape := ⟨1, ![2048]⟩
abbrev S2x2048x19456 : Shape := ⟨3, ![2, 2048, 19456]⟩
abbrev S1x2048 : Shape := ⟨2, ![1, 2048]⟩
abbrev S2x8448x19456 : Shape := ⟨3, ![2, 8448, 19456]⟩
abbrev S1x1056x2048 : Shape := ⟨3, ![1, 1056, 2048]⟩
abbrev S1x8x2048 : Shape := ⟨3, ![1, 8, 2048]⟩
abbrev S1x2048x1024 : Shape := ⟨3, ![1, 2048, 1024]⟩
abbrev S1x1056x1024 : Shape := ⟨3, ![1, 1056, 1024]⟩
abbrev S1056x2048 : Shape := ⟨2, ![1056, 2048]⟩
abbrev S1x352x2048 : Shape := ⟨3, ![1, 352, 2048]⟩
abbrev S352x2048 : Shape := ⟨2, ![352, 2048]⟩
abbrev S352 : Shape := ⟨1, ![352]⟩
abbrev S352x1 : Shape := ⟨2, ![352, 1]⟩
abbrev S1x1x2048 : Shape := ⟨3, ![1, 1, 2048]⟩
abbrev S2048x1024 : Shape := ⟨2, ![2048, 1024]⟩
abbrev S1056x1024 : Shape := ⟨2, ![1056, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2x8448x2048, .f32⟩
  | .hbm, ⟨1, _⟩ => ⟨S2x8x12288, .f32⟩
  | .hbm, ⟨2, _⟩ => ⟨S2048, .f32⟩
  | .hbm, ⟨3, _⟩ => ⟨S2x2048x19456, .bf16⟩
  | .hbm, ⟨4, _⟩ => ⟨S1x2048, .f32⟩
  | .hbm, ⟨5, _⟩ => ⟨S2x8448x19456, .bf16⟩
  | .local _ .vmem, ⟨0, _⟩ => ⟨S1x1056x2048, .f32⟩
  | .local _ .vmem, ⟨1, _⟩ => ⟨S1x1056x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x2048, .f32⟩
  | .local _ .vmem, ⟨5, _⟩ => ⟨S1x2048x1024, .bf16⟩
  | .local _ .vmem, ⟨6, _⟩ => ⟨S1x2048x1024, .bf16⟩
  | .local _ .vmem, ⟨7, _⟩ => ⟨S1x1056x1024, .bf16⟩
  | .local _ .vmem, ⟨8, _⟩ => ⟨S1x1056x1024, .bf16⟩
  | .local _ .vmem, ⟨9, _⟩ => ⟨S1056x2048, .bf16⟩
  | _, _ => ⟨S2x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![2, 8, 19], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c3_i32 : BitVec 32 := 3#32
  let v11 : BitVec 32 := Scalar.addi c0_i32_8 c3_i32
  let c1_i32 : BitVec 32 := 1#32
  ⟨c0_i32_8, v11, c1_i32⟩
def k0_mult1 (k0_t1 : Fin k0_t1_loop.trips) : BitVec 32 :=
  let c0_i32_8 : BitVec 32 := 0#32
  let c1_i32 : BitVec 32 := 1#32
  let arg10 : BitVec 32 := Scf.iv c0_i32_8 c1_i32 k0_t1
  let c352_i32 : BitVec 32 := 352#32
  let v12 : BitVec 32 := Scalar.muli arg10 c352_i32
  v12
def k0_off1 (k0_t1 : Fin k0_t1_loop.trips) : Fin 3 → Nat :=
  let c0_10 : Index := 0#32
  let c0_i32_8 : BitVec 32 := 0#32
  let c1_i32 : BitVec 32 := 1#32
  let arg10 : BitVec 32 := Scf.iv c0_i32_8 c1_i32 k0_t1
  let c352_i32 : BitVec 32 := 352#32
  let v12 : BitVec 32 := Scalar.muli arg10 c352_i32
  let v13 : BitVec 32 := v12
  let v14 : Index := Scalar.indexCast v13
  let c0_11 : Index := 0#32
  ![0, v14.toNat, 0]
def k0_off2 (i : grid0.Coords) : Fin 3 → Nat :=
  let c0_19 : Index := 0#32
  let arg0 : BitVec 32 := BitVec.ofNat 32 (i 0).val
  let v40 : Index := Scalar.indexCast arg0
  let c0_20 : Index := 0#32
  ![0, v40.toNat, 0]
def k0_off3 (k0_t1 : Fin k0_t1_loop.trips) : Fin 2 → Nat :=
  let c0_i32_8 : BitVec 32 := 0#32
  let c1_i32 : BitVec 32 := 1#32
  let arg10 : BitVec 32 := Scf.iv c0_i32_8 c1_i32 k0_t1
  let c352_i32 : BitVec 32 := 352#32
  let v12 : BitVec 32 := Scalar.muli arg10 c352_i32
  let v13 : BitVec 32 := v12
  let v67 : Index := Scalar.indexCast v13
  let c0_27 : Index := 0#32
  ![v67.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1056x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1056x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S2x8448x2048 : Shape := ⟨3, ![2, 8448, 2048]⟩
abbrev S2x8x12288 : Shape := ⟨3, ![2, 8, 12288]⟩
abbrev S2048 : Shape := ⟨1, ![2048]⟩
abbrev S2x2048x19456 : Shape := ⟨3, ![2, 2048, 19456]⟩
abbrev S1x2x12288 : Shape := ⟨3, ![1, 2, 12288]⟩
abbrev S2x12288 : Shape := ⟨2, ![2, 12288]⟩
abbrev S2x1x12288 : Shape := ⟨3, ![2, 1, 12288]⟩
abbrev S1x1x12288 : Shape := ⟨3, ![1, 1, 12288]⟩
abbrev S12288 : Shape := ⟨1, ![12288]⟩
abbrev S2x256x2048 : Shape := ⟨3, ![2, 256, 2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x8192x2048 : Shape := ⟨3, ![2, 8192, 2048]⟩
abbrev S2x8192 : Shape := ⟨2, ![2, 8192]⟩
abbrev S2x8192x1 : Shape := ⟨3, ![2, 8192, 1]⟩
abbrev S2x1x2048 : Shape := ⟨3, ![2, 1, 2048]⟩
abbrev S1x2048x19456 : Shape := ⟨3, ![1, 2048, 19456]⟩
abbrev S2048x19456 : Shape := ⟨2, ![2048, 19456]⟩
abbrev S2x256x19456 : Shape := ⟨3, ![2, 256, 19456]⟩
abbrev S2x8192x19456 : Shape := ⟨3, ![2, 8192, 19456]⟩
abbrev S2x8448x19456 : Shape := ⟨3, ![2, 8448, 19456]⟩

abbrev nBuf : Space → Nat
  | .hbm => 70
  | .vmem => 0
  | .smem => 0
  | _ => 0

abbrev bufTy : (tb : Table) → Fin (tcTables nBuf tb) → BufTy
  | .hbm, ⟨0, _⟩ => ⟨S2x8448x2048, .f32⟩
  | .hbm, ⟨1, _⟩ => ⟨S2x8x12288, .f32⟩
  | .hbm, ⟨2, _⟩ => ⟨S2048, .f32⟩
  | .hbm, ⟨3, _⟩ => ⟨S2x2048x19456, .bf16⟩
  | .hbm, ⟨4, _⟩ => ⟨S1x2x12288, .f32⟩
  | .hbm, ⟨5, _⟩ => ⟨S2x12288, .f32⟩
  | .hbm, ⟨6, _⟩ => ⟨S2x1x12288, .f32⟩
  | .hbm, ⟨7, _⟩ => ⟨S1x1x12288, .f32⟩
  | .hbm, ⟨8, _⟩ => ⟨S12288, .f32⟩
  | .hbm, ⟨9, _⟩ => ⟨S2x256x2048, .f32⟩
  | .hbm, ⟨10, _⟩ => ⟨S2x256x2048, .f32⟩
  | .hbm, ⟨11, _⟩ => ⟨S_, .f32⟩
  | .hbm, ⟨12, _⟩ => ⟨S2x256, .f32⟩
  | .hbm, ⟨13, _⟩ => ⟨S2x256x1, .f32⟩
  | .hbm, ⟨14, _⟩ => ⟨S_, .f32⟩
  | .hbm, ⟨15, _⟩ => ⟨S2x256x1, .f32⟩
  | .hbm, ⟨16, _⟩ => ⟨S2x256x1, .f32⟩
  | .hbm, ⟨17, _⟩ => ⟨S_, .f32⟩
  | .hbm, ⟨18, _⟩ => ⟨S2x256x1, .f32⟩
  | .hbm, ⟨19, _⟩ => ⟨S2x256x1, .f32⟩
  | .hbm, ⟨20, _⟩ => ⟨S2x256x1, .f32⟩
  | .hbm, ⟨21, _⟩ => ⟨S2x256x2048, .f32⟩
  | .hbm, ⟨22, _⟩ => ⟨S2x256x2048, .f32⟩
  | .hbm, ⟨23, _⟩ => ⟨S1x1x2048, .f32⟩
  | .hbm, ⟨24, _⟩ => ⟨S2x256x2048, .f32⟩
  | .hbm, ⟨25, _⟩ => ⟨S2x256x2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S1x1x2048, .f32⟩
  | .hbm, ⟨32, _⟩ => ⟨S2x256x2048, .f32⟩
  | .hbm, ⟨33, _⟩ => ⟨S2x256x2048, .f32⟩
  | .hbm, ⟨34, _⟩ => ⟨S1x1x2048, .f32⟩
  | .hbm, ⟨35, _⟩ => ⟨S2x256x2048, .f32⟩
  | .hbm, ⟨36, _⟩ => ⟨S2x256x2048, .f32⟩
  | .hbm, ⟨37, _⟩ => ⟨S2x8192x2048, .f32⟩
  | .hbm, ⟨38, _⟩ => ⟨S2x8192x2048, .f32⟩
  | .hbm, ⟨39, _⟩ => ⟨S_, .f32⟩
  | .hbm, ⟨40, _⟩ => ⟨S2x8192, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1, .f32⟩
  | .hbm, ⟨49, _⟩ => ⟨S2x8192x2048, .f32⟩
  | .hbm, ⟨50, _⟩ => ⟨S2x8192x2048, .f32⟩
  | .hbm, ⟨51, _⟩ => ⟨S1x1x2048, .f32⟩
  | .hbm, ⟨52, _⟩ => ⟨S2x8192x2048, .f32⟩
  | .hbm, ⟨53, _⟩ => ⟨S2x8192x2048, .f32⟩
  | .hbm, ⟨54, _⟩ => ⟨S2x1x2048, .f32⟩
  | .hbm, ⟨55, _⟩ => ⟨S2x1x2048, .f32⟩
  | .hbm, ⟨56, _⟩ => ⟨S_, .f32⟩
  | .hbm, ⟨57, _⟩ => ⟨S2x1x2048, .f32⟩
  | .hbm, ⟨58, _⟩ => ⟨S2x1x2048, .f32⟩
  | .hbm, ⟨59, _⟩ => ⟨S2x8192x2048, .f32⟩
  | .hbm, ⟨60, _⟩ => ⟨S2x8192x2048, .f32⟩
  | .hbm, ⟨61, _⟩ => ⟨S2x8192x2048, .f32⟩
  | .hbm, ⟨62, _⟩ => ⟨S2x8192x2048, .f32⟩
  | .hbm, ⟨63, _⟩ => ⟨S1x2048x19456, .bf16⟩
  | .hbm, ⟨64, _⟩ => ⟨S2048x19456, .bf16⟩
  | .hbm, ⟨65, _⟩ => ⟨S2048x19456, .f32⟩
  | .hbm, ⟨66, _⟩ => ⟨S2x256x19456, .f32⟩
  | .hbm, ⟨67, _⟩ => ⟨S2x8192x19456, .f32⟩
  | .hbm, ⟨68, _⟩ => ⟨S2x8448x19456, .f32⟩
  | .hbm, ⟨69, _⟩ => ⟨S2x8448x19456, .bf16⟩
  | _, _ => ⟨S2x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Kernel3.lean ====
abbrev S2x8448x2048 : Shape := ⟨3, ![2, 8448, 2048]⟩
abbrev S2x8448x19456 : Shape := ⟨3, ![2, 8448, 19456]⟩
abbrev S2x2048x2048 : Shape := ⟨3, ![2, 2048, 2048]⟩
abbrev S1x768x2048 : Shape := ⟨3, ![1, 768, 2048]⟩
abbrev S1x768x512 : Shape := ⟨3, ![1, 768, 512]⟩
abbrev S1x2048x512 : Shape := ⟨3, ![1, 2048, 512]⟩
abbrev S768x512 : Shape := ⟨2, ![768, 512]⟩
abbrev S768x2048 : Shape := ⟨2, ![768, 2048]⟩
abbrev S2048x512 : Shape := ⟨2, ![2048, 512]⟩

abbrev nBuf : Space → Nat
  | .hbm => 8
  | .vmem => 20
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x2048, .bf16⟩
  | .hbm, ⟨2, _⟩ => ⟨S2x8448x2048, .bf16⟩
  | .hbm, ⟨3, _⟩ => ⟨S2x8448x19456, .bf16⟩
  | .hbm, ⟨4, _⟩ => ⟨S2x2048x2048, .bf16⟩
  | .hbm, ⟨5, _⟩ => ⟨S2x2048x2048, .bf16⟩
  | .hbm, ⟨6, _⟩ => ⟨S2x2048x2048, .bf16⟩
  | .hbm, ⟨7, _⟩ => ⟨S2x8448x2048, .bf16⟩
  | .local _ .vmem, ⟨0, _⟩ => ⟨S1x768x2048, .bf16⟩
  | .local _ .vmem, ⟨1, _⟩ => ⟨S1x768x2048, .bf16⟩
  | .local _ .vmem, ⟨2, _⟩ => ⟨S1x768x2048, .bf16⟩
  | .local _ .vmem, ⟨3, _⟩ => ⟨S1x768x2048, .bf16⟩
  | .local _ .vmem, ⟨4, _⟩ => ⟨S1x768x2048, .bf16⟩
  | .local _ .vmem, ⟨5, _⟩ => ⟨S1x768x2048, .bf16⟩
  | .local _ .vmem, ⟨6, _⟩ => ⟨S1x768x512, .bf16⟩
  | .local _ .vmem, ⟨7, _⟩ => ⟨S1x768x512, .bf16⟩
  | .local _ .vmem, ⟨8, _⟩ => ⟨S1x768x512, .bf16⟩
  | .local _ .vmem, ⟨9, _⟩ => ⟨S1x768x512, .bf16⟩
  | .local _ .vmem, ⟨10, _⟩ => ⟨S1x768x512, .bf16⟩
  | .local _ .vmem, ⟨11, _⟩ => ⟨S1x768x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S1x2048x512, .bf16⟩
  | .local _ .vmem, ⟨17, _⟩ => ⟨S1x2048x512, .bf16⟩
  | .local _ .vmem, ⟨18, _⟩ => ⟨S1x768x512, .bf16⟩
  | .local _ .vmem, ⟨19, _⟩ => ⟨S1x768x512, .bf16⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 11, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.addi c26_i32 arg2
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c30_i32 : BitVec 32 := 30#32
  let v0 : BitVec 32 := Scalar.addi c30_i32 arg2
  let c0_i32 : BitVec 32 := 0#32
  ![arg0.toNat, arg1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.addi c34_i32 arg2
  let c0_i32 : BitVec 32 := 0#32
  ![arg0.toNat, arg1.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference3Ideal.lean ====
abbrev S2x8448x2048 : Shape := ⟨3, ![2, 8448, 2048]⟩
abbrev S2x8448x19456 : Shape := ⟨3, ![2, 8448, 19456]⟩
abbrev S2x2048x2048 : Shape := ⟨3, ![2, 2048, 2048]⟩
abbrev S2x8448x6144 : Shape := ⟨3, ![2, 8448, 6144]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x2048, .bf16⟩
  | .hbm, ⟨2, _⟩ => ⟨S2x8448x2048, .bf16⟩
  | .hbm, ⟨3, _⟩ => ⟨S2x8448x19456, .bf16⟩
  | .hbm, ⟨4, _⟩ => ⟨S2x2048x2048, .bf16⟩
  | .hbm, ⟨5, _⟩ => ⟨S2x2048x2048, .bf16⟩
  | .hbm, ⟨6, _⟩ => ⟨S2x2048x2048, .bf16⟩
  | .hbm, ⟨7, _⟩ => ⟨S2x8448x6144, .bf16⟩
  | .hbm, ⟨8, _⟩ => ⟨S2x8448x6144, .f32⟩
  | .hbm, ⟨9, _⟩ => ⟨S2x8448x6144, .f32⟩
  | .hbm, ⟨10, _⟩ => ⟨S2x8448x6144, .f32⟩
  | .hbm, ⟨11, _⟩ => ⟨S_, .f32⟩
  | .hbm, ⟨12, _⟩ => ⟨S2x8448x6144, .f32⟩
  | .hbm, ⟨13, _⟩ => ⟨S2x8448x6144, .f32⟩
  | .hbm, ⟨14, _⟩ => ⟨S_, .f32⟩
  | .hbm, ⟨15, _⟩ => ⟨S2x8448x6144, .f32⟩
  | .hbm, ⟨16, _⟩ => ⟨S2x8448x6144, .f32⟩
  | .hbm, ⟨17, _⟩ => ⟨S2x8448x2048, .f32⟩
  | .hbm, ⟨18, _⟩ => ⟨S2x8448x2048, .f32⟩
  | .hbm, ⟨19, _⟩ => ⟨S2x8448x2048, .f32⟩
  | .hbm, ⟨20, _⟩ => ⟨S2x8448x2048, .f32⟩
  | .hbm, ⟨21, _⟩ => ⟨S1x2048x2048, .bf16⟩
  | .hbm, ⟨22, _⟩ => ⟨S2048x2048, .bf16⟩
  | .hbm, ⟨23, _⟩ => ⟨S2048x2048, .f32⟩
  | .hbm, ⟨24, _⟩ => ⟨S2x8448x2048, .f32⟩
  | .hbm, ⟨25, _⟩ => ⟨S2x8448x2048, .f32⟩
  | .hbm, ⟨26, _⟩ => ⟨S2x8448x2048, .f32⟩
  | .hbm, ⟨27, _⟩ => ⟨S1x2048x2048, .bf16⟩
  | .hbm, ⟨28, _⟩ => ⟨S2048x2048, .bf16⟩
  | .hbm, ⟨29, _⟩ => ⟨S2048x2048, .f32⟩
  | .hbm, ⟨30, _⟩ => ⟨S2x8448x2048, .f32⟩
  | .hbm, ⟨31, _⟩ => ⟨S2x8448x2048, .f32⟩
  | .hbm, ⟨32, _⟩ => ⟨S2x8448x2048, .f32⟩
  | .hbm, ⟨33, _⟩ => ⟨S2x8448x2048, .f32⟩
  | .hbm, ⟨34, _⟩ => ⟨S1x2048x2048, .bf16⟩
  | .hbm, ⟨35, _⟩ => ⟨S2048x2048, .bf16⟩
  | .hbm, ⟨36, _⟩ => ⟨S2048x2048, .f32⟩
  | .hbm, ⟨37, _⟩ => ⟨S2x8448x2048, .f32⟩
  | .hbm, ⟨38, _⟩ => ⟨S2x8448x2048, .f32⟩
  | .hbm, ⟨39, _⟩ => ⟨S2x8448x2048, .f32⟩
  | .hbm, ⟨40, _⟩ => ⟨S2x8448x2048, .bf16⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel4.lean ====
abbrev S2x8448x2048 : Shape := ⟨3, ![2, 8448, 2048]⟩
abbrev S2x2048x2048 : Shape := ⟨3, ![2, 2048, 2048]⟩
abbrev S2x8x12288 : Shape := ⟨3, ![2, 8, 12288]⟩
abbrev S2048 : Shape := ⟨1, ![2048]⟩
abbrev S1x2048 : Shape := ⟨2, ![1, 2048]⟩
abbrev S2x2048x8448 : Shape := ⟨3, ![2, 2048, 8448]⟩
abbrev S1x384x2048 : Shape := ⟨3, ![1, 384, 2048]⟩
abbrev S1x2048x2048 : Shape := ⟨3, ![1, 2048, 2048]⟩
abbrev S1x8x2048 : Shape := ⟨3, ![1, 8, 2048]⟩
abbrev S1x2048x384 : Shape := ⟨3, ![1, 2048, 384]⟩
abbrev S384x1 : Shape := ⟨2, ![384, 1]⟩
abbrev S384x2048 : Shape := ⟨2, ![384, 2048]⟩
abbrev S2048x2048 : Shape := ⟨2, ![2048, 2048]⟩
abbrev S1x1x2048 : Shape := ⟨3, ![1, 1, 2048]⟩
abbrev S384 : Shape := ⟨1, ![384]⟩
abbrev S2048x384 : Shape := ⟨2, ![2048, 384]⟩

abbrev nBuf : Space → Nat
  | .hbm => 8
  | .vmem => 13
  | .smem => 0
  | _ => 0

abbrev bufTy : (tb : Table) → Fin (tcTables nBuf tb) → BufTy
  | .hbm, ⟨0, _⟩ => ⟨S2x8448x2048, .bf16⟩
  | .hbm, ⟨1, _⟩ => ⟨S2x2048x2048, .bf16⟩
  | .hbm, ⟨2, _⟩ => ⟨S2x8448x2048, .f32⟩
  | .hbm, ⟨3, _⟩ => ⟨S2x8x12288, .f32⟩
  | .hbm, ⟨4, _⟩ => ⟨S2048, .f32⟩
  | .hbm, ⟨5, _⟩ => ⟨S1x2048, .f32⟩
  | .hbm, ⟨6, _⟩ => ⟨S2x8448x2048, .f32⟩
  | .hbm, ⟨7, _⟩ => ⟨S2x2048x8448, .bf16⟩
  | .local _ .vmem, ⟨0, _⟩ => ⟨S1x384x2048, .bf16⟩
  | .local _ .vmem, ⟨1, _⟩ => ⟨S1x384x2048, .bf16⟩
  | .local _ .vmem, ⟨2, _⟩ => ⟨S1x2048x2048, .bf16⟩
  | .local _ .vmem, ⟨3, _⟩ => ⟨S1x384x2048, .f32⟩
  | .local _ .vmem, ⟨4, _⟩ => ⟨S1x384x2048, .f32⟩
  | .local _ .vmem, ⟨5, _⟩ => ⟨S1x8x2048, .f32⟩
  | .local _ .vmem, ⟨6, _⟩ => ⟨S1x8x2048, .f32⟩
  | .local _ .vmem, ⟨7, _⟩ => ⟨S1x8x2048, .f32⟩
  | .local _ .vmem, ⟨8, _⟩ => ⟨S1x2048, .f32⟩
  | .local _ .vmem, ⟨9, _⟩ => ⟨S1x384x2048, .f32⟩
  | .local _ .vmem, ⟨10, _⟩ => ⟨S1x384x2048, .f32⟩
  | .local _ .vmem, ⟨11, _⟩ => ⟨S1x2048x384, .bf16⟩
  | .local _ .vmem, ⟨12, _⟩ => ⟨S1x2048x384, .bf16⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 22], ![false, false]⟩

def k0_off1 (i : grid0.Coords) : Fin 3 → Nat :=
  let c0_10 : Index := 0#32
  let arg0 : BitVec 32 := BitVec.ofNat 32 (i 0).val
  let v15 : Index := Scalar.indexCast arg0
  let c0_11 : Index := 0#32
  ![0, v15.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x384x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S2x8448x2048 : Shape := ⟨3, ![2, 8448, 2048]⟩
abbrev S2x2048x2048 : Shape := ⟨3, ![2, 2048, 2048]⟩
abbrev S2x8x12288 : Shape := ⟨3, ![2, 8, 12288]⟩
abbrev S2048 : Shape := ⟨1, ![2048]⟩
abbrev S1x1x2048 : Shape := ⟨3, ![1, 1, 2048]⟩
abbrev S1x2x2048 : Shape := ⟨3, ![1, 2, 2048]⟩
abbrev S2x2048 : Shape := ⟨2, ![2, 2048]⟩
abbrev S2x1x2048 : Shape := ⟨3, ![2, 1, 2048]⟩
abbrev S1x2048x2048 : Shape := ⟨3, ![1, 2048, 2048]⟩
abbrev S2048x2048 : Shape := ⟨2, ![2048, 2048]⟩
abbrev S2x256x2048 : Shape := ⟨3, ![2, 256, 2048]⟩
abbrev S2x8192x2048 : Shape := ⟨3, ![2, 8192, 2048]⟩
abbrev S_ : Shape := ⟨0, ![]⟩
abbrev S2x256 : Shape := ⟨2, ![2, 256]⟩
abbrev S2x256x1 : Shape := ⟨3, ![2, 256, 1]⟩
abbrev S2x8192 : Shape := ⟨2, ![2, 8192]⟩
abbrev S2x8192x1 : Shape := ⟨3, ![2, 8192, 1]⟩
abbrev S2x2048x8448 : Shape := ⟨3, ![2, 2048, 8448]⟩

abbrev nBuf : Space → Nat
  | .hbm => 90
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S2x2048x2048, .bf16⟩
  | .hbm, ⟨2, _⟩ => ⟨S2x8448x2048, .f32⟩
  | .hbm, ⟨3, _⟩ => ⟨S2x8x12288, .f32⟩
  | .hbm, ⟨4, _⟩ => ⟨S2048, .f32⟩
  | .hbm, ⟨5, _⟩ => ⟨S1x1x2048, .f32⟩
  | .hbm, ⟨6, _⟩ => ⟨S2048, .f32⟩
  | .hbm, ⟨7, _⟩ => ⟨S1x2x2048, .f32⟩
  | .hbm, ⟨8, _⟩ => ⟨S2x2048, .f32⟩
  | .hbm, ⟨9, _⟩ => ⟨S2x1x2048, .f32⟩
  | .hbm, ⟨10, _⟩ => ⟨S1x1x2048, .f32⟩
  | .hbm, ⟨11, _⟩ => ⟨S2048, .f32⟩
  | .hbm, ⟨12, _⟩ => ⟨S1x2x2048, .f32⟩
  | .hbm, ⟨13, _⟩ => ⟨S2x2048, .f32⟩
  | .hbm, ⟨14, _⟩ => ⟨S2x1x2048, .f32⟩
  | .hbm, ⟨15, _⟩ => ⟨S1x1x2048, .f32⟩
  | .hbm, ⟨16, _⟩ => ⟨S2048, .f32⟩
  | .hbm, ⟨17, _⟩ => ⟨S1x2x2048, .f32⟩
  | .hbm, ⟨18, _⟩ => ⟨S2x2048, .f32⟩
  | .hbm, ⟨19, _⟩ => ⟨S2x1x2048, .f32⟩
  | .hbm, ⟨20, _⟩ => ⟨S1x2048x2048, .bf16⟩
  | .hbm, ⟨21, _⟩ => ⟨S2048x2048, .bf16⟩
  | .hbm, ⟨22, _⟩ => ⟨S2048x2048, .f32⟩
  | .hbm, ⟨23, _⟩ => ⟨S2x256x2048, .f32⟩
  | .hbm, ⟨24, _⟩ => ⟨S2x256x2048, .bf16⟩
  | .hbm, ⟨25, _⟩ => ⟨S2x256x2048, .f32⟩
  | .hbm, ⟨26, _⟩ => ⟨S2x256x2048, .f32⟩
  | .hbm, ⟨27, _⟩ => ⟨S1x1x2048, .f32⟩
  | .hbm, ⟨28, _⟩ => ⟨S2x256x2048, .f32⟩
  | .hbm, ⟨29, _⟩ => ⟨S2x256x2048, .f32⟩
  | .hbm, ⟨30, _⟩ => ⟨S2x256x2048, .f32⟩
  | .hbm, ⟨31, _⟩ => ⟨S2x8192x2048, .f32⟩
  | .hbm, ⟨32, _⟩ => ⟨S2x8192x2048, .bf16⟩
  | .hbm, ⟨33, _⟩ => ⟨S2x8192x2048, .f32⟩
  | .hbm, ⟨34, _⟩ => ⟨S2x8192x2048, .f32⟩
  | .hbm, ⟨35, _⟩ => ⟨S2x8192x2048, .f32⟩
  | .hbm, ⟨36, _⟩ => ⟨S2x8192x2048, .f32⟩
  | .hbm, ⟨37, _⟩ => ⟨S2x8192x2048, .f32⟩
  | .hbm, ⟨38, _⟩ => ⟨S2x256x2048, .f32⟩
  | .hbm, ⟨39, _⟩ => ⟨S_, .f32⟩
  | .hbm, ⟨40, _⟩ => ⟨S2x256, .f32⟩
  | .hbm, ⟨41, _⟩ => ⟨S2x256x1, .f32⟩
  | .hbm, ⟨42, _⟩ => ⟨S_, .f32⟩
  | .hbm, ⟨43, _⟩ => ⟨S2x256x1, .f32⟩
  | .hbm, ⟨44, _⟩ => ⟨S2x256x1, .f32⟩
  | .hbm, ⟨45, _⟩ => ⟨S_, .f32⟩
  | .hbm, ⟨46, _⟩ => ⟨S2x256x1, .f32⟩
  | .hbm, ⟨47, _⟩ => ⟨S2x256x1, .f32⟩
  | .hbm, ⟨48, _⟩ => ⟨S2x256x1, .f32⟩
  | .hbm, ⟨49, _⟩ => ⟨S2x256x2048, .f32⟩
  | .hbm, ⟨50, _⟩ => ⟨S2x256x2048, .f32⟩
  | .hbm, ⟨51, _⟩ => ⟨S1x1x2048, .f32⟩
  | .hbm, ⟨52, _⟩ => ⟨S2x256x2048, .f32⟩
  | .hbm, ⟨53, _⟩ => ⟨S2x256x2048, .f32⟩
  | .hbm, ⟨54, _⟩ => ⟨S_, .f32⟩
  | .hbm, ⟨55, _⟩ => ⟨S2048, .f32⟩
  | .hbm, ⟨56, _⟩ => ⟨S2048, .f32⟩
  | .hbm, ⟨57, _⟩ => ⟨S1x1x2048, .f32⟩
  | .hbm, ⟨58, _⟩ => ⟨S2x256x2048, .f32⟩
  | .hbm, ⟨59, _⟩ => ⟨S2x256x2048, .f32⟩
  | .hbm, ⟨60, _⟩ => ⟨S1x1x2048, .f32⟩
  | .hbm, ⟨61, _⟩ => ⟨S2x256x2048, .f32⟩
  | .hbm, ⟨62, _⟩ => ⟨S2x256x2048, .f32⟩
  | .hbm, ⟨63, _⟩ => ⟨S2x8192x2048, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x2048, .f32⟩
  | .hbm, ⟨75, _⟩ => ⟨S2x8192x2048, .f32⟩
  | .hbm, ⟨76, _⟩ => ⟨S1x1x2048, .f32⟩
  | .hbm, ⟨77, _⟩ => ⟨S2x8192x2048, .f32⟩
  | .hbm, ⟨78, _⟩ => ⟨S2x8192x2048, .f32⟩
  | .hbm, ⟨79, _⟩ => ⟨S_, .f32⟩
  | .hbm, ⟨80, _⟩ => ⟨S2x1x2048, .f32⟩
  | .hbm, ⟨81, _⟩ => ⟨S2x1x2048, .f32⟩
  | .hbm, ⟨82, _⟩ => ⟨S2x8192x2048, .f32⟩
  | .hbm, ⟨83, _⟩ => ⟨S2x8192x2048, .f32⟩
  | .hbm, ⟨84, _⟩ => ⟨S2x8192x2048, .f32⟩
  | .hbm, ⟨85, _⟩ => ⟨S2x8192x2048, .f32⟩
  | .hbm, ⟨86, _⟩ => ⟨S2x8448x2048, .f32⟩
  | .hbm, ⟨87, _⟩ => ⟨S2x8448x2048, .f32⟩
  | .hbm, ⟨88, _⟩ => ⟨S2x2048x8448, .f32⟩
  | .hbm, ⟨89, _⟩ => ⟨S2x2048x8448, .bf16⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_cst_1 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_2 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_3 : Ref sig .tc := ⟨.hbm, 64, rfl⟩
abbrev main_v55 : Ref sig .tc := ⟨.hbm, 65, rfl⟩
abbrev main_v56 : Ref sig .tc := ⟨.hbm, 66, rfl⟩
abbrev main_cst_4 : Ref sig .tc := ⟨.hbm, 67, rfl⟩
abbrev main_v57 : Ref sig .tc := ⟨.hbm, 68, rfl⟩
abbrev main_v58 : Ref sig .tc := ⟨.hbm, 69, rfl⟩
abbrev main_cst_5 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_6 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩

abbrev nD : Nat := 1
abbrev τ : Topo := Topo.v7x

variable {F : FTy → Type} [FloatOps F]
-- ==== Kernel5.lean ====
abbrev S2x8448x19456 : Shape := ⟨3, ![2, 8448, 19456]⟩
abbrev S3x2048 : Shape := ⟨2, ![3, 2048]⟩
abbrev S2048 : Shape := ⟨1, ![2048]⟩
abbrev S1x2048 : Shape := ⟨2, ![1, 2048]⟩
abbrev S2x8448x2048 : Shape := ⟨3, ![2, 8448, 2048]⟩
abbrev S1x768x512 : Shape := ⟨3, ![1, 768, 512]⟩
abbrev S1x8x512 : Shape := ⟨3, ![1, 8, 512]⟩
abbrev S3x512 : Shape := ⟨2, ![3, 512]⟩
abbrev S1x512 : Shape := ⟨2, ![1, 512]⟩
abbrev S768x512 : Shape := ⟨2, ![768, 512]⟩
abbrev S8x512 : Shape := ⟨2, ![8, 512]⟩
abbrev S768x1 : Shape := ⟨2, ![768, 1]⟩

abbrev nBuf : Space → Nat
  | .hbm => 5
  | .vmem => 20
  | .smem => 0
  | _ => 0

abbrev bufTy : (tb : Table) → Fin (tcTables nBuf tb) → BufTy
  | .hbm, ⟨0, _⟩ => ⟨S2x8448x19456, .bf16⟩
  | .hbm, ⟨1, _⟩ => ⟨S3x2048, .f32⟩
  | .hbm, ⟨2, _⟩ => ⟨S2048, .f32⟩
  | .hbm, ⟨3, _⟩ => ⟨S1x2048, .f32⟩
  | .hbm, ⟨4, _⟩ => ⟨S2x8448x2048, .bf16⟩
  | .local _ .vmem, ⟨0, _⟩ => ⟨S1x768x512, .bf16⟩
  | .local _ .vmem, ⟨1, _⟩ => ⟨S1x768x512, .bf16⟩
  | .local _ .vmem, ⟨2, _⟩ => ⟨S1x768x512, .bf16⟩
  | .local _ .vmem, ⟨3, _⟩ => ⟨S1x768x512, .bf16⟩
  | .local _ .vmem, ⟨4, _⟩ => ⟨S1x768x512, .bf16⟩
  | .local _ .vmem, ⟨5, _⟩ => ⟨S1x768x512, .bf16⟩
  | .local _ .vmem, ⟨6, _⟩ => ⟨S1x8x512, .bf16⟩
  | .local _ .vmem, ⟨7, _⟩ => ⟨S1x8x512, .bf16⟩
  | .local _ .vmem, ⟨8, _⟩ => ⟨S1x8x512, .bf16⟩
  | .local _ .vmem, ⟨9, _⟩ => ⟨S1x8x512, .bf16⟩
  | .local _ .vmem, ⟨10, _⟩ => ⟨S1x8x512, .bf16⟩
  | .local _ .vmem, ⟨11, _⟩ => ⟨S1x8x512, .bf16⟩
  | .local _ .vmem, ⟨12, _⟩ => ⟨S1x8x512, .bf16⟩
  | .local _ .vmem, ⟨13, _⟩ => ⟨S1x8x512, .bf16⟩
  | .local _ .vmem, ⟨14, _⟩ => ⟨S3x512, .f32⟩
  | .local _ .vmem, ⟨15, _⟩ => ⟨S3x512, .f32⟩
  | .local _ .vmem, ⟨16, _⟩ => ⟨S1x512, .f32⟩
  | .local _ .vmem, ⟨17, _⟩ => ⟨S1x512, .f32⟩
  | .local _ .vmem, ⟨18, _⟩ => ⟨S1x768x512, .bf16⟩
  | .local _ .vmem, ⟨19, _⟩ => ⟨S1x768x512, .bf16⟩
  | _, _ => ⟨S2x8448x19456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 11, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg2
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg2
  let c0_i32 : BitVec 32 := 0#32
  ![arg0.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.addi c22_i32 arg2
  let c0_i32 : BitVec 32 := 0#32
  ![arg0.toNat, arg1.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c96_i32 : BitVec 32 := 96#32
  let v0 : BitVec 32 := Scalar.muli arg1 c96_i32
  let c1_i32 : BitVec 32 := 1#32
  let v1 : BitVec 32 := Scalar.subi v0 c1_i32
  let c0_i32 : BitVec 32 := 0#32
  let v2 : BitVec 32 := Scalar.maxsi v1 c0_i32
  let c18_i32 : BitVec 32 := 18#32
  let v3 : BitVec 32 := Scalar.addi c18_i32 arg2
  let c0_i32_0 : BitVec 32 := 0#32
  ![arg0.toNat, v2.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c96_i32 : BitVec 32 := 96#32
  let v0 : BitVec 32 := Scalar.muli arg1 c96_i32
  let c1_i32 : BitVec 32 := 1#32
  let v1 : BitVec 32 := Scalar.subi v0 c1_i32
  let c0_i32 : BitVec 32 := 0#32
  let v2 : BitVec 32 := Scalar.maxsi v1 c0_i32
  let c22_i32 : BitVec 32 := 22#32
  let v3 : BitVec 32 := Scalar.addi c22_i32 arg2
  let c0_i32_0 : BitVec 32 := 0#32
  ![arg0.toNat, v2.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c96_i32 : BitVec 32 := 96#32
  let v1 : BitVec 32 := Scalar.muli v0 c96_i32
  let c1055_i32 : BitVec 32 := 1055#32
  let v2 : BitVec 32 := Scalar.minsi v1 c1055_i32
  let c18_i32 : BitVec 32 := 18#32
  let v3 : BitVec 32 := Scalar.addi c18_i32 arg2
  let c0_i32 : BitVec 32 := 0#32
  ![arg0.toNat, v2.toNat, v3.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c96_i32 : BitVec 32 := 96#32
  let v1 : BitVec 32 := Scalar.muli v0 c96_i32
  let c1055_i32 : BitVec 32 := 1055#32
  let v2 : BitVec 32 := Scalar.minsi v1 c1055_i32
  let c22_i32 : BitVec 32 := 22#32
  let v3 : BitVec 32 := Scalar.addi c22_i32 arg2
  let c0_i32 : BitVec 32 := 0#32
  ![arg0.toNat, v2.toNat, v3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference5Ideal.lean ====
abbrev S2x8448x19456 : Shape := ⟨3, ![2, 8448, 19456]⟩
abbrev S3x2048 : Shape := ⟨2, ![3, 2048]⟩
abbrev S2048 : Shape := ⟨1, ![2048]⟩
abbrev S2x8448x12288 : Shape := ⟨3, ![2, 8448, 12288]⟩
abbrev S2x8448x2048 : Shape := ⟨3, ![2, 8448, 2048]⟩
abbrev S2x8448x10240 : Shape := ⟨3, ![2, 8448, 10240]⟩
abbrev S2x8448x8192 : Shape := ⟨3, ![2, 8448, 8192]⟩
abbrev S2x256x2048 : Shape := ⟨3, ![2, 256, 2048]⟩
abbrev S_ : Shape := ⟨0, ![]⟩
abbrev S2x258x2048 : Shape := ⟨3, ![2, 258, 2048]⟩
abbrev S1x2048 : Shape := ⟨2, ![1, 2048]⟩
abbrev S1x1x2048 : Shape := ⟨3, ![1, 1, 2048]⟩
abbrev S2x8192x2048 : Shape := ⟨3, ![2, 8192, 2048]⟩
abbrev S2x8194x2048 : Shape := ⟨3, ![2, 8194, 2048]⟩

abbrev nBuf : Space → Nat
  | .hbm => 80
  | .vmem => 0
  | .smem => 0
  | _ => 0

abbrev bufTy : (tb : Table) → Fin (tcTables nBuf tb) → BufTy
  | .hbm, ⟨0, _⟩ => ⟨S2x8448x19456, .bf16⟩
  | .hbm, ⟨1, _⟩ => ⟨S3x2048, .f32⟩
  | .hbm, ⟨2, _⟩ => ⟨S2048, .f32⟩
  | .hbm, ⟨3, _⟩ => ⟨S2x8448x19456, .f32⟩
  | .hbm, ⟨4, _⟩ => ⟨S2x8448x12288, .f32⟩
  | .hbm, ⟨5, _⟩ => ⟨S2x8448x2048, .f32⟩
  | .hbm, ⟨6, _⟩ => ⟨S2x8448x10240, .f32⟩
  | .hbm, ⟨7, _⟩ => ⟨S2x8448x2048, .f32⟩
  | .hbm, ⟨8, _⟩ => ⟨S2x8448x8192, .f32⟩
  | .hbm, ⟨9, _⟩ => ⟨S2x8448x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .hbm, ⟨13, _⟩ => ⟨S2x256x2048, .f32⟩
  | .hbm, ⟨14, _⟩ => ⟨S_, .i32⟩
  | .hbm, ⟨15, _⟩ => ⟨S_, .f32⟩
  | .hbm, ⟨16, _⟩ => ⟨S2x258x2048, .f32⟩
  | .hbm, ⟨17, _⟩ => ⟨S1x2048, .f32⟩
  | .hbm, ⟨18, _⟩ => ⟨S2048, .f32⟩
  | .hbm, ⟨19, _⟩ => ⟨S2x256x2048, .f32⟩
  | .hbm, ⟨20, _⟩ => ⟨S1x1x2048, .f32⟩
  | .hbm, ⟨21, _⟩ => ⟨S2x256x2048, .f32⟩
  | .hbm, ⟨22, _⟩ => ⟨S2x256x2048, .f32⟩
  | .hbm, ⟨23, _⟩ => ⟨S_, .f32⟩
  | .hbm, ⟨24, _⟩ => ⟨S2x256x2048, .f32⟩
  | .hbm, ⟨25, _⟩ => ⟨S2x256x2048, .f32⟩
  | .hbm, ⟨26, _⟩ => ⟨S1x2048, .f32⟩
  | .hbm, ⟨27, _⟩ => ⟨S2048, .f32⟩
  | .hbm, ⟨28, _⟩ => ⟨S2x256x2048, .f32⟩
  | .hbm, ⟨29, _⟩ => ⟨S1x1x2048, .f32⟩
  | .hbm, ⟨30, _⟩ => ⟨S2x256x2048, .f32⟩
  | .hbm, ⟨31, _⟩ => ⟨S2x256x2048, .f32⟩
  | .hbm, ⟨32, _⟩ => ⟨S2x256x2048, .f32⟩
  | .hbm, ⟨33, _⟩ => ⟨S1x2048, .f32⟩
  | .hbm, ⟨34, _⟩ => ⟨S2048, .f32⟩
  | .hbm, ⟨35, _⟩ => ⟨S2x256x2048, .f32⟩
  | .hbm, ⟨36, _⟩ => ⟨S1x1x2048, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S1x1x2048, .f32⟩
  | .hbm, ⟨41, _⟩ => ⟨S2x256x2048, .f32⟩
  | .hbm, ⟨42, _⟩ => ⟨S2x256x2048, .f32⟩
  | .hbm, ⟨43, _⟩ => ⟨S2x256x2048, .f32⟩
  | .hbm, ⟨44, _⟩ => ⟨S2x8192x2048, .f32⟩
  | .hbm, ⟨45, _⟩ => ⟨S2x8192x2048, .f32⟩
  | .hbm, ⟨46, _⟩ => ⟨S2x8192x2048, .f32⟩
  | .hbm, ⟨47, _⟩ => ⟨S2x8192x2048, .f32⟩
  | .hbm, ⟨48, _⟩ => ⟨S_, .i32⟩
  | .hbm, ⟨49, _⟩ => ⟨S_, .f32⟩
  | .hbm, ⟨50, _⟩ => ⟨S2x8194x2048, .f32⟩
  | .hbm, ⟨51, _⟩ => ⟨S1x2048, .f32⟩
  | .hbm, ⟨52, _⟩ => ⟨S2048, .f32⟩
  | .hbm, ⟨53, _⟩ => ⟨S2x8192x2048, .f32⟩
  | .hbm, ⟨54, _⟩ => ⟨S1x1x2048, .f32⟩
  | .hbm, ⟨55, _⟩ => ⟨S2x8192x2048, .f32⟩
  | .hbm, ⟨56, _⟩ => ⟨S2x8192x2048, .f32⟩
  | .hbm, ⟨57, _⟩ => ⟨S_, .f32⟩
  | .hbm, ⟨58, _⟩ => ⟨S2x8192x2048, .f32⟩
  | .hbm, ⟨59, _⟩ => ⟨S2x8192x2048, .f32⟩
  | .hbm, ⟨60, _⟩ => ⟨S1x2048, .f32⟩
  | .hbm, ⟨61, _⟩ => ⟨S2048, .f32⟩
  | .hbm, ⟨62, _⟩ => ⟨S2x8192x2048, .f32⟩
  | .hbm, ⟨63, _⟩ => ⟨S1x1x2048, .f32⟩
  | .hbm, ⟨64, _⟩ => ⟨S2x8192x2048, .f32⟩
  | .hbm, ⟨65, _⟩ => ⟨S2x8192x2048, .f32⟩
  | .hbm, ⟨66, _⟩ => ⟨S2x8192x2048, .f32⟩
  | .hbm, ⟨67, _⟩ => ⟨S1x2048, .f32⟩
  | .hbm, ⟨68, _⟩ => ⟨S2048, .f32⟩
  | .hbm, ⟨69, _⟩ => ⟨S2x8192x2048, .f32⟩
  | .hbm, ⟨70, _⟩ => ⟨S1x1x2048, .f32⟩
  | .hbm, ⟨71, _⟩ => ⟨S2x8192x2048, .f32⟩
  | .hbm, ⟨72, _⟩ => ⟨S2x8192x2048, .f32⟩
  | .hbm, ⟨73, _⟩ => ⟨S2x8192x2048, .f32⟩
  | .hbm, ⟨74, _⟩ => ⟨S1x1x2048, .f32⟩
  | .hbm, ⟨75, _⟩ => ⟨S2x8192x2048, .f32⟩
  | .hbm, ⟨76, _⟩ => ⟨S2x8192x2048, .f32⟩
  | .hbm, ⟨77, _⟩ => ⟨S2x8192x2048, .f32⟩
  | .hbm, ⟨78, _⟩ => ⟨S2x8448x2048, .f32⟩
  | .hbm, ⟨79, _⟩ => ⟨S2x8448x2048, .bf16⟩
  | _, _ => ⟨S2x8448x19456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_c_0 : Ref sig .tc := ⟨.hbm, 48, rfl⟩
abbrev main_call1_v0 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_1 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩

abbrev nD : Nat := 1
abbrev τ : Topo := Topo.v7x

variable {F : FTy → Type} [FloatOps F]
-- ==== Kernel6.lean ====
abbrev S2x8448x2048 : Shape := ⟨3, ![2, 8448, 2048]⟩
abbrev S2x2048x8448 : Shape := ⟨3, ![2, 2048, 8448]⟩
abbrev S2x8x12288 : Shape := ⟨3, ![2, 8, 12288]⟩
abbrev S2x8192x2048 : Shape := ⟨3, ![2, 8192, 2048]⟩
abbrev S1x256x2048 : Shape := ⟨3, ![1, 256, 2048]⟩
abbrev S1x2048x256 : Shape := ⟨3, ![1, 2048, 256]⟩
abbrev S1x8x2048 : Shape := ⟨3, ![1, 8, 2048]⟩
abbrev S256x1 : Shape := ⟨2, ![256, 1]⟩
abbrev S256x2048 : Shape := ⟨2, ![256, 2048]⟩
abbrev S1x1x2048 : Shape := ⟨3, ![1, 1, 2048]⟩
abbrev S1x2048 : Shape := ⟨2, ![1, 2048]⟩
abbrev S2048x256 : Shape := ⟨2, ![2048, 256]⟩

abbrev nBuf : Space → Nat
  | .hbm => 4
  | .vmem => 7
  | .smem => 0
  | _ => 0

abbrev bufTy : (tb : Table) → Fin (tcTables nBuf tb) → BufTy
  | .hbm, ⟨0, _⟩ => ⟨S2x8448x2048, .f32⟩
  | .hbm, ⟨1, _⟩ => ⟨S2x2048x8448, .f32⟩
  | .hbm, ⟨2, _⟩ => ⟨S2x8x12288, .f32⟩
  | .hbm, ⟨3, _⟩ => ⟨S2x8192x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x8x2048, .f32⟩
  | .local _ .vmem, ⟨5, _⟩ => ⟨S1x256x2048, .f32⟩
  | .local _ .vmem, ⟨6, _⟩ => ⟨S1x256x2048, .f32⟩
  | _, _ => ⟨S2x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_off1 (i : grid0.Coords) : Fin 3 → Nat :=
  let c0_5 : Index := 0#32
  let arg0 : BitVec 32 := BitVec.ofNat 32 (i 0).val
  let v11 : Index := Scalar.indexCast arg0
  let c0_6 : Index := 0#32
  ![0, v11.toNat, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c5_i32 : BitVec 32 := 5#32
  let c0_i32_0 : BitVec 32 := 0#32
  ![c1_i32.toNat, c0_i32.toNat, c5_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2x8448x2048 : Shape := ⟨3, ![2, 8448, 2048]⟩
abbrev S2x2048x8448 : Shape := ⟨3, ![2, 2048, 8448]⟩
abbrev S2x8x12288 : Shape := ⟨3, ![2, 8, 12288]⟩
abbrev S1x2x2048 : Shape := ⟨3, ![1, 2, 2048]⟩
abbrev S2x2048 : Shape := ⟨2, ![2, 2048]⟩
abbrev S2x1x2048 : Shape := ⟨3, ![2, 1, 2048]⟩
abbrev S2x8192x2048 : Shape := ⟨3, ![2, 8192, 2048]⟩
abbrev S2x2048x8192 : Shape := ⟨3, ![2, 2048, 8192]⟩

abbrev nBuf : Space → Nat
  | .hbm => 12
  | .vmem => 0
  | .smem => 0
  | _ => 0

abbrev bufTy : (tb : Table) → Fin (tcTables nBuf tb) → BufTy
  | .hbm, ⟨0, _⟩ => ⟨S2x8448x2048, .f32⟩
  | .hbm, ⟨1, _⟩ => ⟨S2x2048x8448, .f32⟩
  | .hbm, ⟨2, _⟩ => ⟨S2x8x12288, .f32⟩
  | .hbm, ⟨3, _⟩ => ⟨S1x2x2048, .f32⟩
  | .hbm, ⟨4, _⟩ => ⟨S2x2048, .f32⟩
  | .hbm, ⟨5, _⟩ => ⟨S2x1x2048, .f32⟩
  | .hbm, ⟨6, _⟩ => ⟨S2x8192x2048, .f32⟩
  | .hbm, ⟨7, _⟩ => ⟨S2x2048x8192, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | _, _ => ⟨S2x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 31
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | .hbm, ⟨20, _⟩ => ⟨S1x2048x12288, .f32⟩
  | .hbm, ⟨21, _⟩ => ⟨S2048x12288, .f32⟩
  | .hbm, ⟨22, _⟩ => ⟨S8x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S8x12288, .f32⟩
  | .hbm, ⟨27, _⟩ => ⟨S8x12288, .f32⟩
  | .hbm, ⟨28, _⟩ => ⟨S1x8x12288, .f32⟩
  | .hbm, ⟨29, _⟩ => ⟨S1x8x12288, .f32⟩
  | .hbm, ⟨30, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.KernelRun.lean ====
/- The attention body as printed: from whole staging memrefs and scratch at any contents it runs to its end, gives
   the inputs back as they were, and leaves the output and the scratch at some contents. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of latent chunks is zero: a query tile of the context. -/
abbrev isCtx (i : grid0.Coords) : Prop := (Scalar.cmpi .ne (Scalar.extui (Scalar.cmpi .eq (Scalar.select (Scalar.cmpi .slt (BitVec.ofNat 32 (i 2).val) 1#32) 0#32 4#32) 0#32)) 0#32) = 1#1
/-- The number of latent chunks is positive: a query tile of the latents. -/
abbrev isLat (i : grid0.Coords) : Prop := (Scalar.cmpi .ne (Scalar.extui (Scalar.cmpi .sgt (Scalar.select (Scalar.cmpi .slt (BitVec.ofNat 32 (i 2).val) 1#32) 0#32 4#32) 0#32)) 0#32) = 1#1

/-- The smallest denominator is not at least the least one accepted: the fallback runs. -/
abbrev isBad (v : Vec F S1024x256 .f32) : Prop :=
  Scalar.cmpi .ne (Scalar.extui (Scalar.xori (Scalar.cmpf .oge (k0_pay7 v) (Scalar.ofBits .f32 0x0D800000#32 : F .f32)) 1#1)) 0#32 = 1#1

set_option maxHeartbeats 4000000 in
/-- The body's triple: both kinds of query tile, and the branch on the smallest denominator either way. -/
theorem run (c : Dev nD) (i : grid0.Coords) (arg3 : Memref sig .tc .vmem S1x256x512 .bf16) (harg3 : arg3.IsWhole) (arg4 : Memref sig .tc .vmem S1x8448x256 .bf16) (harg4 : arg4.IsWhole) (arg5 : Memref sig .tc .vmem S1x8448x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x256x512 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x2304 .f32) (harg11 : arg11.IsWhole) (arg12 : Memref sig .tc .vmem S1024x2304 .f32) (harg12 : arg12.IsWhole) (arg13 : Memref sig .tc .vmem S1024x1 .f32) (harg13 : arg13.IsWhole) (arg14 : Memref sig .tc .vmem S1024x1 .f32) (harg14 : arg14.IsWhole)
    (hcl : (isCtx i ∧ ¬ isLat i) ∨ (¬ isCtx i ∧ isLat i))
    (x0 : Vec F S1x256x512 .bf16) (x1 : Vec F S1x8448x256 .bf16) (x2 : Vec F S1x8448x256 .bf16) (x3 : Vec F S1x128 .f32) (x4 : Vec F S1x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn i arg3 harg3 arg4 harg4 arg5 harg5 arg6 harg6 arg7 harg7 arg8 harg8 arg9 harg9 arg10 harg10 arg11 harg11 arg12 harg12 arg13 harg13 arg14 harg14) K := by
    intro E K
    simp only [cc0_attn_eq_skeleton]; unfold cc0_attn_skel
    simp only [k0_part7_eq_skeleton, k0_part8_eq_skeleton, k0_part1_eq_skeleton, k0_part2_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4
    rcases hcl with ⟨hc0, hc1⟩ | ⟨hc0, hc1⟩
    all_goals sl_exec (disch := first | sl_exact hc0 | sl_exact hc1)
    on_goal 2 => rcases Classical.em (isBad (run.sl.v69_1 c arg3 harg3 arg4 harg4 arg5 harg5 arg6 harg6 arg7 harg7 arg9 arg10 arg11 arg12 x0 x1 x2 x3 x4)) with hd | hd
    on_goal 1 => rcases Classical.em (isBad (run.sl.v69 c arg3 harg3 arg4 harg4 arg5 harg5 arg6 harg6 arg7 harg7 arg9 arg10 x0 x1 x2 x3 x4)) with hd | hd
    all_goals
      sl_exec (disch := first | sl_exact hc0 | sl_exact hc1 | sl_exact hd)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _, _; isplitr; swap; · iexact H5
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      iexists _, _; isplitr; swap; · iexact HS5
      ipureintro; rfl

end Cert.Kernel.Body

end
-- ==== Proof.Block.lean ====
/- What one run of the attention body leaves in its output block, as a function of its five input blocks: the stacked
   queries, the accumulation without a running maximum, the online softmax it falls back to, and the choice between the
   two quotients. Everything here is stated over the body's own operations, at any reading of the float types. -/
module

public import proofs.«01_k».proof.Proof.Gen.KernelIdeal.Frame
public import proofs.«01_k».proof.Proof.Gen.KernelIdeal.Skeleton
public import Idealize.ShloMosaic.Lib.ValueIdxCore

@[expose] public section

set_option maxRecDepth 16384

noncomputable section

namespace Cert.KernelIdeal.Body

open Cert.KernelIdeal.Gen
open Idealize.ShloMosaic Idealize.ShloMosaic.ValueIdx

variable {F : FTy → Type} [FloatOps F]

/-- The number of latent chunks is zero: a query tile of the context. -/
abbrev isCtx (i : grid0.Coords) : Prop := (Scalar.cmpi .ne (Scalar.extui (Scalar.cmpi .eq (Scalar.select (Scalar.cmpi .slt (BitVec.ofNat 32 (i 2).val) 1#32) 0#32 4#32) 0#32)) 0#32) = 1#1
/-- The number of latent chunks is positive: a query tile of the latents. -/
abbrev isLat (i : grid0.Coords) : Prop := (Scalar.cmpi .ne (Scalar.extui (Scalar.cmpi .sgt (Scalar.select (Scalar.cmpi .slt (BitVec.ofNat 32 (i 2).val) 1#32) 0#32 4#32) 0#32)) 0#32) = 1#1

/-- The smallest denominator is not at least the least one accepted: the fallback runs. -/
abbrev isBad (v : Vec F S1024x256 .f32) : Prop :=
  Scalar.cmpi .ne (Scalar.extui (Scalar.xori (Scalar.cmpf .oge (k0_pay7 v) (Scalar.ofBits .f32 0x0D800000#32 : F .f32)) 1#1)) 0#32 = 1#1

/-- The rectangle of the first 128 lanes of a 256-lane scratch. -/
abbrev rHead : Rect S1024x256 := Rect.unit (s := S1024x256) ![0, 0] S1024x128.size inb_S1024x256_S1024x128_0_0

/-- The whole of a one-lane scratch. -/
abbrev rCol : Rect S1024x1 := Rect.unit (s := S1024x1) ![0, 0] S1024x1.size inb_S1024x1_S1024x1_0_0

/-- The scratch of stacked queries as the eight stores leave it: per head of the group, 256 rows of that head's lanes,
    beside them the tail that carries minus the bound. -/
def qsL (x0 : Vec F S1x256x512 .bf16) (x3 x4 : Vec F S1x128 .f32) : List (View.Piece (Elt F) S1024x256 .bf16) :=
  [⟨Rect.unit (s := S1024x256) ![768, 128] S256x128.size inb_S1024x256_S256x128_768_128, k0_pay60 (k0_pay51 x3 x4)⟩,
    ⟨Rect.unit (s := S1024x256) ![768, 0] S256x128.size inb_S1024x256_S256x128_768_0, k0_pay59 (k0_pay50 x0)⟩,
    ⟨Rect.unit (s := S1024x256) ![512, 128] S256x128.size inb_S1024x256_S256x128_512_128, k0_pay58 (k0_pay51 x3 x4)⟩,
    ⟨Rect.unit (s := S1024x256) ![512, 0] S256x128.size inb_S1024x256_S256x128_512_0, k0_pay57 (k0_pay50 x0)⟩,
    ⟨Rect.unit (s := S1024x256) ![256, 128] S256x128.size inb_S1024x256_S256x128_256_128, k0_pay56 (k0_pay51 x3 x4)⟩,
    ⟨Rect.unit (s := S1024x256) ![256, 0] S256x128.size inb_S1024x256_S256x128_256_0, k0_pay55 (k0_pay54 x0)⟩,
    ⟨Rect.unit (s := S1024x256) ![0, 128] S256x128.size inb_S1024x256_S256x128_0_128, k0_pay53 x3 x4⟩,
    ⟨Rect.unit (s := S1024x256) ![0, 0] S256x128.size inb_S1024x256_S256x128_0_0, k0_pay52 x0⟩]

/-- The stacked queries. -/
def qs (x0 : Vec F S1x256x512 .bf16) (x3 x4 : Vec F S1x128 .f32) : Vec F S1024x256 .bf16 := View.canon (qsL x0 x3 x4)

/-- The stacked queries without their tail. -/
def qHead (x0 : Vec F S1x256x512 .bf16) (x3 x4 : Vec F S1x128 .f32) : Vec F S1024x128 .bf16 := View.ld (qs x0 x3 x4) rHead

/-- The 256 context rows of a key or value block. -/
def rowsC (x : Vec F S1x8448x256 .bf16) : Vec F S1x256x256 .bf16 :=
  View.ld x (Rect.unit (s := S1x8448x256) ![0, 0, 0] S1x256x256.size inb_S1x8448x256_S1x256x256_0_0_0)
/-- Its context rows and first latent chunk, -/
def rows0 (x : Vec F S1x8448x256 .bf16) : Vec F S1x2304x256 .bf16 :=
  View.ld x (Rect.unit (s := S1x8448x256) ![0, 0, 0] S1x2304x256.size inb_S1x8448x256_S1x2304x256_0_0_0)
/-- and its other latent chunks. -/
def rows1 (x : Vec F S1x8448x256 .bf16) : Vec F S1x2048x256 .bf16 :=
  View.ld x (Rect.unit (s := S1x8448x256) ![0, 2304, 0] S1x2048x256.size inb_S1x8448x256_S1x2048x256_0_2304_0)
/-- The third chunk. -/
def rows2 (x : Vec F S1x8448x256 .bf16) : Vec F S1x2048x256 .bf16 :=
  View.ld x (Rect.unit (s := S1x8448x256) ![0, 4352, 0] S1x2048x256.size inb_S1x8448x256_S1x2048x256_0_4352_0)
/-- The last chunk. -/
def rows3 (x : Vec F S1x8448x256 .bf16) : Vec F S1x2048x256 .bf16 :=
  View.ld x (Rect.unit (s := S1x8448x256) ![0, 6400, 0] S1x2048x256.size inb_S1x8448x256_S1x2048x256_0_6400_0)

/-- The accumulator of a context tile: one chunk, the context's. -/
def accCtx (x0 : Vec F S1x256x512 .bf16) (x1 x2 : Vec F S1x8448x256 .bf16) (x3 x4 : Vec F S1x128 .f32) : Vec F S1024x256 .f32 :=
  k0_pay61 (qs x0 x3 x4) (rowsC x1) (rowsC x2)

/-- The accumulator of a latent tile: four chunks. -/
def accLat (x0 : Vec F S1x256x512 .bf16) (x1 x2 : Vec F S1x8448x256 .bf16) (x3 x4 : Vec F S1x128 .f32) : Vec F S1024x256 .f32 :=
  k0_pay63 (k0_pay17 (qs x0 x3 x4) (rows3 x1)) (rows3 x2)
    (k0_pay62 (k0_pay18 (k0_pay15 (k0_pay14 (qs x0 x3 x4) (rows2 x1))) (rows2 x2)
      (k0_pay16 (k0_pay12 (qs x0 x3 x4) (rows1 x1)) (rows1 x2)
        (k0_pay13 (k0_pay11 (qs x0 x3 x4) (rows0 x1)) (rows0 x2)))))

/-- The 128 key or value lanes of the context rows, -/
def headC (x : Vec F S1x8448x256 .bf16) : Vec F S1x256x128 .bf16 :=
  View.ld x (Rect.unit (s := S1x8448x256) ![0, 0, 0] S1x256x128.size inb_S1x8448x256_S1x256x128_0_0_0)
/-- and of latent chunk `k`. -/
def headL (x : Vec F S1x8448x256 .bf16) (k : ℕ) : Vec F S1x2048x128 .bf16 := fun j =>
  x (ix3 0 ⟨(256 + 2048 * k + (j 1).val) % 8448, Nat.mod_lt _ (by decide)⟩ ⟨(j 2).val, lt_trans (j 2).isLt (by decide)⟩)

/-- What the online softmax carries: the accumulator's first 128 lanes, the running maximum, the running denominator. -/
structure Online (F : FTy → Type) [FloatOps F] where
  /-- the weighted sum of values -/
  acc : Vec F S1024x128 .f32
  /-- the running maximum -/
  m : Vec F S1024x1 .f32
  /-- the running denominator -/
  l : Vec F S1024x1 .f32

/-- After the context chunk. -/
def online0 (q : Vec F S1024x128 .bf16) (kc vc : Vec F S1x256x128 .bf16) : Online F where
  acc := k0_pay41 (k0_pay34 vc) (k0_pay37 kc q k0_pay31) (k0_pay38 kc q k0_pay31) (View.ld k0_pay33 rHead)
  m := k0_pay42 (k0_pay36 kc q k0_pay31)
  l := k0_pay40 (k0_pay39 kc q k0_pay31 k0_pay32)

/-- One more latent chunk. -/
def onlineStep (q : Vec F S1024x128 .bf16) (k v : Vec F S1x2048x128 .bf16) (s : Online F) : Online F where
  acc := k0_pay43 (k0_pay24 k v q s.m s.acc)
  m := k0_pay44 (k0_pay20 k q s.m)
  l := k0_pay23 k q s.m s.l

/-- After the context chunk and `n` latent chunks. -/
def online (x0 : Vec F S1x256x512 .bf16) (x1 x2 : Vec F S1x8448x256 .bf16) (x3 x4 : Vec F S1x128 .f32) : ℕ → Online F
  | 0 => online0 (qHead x0 x3 x4) (headC x1) (headC x2)
  | n + 1 => onlineStep (qHead x0 x3 x4) (headL x1 n) (headL x2 n) (online x0 x1 x2 x3 x4 n)

/-- The four stores of a quotient into the output block: head `h` of the group takes rows `256 h` on. -/
def outL (r : FVec F S1024x128 .f32) : List (View.Piece (Elt F) S1x256x512 .bf16) :=
  [⟨Rect.unit (s := S1x256x512) ![0, 0, 384] S1x256x128.size inb_S1x256x512_S1x256x128_0_0_384, k0_pay10 r⟩,
    ⟨Rect.unit (s := S1x256x512) ![0, 0, 256] S1x256x128.size inb_S1x256x512_S1x256x128_0_0_256, k0_pay9 r⟩,
    ⟨Rect.unit (s := S1x256x512) ![0, 0, 128] S1x256x128.size inb_S1x256x512_S1x256x128_0_0_128,
      k0_pay8 (truncf .bf16 (extractStridedSlice S256x128 ![256, 0] r slices_S1024x128_o256_0_S256x128) bitsLt_bf16_f32)⟩,
    ⟨Rect.unit (s := S1x256x512) ![0, 0, 0] S1x256x128.size inb_S1x256x512_S1x256x128_0_0_0,
      k0_pay8 (truncf .bf16 (extractStridedSlice S256x128 ![0, 0] r slices_S1024x128_o0_0_S256x128) bitsLt_bf16_f32)⟩]

/-- The quotient of a tile whose accumulator is `a` and which sees `n` latent chunks: with the running maximum when
    some denominator is too small, as it stands otherwise. -/
def quot (a : Vec F S1024x256 .f32) (s : Online F) : FVec F S1024x128 .f32 :=
  haveI := Classical.propDecidable (isBad a)
  if isBad a then k0_pay47 s.acc s.l else k0_pay2 a

/-- The output block of a tile. -/
def outBlk (i : grid0.Coords) (x0 : Vec F S1x256x512 .bf16) (x1 x2 : Vec F S1x8448x256 .bf16) (x3 x4 : Vec F S1x128 .f32) :
    Vec F S1x256x512 .bf16 :=
  haveI := Classical.propDecidable (isCtx i)
  View.canon (outL (if isCtx i then quot (accCtx x0 x1 x2 x3 x4) (online x0 x1 x2 x3 x4 0)
    else quot (accLat x0 x1 x2 x3 x4) (online x0 x1 x2 x3 x4 4)))

end Cert.KernelIdeal.Body

end
-- ==== Proof.IdealRun.lean ====
/- The attention body as idealized: from whole staging memrefs and scratch at any contents it runs to its end, gives
   the inputs back as they were, leaves `outBlk` of them in the output block and the scratch at some contents. -/
module

public import proofs.«01_k».proof.Proof.Block
public import Idealize.ShloMosaic.Lib.LoopRemainder
public import Idealize.ShloMosaic.Lib.Pipeline.Value

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole memref's contents reads the array at the rectangle. -/
theorem readAt_unread {sp : Space} {s : Shape} {e : EltTy} (a : Memref sig .tc sp s e) (h : a.IsWhole) (x : Vec F s e) (r : Rect s) :
    View.readAt (Elt F) a.view r.toLoadRect (h.unread x) = View.ld x r := by
  rw [View.readAt_eq_ld, h.read_unread]

/-- The query block through its whole rectangle, -/
theorem ldQ (x : Vec F S1x256x512 .bf16) (inb) : View.ld x (Rect.unit (s := S1x256x512) ![0, 0, 0] ![1, 256, 512] inb) = x :=
  View.ld_unit_zero (by decide) _ _
/-- and a gain. -/
theorem ldG (x : Vec F S1x128 .f32) (inb) : View.ld x (Rect.unit (s := S1x128) ![0, 0] ![1, 128] inb) = x :=
  View.ld_unit_zero (by decide) _ _

/-- A load through the last write's own rectangle, the box written as the run writes it. -/
theorem readCov_last {sp : Space} {s : Shape} {e : EltTy} (v : View sig .tc sp s e) (off size : Fin s.rank → ℕ) (inb)
    (w : (Rect.unit off size inb).shape.Idx → Elt F e) (L : List (View.Piece (Elt F) s e)) :
    v.readCov (⟨Rect.unit off size inb, w⟩ :: L) (Rect.unit off size inb).toLoadRect = w :=
  View.readCov_cons_toLoadRect v _ w L

/-- The same, of contents that are writes over any earlier ones. -/
theorem readAt_last {sp : Space} {s : Shape} {e : EltTy} (v : View sig .tc sp s e) (f : v.ty.Contents (Elt F)) (r : Rect s)
    (w : r.shape.Idx → Elt F e) (L : List (View.Piece (Elt F) s e)) :
    View.readAt (Elt F) v r.toLoadRect (v.writes (Elt F) f (⟨r, w⟩ :: L)) = w := by
  rw [View.readAt_eq_ld]
  funext j
  exact View.read_writes_cons_emb (v := v) (f := f) r w L j

/-- The stacked queries read back whole, -/
theorem readCov_qs {sp : Space} (v : View sig .tc sp S1024x256 .bf16) (x0 : Vec F S1x256x512 .bf16) (x3 x4 : Vec F S1x128 .f32) (inb) :
    v.readCov (qsL x0 x3 x4) (Rect.unit (s := S1024x256) ![0, 0] ![1024, 256] inb).toLoadRect = qs x0 x3 x4 := by
  rw [View.readCov_eq_canon']
  exact View.ld_unit_zero (X := qs x0 x3 x4) (by decide) _
/-- and without their tail. -/
theorem readCov_qHead {sp : Space} (v : View sig .tc sp S1024x256 .bf16) (x0 : Vec F S1x256x512 .bf16) (x3 x4 : Vec F S1x128 .f32) (inb) :
    v.readCov (qsL x0 x3 x4) (Rect.unit (s := S1024x256) ![0, 0] ![1024, 128] inb).toLoadRect = qHead x0 x3 x4 := by
  rw [View.readCov_eq_canon']
  rfl
/-- The first 128 lanes of a scratch just written whole. -/
theorem readCov_head {sp : Space} {e : EltTy} (v : View sig .tc sp S1024x256 e) (inb inb') (w : Vec F S1024x256 e) (L : List (View.Piece (Elt F) S1024x256 e)) :
    v.readCov (⟨Rect.unit (s := S1024x256) ![0, 0] ![1024, 256] inb, w⟩ :: L) (Rect.unit (s := S1024x256) ![0, 0] ![1024, 128] inb').toLoadRect
      = View.ld w rHead := by
  rw [View.readCov_eq_canon']
  funext j
  exact congrFun (View.canon_cons_unit_zero (S := S1024x256) (off := ![0, 0]) (by decide) inb w L) _

/-- The canon of a list whose first part covers an index is that part's. -/
theorem canon_append {s : Shape} {e : EltTy} (A B : List (View.Piece (Elt F) s e)) (y : s.Idx) (h : ∃ p ∈ A, y ∈ p.1.set) :
    View.canon (A ++ B) y = View.canon A y := by
  induction A with
  | nil => obtain ⟨p, hp, _⟩ := h; simp at hp
  | cons p A ih =>
    by_cases hy : y ∈ p.1.set
    · obtain ⟨x, rfl⟩ := p.1.exists_idx_of_mem hy
      rw [List.cons_append]
      exact (View.canon_cons_emb p.1 p.2 (A ++ B) x).trans (View.canon_cons_emb p.1 p.2 A x).symm
    · rw [List.cons_append, View.canon_cons_of_not_mem p _ hy, View.canon_cons_of_not_mem p _ hy]
      refine ih ?_
      obtain ⟨q, hq, hqy⟩ := h
      rcases List.mem_cons.mp hq with rfl | hq
      · exact absurd hqy hy
      · exact ⟨q, hq, hqy⟩

/-- The four stores of a quotient cover the output block. -/
theorem outL_cover (r : FVec F S1024x128 .f32) (y : S1x256x512.Idx) : ∃ p ∈ outL r, y ∈ p.1.set := by
  have h0 := (y 0).isLt; have h1 := (y 1).isLt; have h2 := (y 2).isLt
  change (y 0).val < 1 at h0; change (y 1).val < 256 at h1; change (y 2).val < 512 at h2
  have key : ∀ (o : ℕ) (inb), o ≤ (y 2).val → (y 2).val < o + 128 → y ∈ (Rect.unit (s := S1x256x512) ![0, 0, o] S1x256x128.size inb).set := by
    intro o inb ha hb
    rw [Rect.mem_set_unit]
    intro a
    fin_cases a
    · exact ⟨Nat.zero_le _, by change (y 0).val < 0 + 1; omega⟩
    · exact ⟨Nat.zero_le _, by change (y 1).val < 0 + 256; omega⟩
    · exact ⟨ha, hb⟩
  rcases Nat.lt_or_ge (y 2).val 128 with h | h
  · exact ⟨_, .tail _ (.tail _ (.tail _ (.head _))), key 0 inb_S1x256x512_S1x256x128_0_0_0 (Nat.zero_le _) (by omega)⟩
  rcases Nat.lt_or_ge (y 2).val 256 with h' | h'
  · exact ⟨_, .tail _ (.tail _ (.head _)), key 128 inb_S1x256x512_S1x256x128_0_0_128 h (by omega)⟩
  rcases Nat.lt_or_ge (y 2).val 384 with h'' | h''
  · exact ⟨_, .tail _ (.head _), key 256 inb_S1x256x512_S1x256x128_0_0_256 h' (by omega)⟩
  · exact ⟨_, .head _, key 384 inb_S1x256x512_S1x256x128_0_0_384 h'' (by omega)⟩

/-- What the four stores of a quotient leave, whatever was there before. -/
theorem read_outL {sp : Space} (v : View sig .tc sp S1x256x512 .bf16) (f : v.ty.Contents (Elt F)) (r : FVec F S1024x128 .f32)
    (L : List (View.Piece (Elt F) S1x256x512 .bf16)) :
    v.read (Elt F) (v.writes (Elt F) f (outL r ++ L)) = View.canon (outL r) := by
  funext y
  rw [View.read_writes_apply_eq_canon v f y (outL r ++ L) (by
    obtain ⟨p, hp, h⟩ := outL_cover r y; exact ⟨p, List.mem_append_left _ hp, h⟩), canon_append _ _ _ (outL_cover r y)]

/-- The number of trips, from the query tile's coordinate alone. -/
abbrev tripsOf (n : Fin 33) : ℕ :=
  Scf.trips 0#32 (Scalar.addi 0#32 (Scalar.muli (Scalar.divsi (Scalar.subi (Scalar.select (Scalar.cmpi .slt (BitVec.ofNat 32 n.val) 1#32) 0#32 4#32) 0#32) 1#32) 1#32)) 1#32

/-- The loop of the fallback takes no trip for a context tile and four for a latent one. -/
theorem trips_eq (i : grid0.Coords) : (isCtx i → (k0_t1_loop i).trips = 0) ∧ (¬ isCtx i → (k0_t1_loop i).trips = 4) := by
  have h : ∀ n : Fin 33, ((Scalar.cmpi .ne (Scalar.extui (Scalar.cmpi .eq (Scalar.select (Scalar.cmpi .slt (BitVec.ofNat 32 n.val) 1#32) 0#32 4#32) 0#32)) 0#32) = 1#1 → tripsOf n = 0)
      ∧ (¬ (Scalar.cmpi .ne (Scalar.extui (Scalar.cmpi .eq (Scalar.select (Scalar.cmpi .slt (BitVec.ofNat 32 n.val) 1#32) 0#32 4#32) 0#32)) 0#32) = 1#1 → tripsOf n = 4) := by decide +kernel
  exact h (i 2)

/-- The rows a trip reads. -/
theorem ld_trip (i : grid0.Coords) (k : Fin (k0_t1_loop i).trips) (hk : k.val < 4) (x : Vec F S1x8448x256 .bf16) :
    View.ld x (Rect.unit (s := S1x8448x256) (k0_off1 i k) S1x2048x128.size (k0_off1_inb i k)) = headL x k.val := by
  funext j
  have h0 := (j 0).isLt; have h1 := (j 1).isLt
  change (j 0).val < 1 at h0; change (j 1).val < 2048 at h1
  show x _ = x _
  congr 1
  funext a
  apply Fin.ext
  have e : ∀ a, k0_off1 i k a = (![0, 2048 * k.val + 256, 0] : Fin 3 → ℕ) a := congrFun (k0_off1_eq i k)
  fin_cases a
  · show k0_off1 i k 0 + 1 * (j 0).val = 0
    rw [e]; show 0 + 1 * (j 0).val = 0; omega
  · show k0_off1 i k 1 + 1 * (j 1).val = (256 + 2048 * k.val + (j 1).val) % 8448
    rw [e, Nat.mod_eq_of_lt (by omega)]; show 2048 * k.val + 256 + 1 * (j 1).val = _; omega
  · show k0_off1 i k 2 + 1 * (j 2).val = (j 2).val
    rw [e]; show 0 + 1 * (j 2).val = _; omega

section Out

variable (i : grid0.Coords) (x0 : Vec F S1x256x512 .bf16) (x1 x2 : Vec F S1x8448x256 .bf16) (x3 x4 : Vec F S1x128 .f32)

/-- The output of a latent tile when the fallback ran, -/
theorem out_lat_bad (hc : ¬ isCtx i) (a : Vec F S1024x256 .f32) (ha : a = accLat x0 x1 x2 x3 x4) (hd : isBad a) (n : ℕ) (hn : n = 4) :
    View.canon (outL (k0_pay47 (online x0 x1 x2 x3 x4 n).acc (online x0 x1 x2 x3 x4 n).l)) = outBlk i x0 x1 x2 x3 x4 := by
  subst hn; subst ha; rw [outBlk, if_neg hc, quot, if_pos hd]
/-- and when it did not; -/
theorem out_lat_good (hc : ¬ isCtx i) (a : Vec F S1024x256 .f32) (ha : a = accLat x0 x1 x2 x3 x4) (hd : ¬ isBad a) :
    View.canon (outL (k0_pay2 a)) = outBlk i x0 x1 x2 x3 x4 := by
  subst ha; rw [outBlk, if_neg hc, quot, if_neg hd]
/-- of a context tile when the fallback ran, -/
theorem out_ctx_bad (hc : isCtx i) (a : Vec F S1024x256 .f32) (ha : a = accCtx x0 x1 x2 x3 x4) (hd : isBad a) (n : ℕ) (hn : n = 0) :
    View.canon (outL (k0_pay47 (online x0 x1 x2 x3 x4 n).acc (online x0 x1 x2 x3 x4 n).l)) = outBlk i x0 x1 x2 x3 x4 := by
  subst hn; subst ha; rw [outBlk, if_pos hc, quot, if_pos hd]
/-- and when it did not. -/
theorem out_ctx_good (hc : isCtx i) (a : Vec F S1024x256 .f32) (ha : a = accCtx x0 x1 x2 x3 x4) (hd : ¬ isBad a) :
    View.canon (outL (k0_pay2 a)) = outBlk i x0 x1 x2 x3 x4 := by
  subst ha; rw [outBlk, if_pos hc, quot, if_neg hd]

end Out

/-- What the fallback's loop keeps: the key, value and stacked-query blocks as they are, and the three carried arrays as
    the online softmax after `k` latent chunks. -/
def inv (c : Dev nD) (i : grid0.Coords) (arg3 : Memref sig .tc .vmem S1x256x512 .bf16) (harg3 : arg3.IsWhole) (arg4 : Memref sig .tc .vmem S1x8448x256 .bf16) (harg4 : arg4.IsWhole) (arg5 : Memref sig .tc .vmem S1x8448x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x256x512 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x2304 .f32) (harg11 : arg11.IsWhole) (arg12 : Memref sig .tc .vmem S1024x2304 .f32) (harg12 : arg12.IsWhole) (arg13 : Memref sig .tc .vmem S1024x1 .f32) (harg13 : arg13.IsWhole) (arg14 : Memref sig .tc .vmem S1024x1 .f32) (harg14 : arg14.IsWhole)
    (x0 : Vec F S1x256x512 .bf16) (x1 : Vec F S1x8448x256 .bf16) (x2 : Vec F S1x8448x256 .bf16) (x3 : Vec F S1x128 .f32) (x4 : Vec F S1x128 .f32) (k : ℕ) (_ : PUnit) : sProp 𝕄 :=
  iprop((arg4.view.loc (c : Thread nD τ) ↦[arg4.view.set]{fullShare} harg4.unread x1)
    ∗ (arg5.view.loc (c : Thread nD τ) ↦[arg5.view.set]{fullShare} harg5.unread x2)
    ∗ (∃ f, ⌜View.readAt (Elt F) arg9.view rHead.toLoadRect f = qHead x0 x3 x4⌝ ∗ (arg9.view.loc (c : Thread nD τ) ↦[arg9.view.set]{fullShare} f))
    ∗ (∃ f, ⌜View.readAt (Elt F) arg10.view rHead.toLoadRect f = (online x0 x1 x2 x3 x4 k).acc⌝ ∗ (arg10.view.loc (c : Thread nD τ) ↦[arg10.view.set]{fullShare} f))
    ∗ (∃ f, ⌜View.readAt (Elt F) arg13.view rCol.toLoadRect f = (online x0 x1 x2 x3 x4 k).m⌝ ∗ (arg13.view.loc (c : Thread nD τ) ↦[arg13.view.set]{fullShare} f))
    ∗ (∃ f, ⌜View.readAt (Elt F) arg14.view rCol.toLoadRect f = (online x0 x1 x2 x3 x4 k).l⌝ ∗ (arg14.view.loc (c : Thread nD τ) ↦[arg14.view.set]{fullShare} f)))

set_option maxHeartbeats 4000000 in
/-- The body's triple: both kinds of query tile, and the branch on the smallest denominator either way; in each of the four
    cases the output block is the quotient the branch takes. -/
theorem run (c : Dev nD) (i : grid0.Coords) (arg3 : Memref sig .tc .vmem S1x256x512 .bf16) (harg3 : arg3.IsWhole) (arg4 : Memref sig .tc .vmem S1x8448x256 .bf16) (harg4 : arg4.IsWhole) (arg5 : Memref sig .tc .vmem S1x8448x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x256x512 .bf16) (harg8 : arg8.IsWhole) (arg9 : Memref sig .tc .vmem S1024x256 .bf16) (harg9 : arg9.IsWhole) (arg10 : Memref sig .tc .vmem S1024x256 .f32) (harg10 : arg10.IsWhole) (arg11 : Memref sig .tc .vmem S1024x2304 .f32) (harg11 : arg11.IsWhole) (arg12 : Memref sig .tc .vmem S1024x2304 .f32) (harg12 : arg12.IsWhole) (arg13 : Memref sig .tc .vmem S1024x1 .f32) (harg13 : arg13.IsWhole) (arg14 : Memref sig .tc .vmem S1024x1 .f32) (harg14 : arg14.IsWhole)
    (hcl : (isCtx i ∧ ¬ isLat i) ∨ (¬ isCtx i ∧ isLat i))
    (x0 : Vec F S1x256x512 .bf16) (x1 : Vec F S1x8448x256 .bf16) (x2 : Vec F S1x8448x256 .bf16) (x3 : Vec F S1x128 .f32) (x4 : Vec F S1x128 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outBlk i x0 x1 x2 x3 x4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn i arg3 harg3 arg4 harg4 arg5 harg5 arg6 harg6 arg7 harg7 arg8 harg8 arg9 harg9 arg10 harg10 arg11 harg11 arg12 harg12 arg13 harg13 arg14 harg14) K := by
    intro E K
    simp only [cc0_attn_eq_skeleton]; unfold cc0_attn_skel
    simp only [k0_part7_eq_skeleton, k0_part8_eq_skeleton, k0_part1_eq_skeleton, k0_part2_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4
    rcases hcl with ⟨hc0, hc1⟩ | ⟨hc0, hc1⟩
    all_goals sl_exec (disch := first | sl_exact hc0 | sl_exact hc1)
    on_goal 2 =>
      have hq : run.sl.HS0_8_1 c arg3 harg3 arg6 harg6 arg7 harg7 x0 x3 x4 = qsL x0 x3 x4 := by
        delta run.sl.HS0_8_1 run.sl.r_8 run.sl.r_9 run.sl.r_10
        simp only [qsL, readAt_unread, ldQ, ldG]
      have ha : run.sl.v69_1 c arg3 harg3 arg4 harg4 arg5 harg5 arg6 harg6 arg7 harg7 arg9 arg10 arg11 arg12 x0 x1 x2 x3 x4 = accLat x0 x1 x2 x3 x4 := by
        refine (View.readCov_cons_toLoadRect arg10.view (Rect.unit (s := S1024x256) ![0, 0] S1024x256.size inb_S1024x256_S1024x256_0_0) _ _).trans ?_
        delta run.sl.v166 run.sl.v160 run.sl.v155 run.sl.v149 run.sl.v137 run.sl.v131 run.sl.v115 run.sl.v101_1 run.sl.HS1_3 run.sl.HS1_2_1 run.sl.HS1_1_1 run.sl.HS2_1 run.sl.HS2_2 run.sl.HS3_1 run.sl.HS3_2 run.sl.r_11 run.sl.r_12
        simp only [hq, readCov_last, readCov_qs, readAt_unread]
        rfl
      rcases Classical.em (isBad (run.sl.v69_1 c arg3 harg3 arg4 harg4 arg5 harg5 arg6 harg6 arg7 harg7 arg9 arg10 arg11 arg12 x0 x1 x2 x3 x4)) with hd | hd
    on_goal 1 =>
      have hq : run.sl.HS0_8 c arg3 harg3 arg6 harg6 arg7 harg7 x0 x3 x4 = qsL x0 x3 x4 := by
        delta run.sl.HS0_8 run.sl.r run.sl.r_1 run.sl.r_2
        simp only [qsL, readAt_unread, ldQ, ldG]
      have ha : run.sl.v69 c arg3 harg3 arg4 harg4 arg5 harg5 arg6 harg6 arg7 harg7 arg9 arg10 x0 x1 x2 x3 x4 = accCtx x0 x1 x2 x3 x4 := by
        refine (View.readCov_cons_toLoadRect arg10.view (Rect.unit (s := S1024x256) ![0, 0] S1024x256.size inb_S1024x256_S1024x256_0_0) _ _).trans ?_
        delta run.sl.v101
        simp only [hq, readCov_last, readCov_qs, readAt_unread]
        rfl
      rcases Classical.em (isBad (run.sl.v69 c arg3 harg3 arg4 harg4 arg5 harg5 arg6 harg6 arg7 harg7 arg9 arg10 x0 x1 x2 x3 x4)) with hd | hd
    all_goals
      sl_exec (disch := first | sl_exact hc0 | sl_exact hc1 | sl_exact hd)
    on_goal 1 =>
      have hm : View.readAt (Elt F) arg13.view rCol.toLoadRect (arg13.view.writes (Elt F) arg13.view.junk (run.sl.HS4_2 c arg3 harg3 arg4 harg4 arg6 harg6 arg7 harg7 arg9 arg13 x0 x1 x3 x4))
          = (online x0 x1 x2 x3 x4 0).m := by
        refine (readAt_last arg13.view _ rCol _ _).trans ?_
        delta run.sl.r_19 run.sl.v117_2 run.sl.v119_2 run.sl.HS4_1_2
        simp only [hq, readCov_last, readCov_qHead, readAt_unread]
        rfl
      have hl : View.readAt (Elt F) arg14.view rCol.toLoadRect (arg14.view.writes (Elt F) arg14.view.junk (run.sl.HS5_2 c arg3 harg3 arg4 harg4 arg6 harg6 arg7 harg7 arg9 arg13 arg14 x0 x1 x3 x4))
          = (online x0 x1 x2 x3 x4 0).l := by
        refine (readAt_last arg14.view _ rCol _ _).trans ?_
        delta run.sl.r_22 run.sl.v117_2 run.sl.v119_2 run.sl.v128_2 run.sl.HS4_1_2 run.sl.HS5_1_2
        simp only [hq, readCov_last, readCov_qHead, readAt_unread]
        rfl
      have hc : View.readAt (Elt F) arg10.view rHead.toLoadRect (arg10.view.writes (Elt F) arg10.view.junk (run.sl.HS1_3_1 c arg3 harg3 arg4 harg4 arg5 harg5 arg6 harg6 arg7 harg7 arg9 arg10 arg13 x0 x1 x2 x3 x4))
          = (online x0 x1 x2 x3 x4 0).acc := by
        refine (readAt_last arg10.view _ rHead _ _).trans ?_
        delta run.sl.r_18 run.sl.r_20 run.sl.r_21 run.sl.v117_2 run.sl.v119_2 run.sl.v136_2 run.sl.HS4_1_2 run.sl.HS1_2_2
        simp only [hq, readCov_last, readCov_qHead, readCov_head, readAt_unread]
        rfl
      have hh : View.readAt (Elt F) arg9.view rHead.toLoadRect (arg9.view.writes (Elt F) arg9.view.junk (run.sl.HS0_8 c arg3 harg3 arg6 harg6 arg7 harg7 x0 x3 x4))
          = qHead x0 x3 x4 := by
        rw [hq]; exact readCov_qHead arg9.view x0 x3 x4 _
    on_goal 3 =>
      have hm : View.readAt (Elt F) arg13.view rCol.toLoadRect (arg13.view.writes (Elt F) arg13.view.junk (run.sl.HS4_2_1 c arg3 harg3 arg4 harg4 arg6 harg6 arg7 harg7 arg9 arg13 x0 x1 x3 x4))
          = (online x0 x1 x2 x3 x4 0).m := by
        refine (readAt_last arg13.view _ rCol _ _).trans ?_
        delta run.sl.r_24 run.sl.v117_3 run.sl.v119_3 run.sl.HS4_1_3
        simp only [hq, readCov_last, readCov_qHead, readAt_unread]
        rfl
      have hl : View.readAt (Elt F) arg14.view rCol.toLoadRect (arg14.view.writes (Elt F) arg14.view.junk (run.sl.HS5_2_1 c arg3 harg3 arg4 harg4 arg6 harg6 arg7 harg7 arg9 arg13 arg14 x0 x1 x3 x4))
          = (online x0 x1 x2 x3 x4 0).l := by
        refine (readAt_last arg14.view _ rCol _ _).trans ?_
        delta run.sl.r_27 run.sl.v117_3 run.sl.v119_3 run.sl.v128_3 run.sl.HS4_1_3 run.sl.HS5_1_3
        simp only [hq, readCov_last, readCov_qHead, readAt_unread]
        rfl
      have hc : View.readAt (Elt F) arg10.view rHead.toLoadRect (arg10.view.writes (Elt F) arg10.view.junk (run.sl.HS1_6 c arg3 harg3 arg4 harg4 arg5 harg5 arg6 harg6 arg7 harg7 arg9 arg10 arg11 arg12 arg13 x0 x1 x2 x3 x4))
          = (online x0 x1 x2 x3 x4 0).acc := by
        refine (readAt_last arg10.view _ rHead _ _).trans ?_
        delta run.sl.r_23 run.sl.r_25 run.sl.r_26 run.sl.v117_3 run.sl.v119_3 run.sl.v136_3 run.sl.HS4_1_3 run.sl.HS1_5_1
        simp only [hq, readCov_last, readCov_qHead, readCov_head, readAt_unread]
        rfl
      have hh : View.readAt (Elt F) arg9.view rHead.toLoadRect (arg9.view.writes (Elt F) arg9.view.junk (run.sl.HS0_8_1 c arg3 harg3 arg6 harg6 arg7 harg7 x0 x3 x4))
          = qHead x0 x3 x4 := by
        rw [hq]; exact readCov_qHead arg9.view x0 x3 x4 _
    on_goal 3 => have ht := (trips_eq i).2 hc0
    on_goal 1 => have ht := (trips_eq i).1 hc0
    on_goal 1 =>
      sl_for (inv c i arg3 harg3 arg4 harg4 arg5 harg5 arg6 harg6 arg7 harg7 arg8 harg8 arg9 harg9 arg10 harg10 arg11 harg11 arg12 harg12 arg13 harg13 arg14 harg14 x0 x1 x2 x3 x4) $$ [H1 H2 HS0 HS1 HS4 HS5]
      case region => exact fun k => absurd k.isLt (by change ¬ k.val < (k0_t1_loop i).trips; rw [ht]; exact Nat.not_lt_zero _)
    on_goal 4 =>
      sl_for (inv c i arg3 harg3 arg4 harg4 arg5 harg5 arg6 harg6 arg7 harg7 arg8 harg8 arg9 harg9 arg10 harg10 arg11 harg11 arg12 harg12 arg13 harg13 arg14 harg14 x0 x1 x2 x3 x4) $$ [H1 H2 HS0 HS1 HS4 HS5]
      case region =>
        intro k _
        unfold inv
        iintro ⟨H1, H2, ⟨%f9, %h9, HS0⟩, ⟨%f10, %h10, HS1⟩, ⟨%f13, %h13, HS4⟩, ⟨%f14, %h14, HS5⟩⟩
        unfold run.sl.prog.body_2 k0_t1_body
        simp only [k0_part3_eq_skeleton]
        sl_exec
        sl_step
        have hk : k.val < 4 := by have := k.isLt; change k.val < (k0_t1_loop i).trips at this; omega
        isplitl [H1]; · iexact H1
        isplitl [H2]; · iexact H2
        isplitl [HS0]
        · iexists _; isplitr; · ipureintro; exact h9
          iexact HS0
        isplitl [HS1]
        · iexists _; isplitr; swap; · iexact HS1
          ipureintro
          refine (readAt_last arg10.view _ rHead _ _).trans ?_
          delta run.sl.r_29
          rw [readAt_unread, readAt_unread, ld_trip i k hk, ld_trip i k hk]
          rfl
        isplitl [HS4]
        · iexists _; isplitr; swap; · iexact HS4
          ipureintro
          refine (readAt_last arg13.view _ rCol _ _).trans ?_
          delta run.sl.r_28
          rw [readAt_unread, ld_trip i k hk]
          rfl
        iexists _; isplitr; swap; · iexact HS5
        ipureintro
        refine (readAt_last arg14.view _ rCol _ _).trans ?_
        rw [readAt_unread, ld_trip i k hk]
        rfl
    on_goal 4 =>
      unfold inv
      isplitl [H1]; · iexact H1
      isplitl [H2]; · iexact H2
      isplitl [HS0]
      · iexists _; isplitr; · ipureintro; exact hh
        iexact HS0
      isplitl [HS1]
      · iexists _; isplitr; · ipureintro; exact hc
        iexact HS1
      isplitl [HS4]
      · iexists _; isplitr; · ipureintro; exact hm
        iexact HS4
      iexists _; isplitr; · ipureintro; exact hl
      iexact HS5
    on_goal 1 =>
      unfold inv
      isplitl [H1]; · iexact H1
      isplitl [H2]; · iexact H2
      isplitl [HS0]
      · iexists _; isplitr; · ipureintro; exact hh
        iexact HS0
      isplitl [HS1]
      · iexists _; isplitr; · ipureintro; exact hc
        iexact HS1
      isplitl [HS4]
      · iexists _; isplitr; · ipureintro; exact hm
        iexact HS4
      iexists _; isplitr; · ipureintro; exact hl
      iexact HS5
    on_goal 1 =>
      iintro %_ HI
      unfold inv
      icases HI with ⟨H1, H2, ⟨%f9, %h9, HS0⟩, ⟨%f10, %h10, HS1⟩, ⟨%f13, %h13, HS4⟩, ⟨%f14, %h14, HS5⟩⟩
      sl_exec
      have ho := fun f => (read_outL arg8.view f (k0_pay47 (online x0 x1 x2 x3 x4 (Scf.trips (k0_t1_loop i).lb (k0_t1_loop i).ub (k0_t1_loop i).st)).acc
        (online x0 x1 x2 x3 x4 (Scf.trips (k0_t1_loop i).lb (k0_t1_loop i).ub (k0_t1_loop i).st)).l) (outL (k0_pay2 (run.sl.v69 c arg3 harg3 arg4 harg4 arg5 harg5 arg6 harg6 arg7 harg7 arg9 arg10 x0 x1 x2 x3 x4)))).trans
          (out_ctx_bad i x0 x1 x2 x3 x4 hc0 _ ha hd _ ht)
    on_goal 2 =>
      have ho := fun f => (read_outL arg8.view f (k0_pay2 (run.sl.v69 c arg3 harg3 arg4 harg4 arg5 harg5 arg6 harg6 arg7 harg7 arg9 arg10 x0 x1 x2 x3 x4)) []).trans (out_ctx_good i x0 x1 x2 x3 x4 hc0 _ ha hd)
    on_goal 3 =>
      iintro %_ HI
      unfold inv
      icases HI with ⟨H1, H2, ⟨%f9, %h9, HS0⟩, ⟨%f10, %h10, HS1⟩, ⟨%f13, %h13, HS4⟩, ⟨%f14, %h14, HS5⟩⟩
      sl_exec
      have ho := fun f => (read_outL arg8.view f (k0_pay47 (online x0 x1 x2 x3 x4 (Scf.trips (k0_t1_loop i).lb (k0_t1_loop i).ub (k0_t1_loop i).st)).acc
        (online x0 x1 x2 x3 x4 (Scf.trips (k0_t1_loop i).lb (k0_t1_loop i).ub (k0_t1_loop i).st)).l) (outL (k0_pay2 (run.sl.v69_1 c arg3 harg3 arg4 harg4 arg5 harg5 arg6 harg6 arg7 harg7 arg9 arg10 arg11 arg12 x0 x1 x2 x3 x4)))).trans
          (out_lat_bad i x0 x1 x2 x3 x4 hc0 _ ha hd _ ht)
    on_goal 4 =>
      have ho := fun f => (read_outL arg8.view f (k0_pay2 (run.sl.v69_1 c arg3 harg3 arg4 harg4 arg5 harg5 arg6 harg6 arg7 harg7 arg9 arg10 arg11 arg12 x0 x1 x2 x3 x4)) []).trans (out_lat_good i x0 x1 x2 x3 x4 hc0 _ ha hd)
    all_goals
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; swap; · iexact H5
        ipureintro; exact ho _
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      iexists _, _; isplitr; swap; · iexact HS5
      ipureintro; rfl

end Cert.KernelIdeal.Body

end
-- ==== Proof.IdealFrame.lean ====
/- The frame of the attention program as idealized: the proof data of its one pipeline with the output window forgotten,
   the body obligation from the body's triple, the launch, and the claim. -/
module

public import proofs.«01_k».proof.Proof.IdealRun
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Each window's current staging memref at point `t`, spelled as the pipeline passes it (`bodyAt0`), and its wholeness. -/
abbrev ms0_0 (t : Fin cfg0.N) : Memref sig .tc .vmem S1x256x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8448x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8448x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x512 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x256 .bf16 := Memref.whole cc0_scratch0
abbrev scM0_1 : Memref sig .tc .vmem S1024x256 .f32 := Memref.whole cc0_scratch1
abbrev scM0_2 : Memref sig .tc .vmem S1024x2304 .f32 := Memref.whole cc0_scratch2
abbrev scM0_3 : Memref sig .tc .vmem S1024x2304 .f32 := Memref.whole cc0_scratch3
abbrev scM0_4 : Memref sig .tc .vmem S1024x1 .f32 := Memref.whole cc0_scratch4
abbrev scM0_5 : Memref sig .tc .vmem S1024x1 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- Every grid point is a context tile or a latent tile, and not both. -/
theorem tiles : ∀ t : Fin cfg0.N, (isCtx (grid0.coords t) ∧ ¬ isLat (grid0.coords t)) ∨ (¬ isCtx (grid0.coords t) ∧ isLat (grid0.coords t)) :=
  (by decide +kernel : ∀ t : Fin grid0.N, (isCtx (grid0.coords t) ∧ ¬ isLat (grid0.coords t)) ∨ (¬ isCtx (grid0.coords t) ∧ isLat (grid0.coords t)))

/-! ## The pipeline's proof data -/

/-- The proof data of the one pipeline on core `c`: the arrays as the region finds them (`V`); after the body at
    point `t` each input's buffer at its block and the output's at what the body computes from them (`outBlk`); the invariant
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (grid0.coords t) (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlk (grid0.coords t) (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3600000 in
/-- The body at any point: the inputs' memrefs hold their blocks, so the body's triple applies; the scratch and the
    generator register go in and come back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply ((run c (grid0.coords t) _ _ _ _ _ _ _ _ _ _ _ _ _ _ _ _ _ _ _ _ _ _ _ _ (tiles t) (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the run's implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters every weakly fair execution of @main on the TensorCores terminates; every final
    state has each array of the pipeline at what the proof data say (`Dat.arrAt`: an input unchanged, the output written
    block by block), and every other unscoped buffer at its region-entry contents. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Reads.lean ====
/- The body's operations read at one index, over the extended reals: the stacked queries' pieces, the scores, the
   accumulation without a running maximum, the quotients and the smallest denominator. -/
module

public import proofs.«01_k».proof.Proof.Block
public import Idealize.ShloMosaic.Lib.Pointwise

@[expose] public section
set_option maxRecDepth 16384
noncomputable section
namespace Cert.KernelIdeal.Body
open Cert.KernelIdeal.Gen
open Idealize.ShloMosaic

/-! ## Scores -/

theorem pay11_apply (q : Vec Ideal S1024x256 .bf16) (x : Vec Ideal S1x2304x256 .bf16) (r : Fin 1024) (n : Fin 2304) :
    k0_pay11 q x (ix2 r n) = ∑ d : Fin 256, q (ix2 r d) * x (ix3 0 n d) := by
  pointwise [k0_pay11]

theorem pay12_apply (q : Vec Ideal S1024x256 .bf16) (x : Vec Ideal S1x2048x256 .bf16) (r : Fin 1024) (n : Fin 2048) :
    k0_pay12 q x (ix2 r n) = ∑ d : Fin 256, q (ix2 r d) * x (ix3 0 n d) := by
  pointwise [k0_pay12]

theorem pay14_apply (q : Vec Ideal S1024x256 .bf16) (x : Vec Ideal S1x2048x256 .bf16) (r : Fin 1024) (n : Fin 2048) :
    k0_pay15 (k0_pay14 q x) (ix2 r n) = ∑ d : Fin 256, q (ix2 r d) * x (ix3 0 n d) := by
  pointwise [k0_pay14, k0_pay15]

theorem pay17_apply (q : Vec Ideal S1024x256 .bf16) (x : Vec Ideal S1x2048x256 .bf16) (r : Fin 1024) (n : Fin 2048) :
    k0_pay17 q x (ix2 r n) = ∑ d : Fin 256, q (ix2 r d) * x (ix3 0 n d) := by
  pointwise [k0_pay17]

/-! ## The accumulator -/

theorem pay13_apply (s : FVec Ideal S1024x2304 .f32) (v : Vec Ideal S1x2304x256 .bf16) (r : Fin 1024) (d : Fin 256) :
    k0_pay13 s v (ix2 r d) = ∑ k : Fin 2304, Ideal.exp2 (s (ix2 r k)) * v (ix3 0 k d) := by
  pointwise [k0_pay13]
  rfl

theorem pay16_apply (s : FVec Ideal S1024x2048 .f32) (v : Vec Ideal S1x2048x256 .bf16) (a : Vec Ideal S1024x256 .f32)
    (r : Fin 1024) (d : Fin 256) :
    k0_pay16 s v a (ix2 r d) = a (ix2 r d) + ∑ k : Fin 2048, Ideal.exp2 (s (ix2 r k)) * v (ix3 0 k d) := by
  pointwise [k0_pay16]
  rfl

theorem pay18_apply (s : FVec Ideal S1024x2048 .f32) (v : Vec Ideal S1x2048x256 .bf16) (a : Vec Ideal S1024x256 .f32)
    (r : Fin 1024) (d : Fin 256) :
    k0_pay62 (k0_pay18 s v a) (ix2 r d) = a (ix2 r d) + ∑ k : Fin 2048, Ideal.exp2 (s (ix2 r k)) * v (ix3 0 k d) := by
  pointwise [k0_pay62, k0_pay18]
  rfl

theorem pay63_apply (s : FVec Ideal S1024x2048 .f32) (v : Vec Ideal S1x2048x256 .bf16) (a : Vec Ideal S1024x256 .f32)
    (r : Fin 1024) (d : Fin 256) :
    k0_pay63 s v a (ix2 r d) = a (ix2 r d) + ∑ k : Fin 2048, Ideal.exp2 (s (ix2 r k)) * v (ix3 0 k d) := by
  pointwise [k0_pay63]
  rfl

theorem pay61_apply (q : Vec Ideal S1024x256 .bf16) (x y : Vec Ideal S1x256x256 .bf16) (r : Fin 1024) (n : Fin 256) :
    k0_pay61 q x y (ix2 r n)
      = ∑ k : Fin 256, Ideal.exp2 (∑ d : Fin 256, q (ix2 r d) * x (ix3 0 k d)) * y (ix3 0 k n) := by
  pointwise [k0_pay61]
  rfl

/-! ## Quotients -/

theorem pay2_apply (v : Vec Ideal S1024x256 .f32) (r : Fin 1024) (d : Fin 128) :
    k0_pay2 v (ix2 r d) = Ideal.div (v (ix2 r ⟨d.val, by omega⟩)) (v (ix2 r ⟨128 + d.val, by omega⟩)) := by
  pointwise [k0_pay2, k0_pay1]

theorem pay47_apply (a : Vec Ideal S1024x128 .f32) (l : Vec Ideal S1024x1 .f32) (r : Fin 1024) (d : Fin 128) :
    k0_pay47 a l (ix2 r d) = Ideal.div (a (ix2 r d)) (l (ix2 r 0)) := by
  pointwise [k0_pay47]

theorem pay7_le (v : Vec Ideal S1024x256 .f32) (r : Fin 1024) : (k0_pay7 v : EReal) ≤ v (ix2 r ⟨128, by omega⟩) := by
  have h : (k0_pay7 v : EReal) = Finset.fold min (Ideal.ofBits FTy.f32 2139095040#32)
      (fun x : Fin 1024 × Fin 128 => (v (ix2 x.1 ⟨128 + x.2.val, by omega⟩) : EReal)) Finset.univ := by
    pointwise [k0_pay7, k0_pay1]
  rw [h]
  exact (Finset.fold_min_le _).mpr (.inr ⟨(r, 0), Finset.mem_univ _, le_rfl⟩)

/-! ## The stacked queries' pieces and the output's -/

theorem pay52_apply (x : Vec Ideal S1x256x512 .bf16) (r : Fin 256) (d : Fin 128) :
    k0_pay52 x (ix2 r d) = x (ix3 0 r ⟨d.val, by omega⟩) := by
  pointwise [k0_pay52, k0_pay50]
theorem pay55_apply (x : Vec Ideal S1x256x512 .bf16) (r : Fin 256) (d : Fin 128) :
    k0_pay55 (k0_pay54 x) (ix2 r d) = x (ix3 0 r ⟨128 + d.val, by omega⟩) := by
  pointwise [k0_pay55, k0_pay54, k0_pay50]
theorem pay57_apply (x : Vec Ideal S1x256x512 .bf16) (r : Fin 256) (d : Fin 128) :
    k0_pay57 (k0_pay50 x) (ix2 r d) = x (ix3 0 r ⟨256 + d.val, by omega⟩) := by
  pointwise [k0_pay57, k0_pay50]
theorem pay59_apply (x : Vec Ideal S1x256x512 .bf16) (r : Fin 256) (d : Fin 128) :
    k0_pay59 (k0_pay50 x) (ix2 r d) = x (ix3 0 r ⟨384 + d.val, by omega⟩) := by
  pointwise [k0_pay59, k0_pay50]
theorem pay53_apply (x y : Vec Ideal S1x128 .f32) (r : Fin 256) (d : Fin 128) :
    k0_pay53 x y (ix2 r d) = k0_pay51 x y (ix2 0 d) := by
  pointwise [k0_pay53]
theorem pay56_apply (t : FVec Ideal S1x128 .bf16) (r : Fin 256) (d : Fin 128) : k0_pay56 t (ix2 r d) = t (ix2 0 d) := by
  pointwise [k0_pay56]
theorem pay58_apply (t : FVec Ideal S1x128 .bf16) (r : Fin 256) (d : Fin 128) : k0_pay58 t (ix2 r d) = t (ix2 0 d) := by
  pointwise [k0_pay58]
theorem pay60_apply (t : FVec Ideal S1x128 .bf16) (r : Fin 256) (d : Fin 128) : k0_pay60 t (ix2 r d) = t (ix2 0 d) := by
  pointwise [k0_pay60]
theorem pay10_apply (x : FVec Ideal S1024x128 .f32) (r : Fin 256) (d : Fin 128) :
    k0_pay10 x (ix3 0 r d) = x (ix2 ⟨768 + r.val, by omega⟩ d) := by
  pointwise [k0_pay10]
theorem pay9_apply (x : FVec Ideal S1024x128 .f32) (r : Fin 256) (d : Fin 128) :
    k0_pay9 x (ix3 0 r d) = x (ix2 ⟨512 + r.val, by omega⟩ d) := by
  pointwise [k0_pay9]
theorem pay8_apply (x : FVec Ideal S256x128 .bf16) (r : Fin 256) (d : Fin 128) : k0_pay8 x (ix3 0 r d) = x (ix2 r d) := by
  pointwise [k0_pay8]

/-! ## The tail of the queries: minus a bound on lane 0, nothing elsewhere -/

theorem pay51_zero (x y : Vec Ideal S1x128 .f32) : ∃ B : EReal, 0 ≤ B ∧ k0_pay51 x y (ix2 0 0) = 0 - B := by
  have habs : ∀ z : Vec Ideal S1x128 .f32,
      (0 : EReal) ≤ Finset.fold max (⊥ : EReal) (fun d : Fin 128 => max (z (ix2 0 d) : EReal) (-(z (ix2 0 d) : EReal))) Finset.univ := by
    intro z
    refine (Finset.le_fold_max _).mpr (.inr ⟨0, Finset.mem_univ _, ?_⟩)
    rcases le_total (0 : EReal) (z (ix2 0 0)) with h | h
    · exact le_max_of_le_left h
    · exact le_max_of_le_right (EReal.neg_nonneg.mpr h)
  have hc : (0 : EReal) ≤ Ideal.ofBits FTy.f32 1099247741#32 := by
    simp [Ideal.ofBits, Ideal.ieee, -EReal.coe_mul]
  refine ⟨_, EReal.mul_nonneg (EReal.mul_nonneg hc (habs x)) (habs y), ?_⟩
  pointwise [k0_pay51]
  rfl

theorem pay51_pos (x y : Vec Ideal S1x128 .f32) (d : Fin 128) (hd : d.val ≠ 0) : k0_pay51 x y (ix2 0 d) = (0 : EReal) := by
  have h : IntOp.cmpi .eq (BitVec.ofNat 32 d.val) 0#32 = 0#1 := by
    have hd' := d.isLt
    have : BitVec.ofNat 32 d.val ≠ 0#32 := fun e => hd (by have := congrArg BitVec.toNat e; simp at this; omega)
    show BitVec.ofBool (BitVec.ofNat 32 d.val == 0#32) = 0#1
    rw [beq_eq_false_iff_ne.mpr this]
    rfl
  pointwise [k0_pay51]
  rw [h]
  rfl

end Cert.KernelIdeal.Body
end
-- ==== Proof.ReadsOnline.lean ====
/- The online softmax's operations read at one index, over the extended reals. -/
module

public import proofs.«01_k».proof.Proof.Block
public import Idealize.ShloMosaic.Lib.Pointwise

@[expose] public section
set_option maxRecDepth 16384
noncomputable section
namespace Cert.KernelIdeal.Body
open Cert.KernelIdeal.Gen
open Idealize.ShloMosaic

theorem ofBits_ninf : (Ideal.ofBits FTy.f32 4286578688#32 : EReal) = ⊥ := by simp [Ideal.ofBits, Ideal.ieee]
theorem ofBits_zero : (Ideal.ofBits FTy.f32 0#32 : EReal) = 0 := by simp [Ideal.ofBits, Ideal.ieee]

theorem pay31_apply (r : Fin 1024) : (k0_pay31 (F := Ideal) (ix2 r 0) : EReal) = ⊥ := by
  pointwise [k0_pay31, ofBits_ninf]
theorem pay32_apply (r : Fin 1024) : (k0_pay32 (F := Ideal) (ix2 r 0) : EReal) = 0 := by
  pointwise [k0_pay32, ofBits_zero]
theorem pay33_apply (r : Fin 1024) (d : Fin 256) : (k0_pay33 (F := Ideal) (ix2 r d) : EReal) = 0 := by
  pointwise [k0_pay33, ofBits_zero]

/-! ## The context chunk -/

theorem pay35_apply (k : Vec Ideal S1x256x128 .bf16) (q : Vec Ideal S1024x128 .bf16) (r : Fin 1024) (n : Fin 256) :
    k0_pay35 k q (ix2 r n) = ∑ d : Fin 128, q (ix2 r d) * k (ix3 0 n d) := by
  pointwise [k0_pay35]
theorem pay36_apply (k : Vec Ideal S1x256x128 .bf16) (q : Vec Ideal S1024x128 .bf16) (m : Vec Ideal S1024x1 .f32) (r : Fin 1024) :
    k0_pay36 k q m (ix2 r 0)
      = max (m (ix2 r 0) : EReal) (Finset.fold max ⊥ (fun n : Fin 256 => (k0_pay35 k q (ix2 r n) : EReal)) Finset.univ) := by
  pointwise [k0_pay36]
  rw [ofBits_ninf]
theorem pay37_apply (k : Vec Ideal S1x256x128 .bf16) (q : Vec Ideal S1024x128 .bf16) (m : Vec Ideal S1024x1 .f32) (r : Fin 1024) :
    k0_pay37 k q m (ix2 r 0) = Ideal.exp2 (m (ix2 r 0) - k0_pay36 k q m (ix2 r 0)) := by
  pointwise [k0_pay37]
  rfl
theorem pay38_apply (k : Vec Ideal S1x256x128 .bf16) (q : Vec Ideal S1024x128 .bf16) (m : Vec Ideal S1024x1 .f32) (r : Fin 1024)
    (n : Fin 256) : k0_pay38 k q m (ix2 r n) = Ideal.exp2 (k0_pay35 k q (ix2 r n) - k0_pay36 k q m (ix2 r 0)) := by
  pointwise [k0_pay38]
  rfl
theorem pay39_apply (k : Vec Ideal S1x256x128 .bf16) (q : Vec Ideal S1024x128 .bf16) (m l : Vec Ideal S1024x1 .f32) (r : Fin 1024) :
    k0_pay40 (k0_pay39 k q m l) (ix2 r 0)
      = k0_pay37 k q m (ix2 r 0) * l (ix2 r 0) + ∑ n : Fin 256, k0_pay38 k q m (ix2 r n) := by
  pointwise [k0_pay40, k0_pay39]
theorem pay41_apply (v : Vec Ideal S1x256x128 .bf16) (al : FVec Ideal S1024x1 .f32) (p : FVec Ideal S1024x256 .f32)
    (a : Vec Ideal S1024x128 .f32) (r : Fin 1024) (d : Fin 128) :
    k0_pay41 (k0_pay34 v) al p a (ix2 r d) = al (ix2 r 0) * a (ix2 r d) + ∑ n : Fin 256, p (ix2 r n) * v (ix3 0 n d) := by
  pointwise [k0_pay41, k0_pay34]
theorem pay42_apply (m : FVec Ideal S1024x1 .f32) (r : Fin 1024) : k0_pay42 m (ix2 r 0) = m (ix2 r 0) := by
  pointwise [k0_pay42]

/-! ## A latent chunk -/

theorem pay19_apply (k : Vec Ideal S1x2048x128 .bf16) (q : Vec Ideal S1024x128 .bf16) (r : Fin 1024) (n : Fin 2048) :
    k0_pay19 k q (ix2 r n) = ∑ d : Fin 128, q (ix2 r d) * k (ix3 0 n d) := by
  pointwise [k0_pay19]
theorem pay20_apply (k : Vec Ideal S1x2048x128 .bf16) (q : Vec Ideal S1024x128 .bf16) (m : Vec Ideal S1024x1 .f32) (r : Fin 1024) :
    k0_pay20 k q m (ix2 r 0)
      = max (m (ix2 r 0) : EReal) (Finset.fold max ⊥ (fun n : Fin 2048 => (k0_pay19 k q (ix2 r n) : EReal)) Finset.univ) := by
  pointwise [k0_pay20]
  rw [ofBits_ninf]
theorem pay21_apply (k : Vec Ideal S1x2048x128 .bf16) (q : Vec Ideal S1024x128 .bf16) (m : Vec Ideal S1024x1 .f32) (r : Fin 1024) :
    k0_pay21 k q m (ix2 r 0) = Ideal.exp2 (m (ix2 r 0) - k0_pay20 k q m (ix2 r 0)) := by
  pointwise [k0_pay21]
  rfl
theorem pay22_apply (k : Vec Ideal S1x2048x128 .bf16) (q : Vec Ideal S1024x128 .bf16) (m : Vec Ideal S1024x1 .f32) (r : Fin 1024)
    (n : Fin 2048) : k0_pay22 k q m (ix2 r n) = Ideal.exp2 (k0_pay19 k q (ix2 r n) - k0_pay20 k q m (ix2 r 0)) := by
  pointwise [k0_pay22]
  rfl
theorem pay23_apply (k : Vec Ideal S1x2048x128 .bf16) (q : Vec Ideal S1024x128 .bf16) (m l : Vec Ideal S1024x1 .f32) (r : Fin 1024) :
    k0_pay23 k q m l (ix2 r 0) = k0_pay21 k q m (ix2 r 0) * l (ix2 r 0) + ∑ n : Fin 2048, k0_pay22 k q m (ix2 r n) := by
  pointwise [k0_pay23]
theorem pay24_apply (k v : Vec Ideal S1x2048x128 .bf16) (q : Vec Ideal S1024x128 .bf16) (m : Vec Ideal S1024x1 .f32)
    (a : Vec Ideal S1024x128 .f32) (r : Fin 1024) (d : Fin 128) :
    k0_pay43 (k0_pay24 k v q m a) (ix2 r d)
      = k0_pay21 k q m (ix2 r 0) * a (ix2 r d) + ∑ n : Fin 2048, k0_pay22 k q m (ix2 r n) * v (ix3 0 n d) := by
  pointwise [k0_pay43, k0_pay24]
theorem pay44_apply (m : FVec Ideal S1024x1 .f32) (r : Fin 1024) : k0_pay44 m (ix2 r 0) = m (ix2 r 0) := by
  pointwise [k0_pay44]

end Cert.KernelIdeal.Body
end
-- ==== Proof.Softmax.lean ====
/- The mathematics of the attention, away from any program: a row's weighted average of values under weights `2^s`, and
   the three ways a program arrives at it — with one bound taken off every score, with a running maximum, and as a
   softmax in base `e` of the scores times `ln 2`. Scores are real numbers; values are any extended reals. -/
module

public import Idealize.ShloMosaic.Lib.Pointwise

@[expose] public section

noncomputable section

namespace Cert.Softmax

open Idealize.ShloMosaic
open Finset (range)

/-- `Σ_{k<n} w k · v k`, the weights real. -/
def wsum (n : ℕ) (w : ℕ → ℝ) (v : ℕ → EReal) : EReal := ∑ k ∈ range n, (w k : EReal) * v k

/-- The sum of the weights `2^(s k)`. -/
def total (n : ℕ) (s : ℕ → ℝ) : ℝ := ∑ k ∈ range n, (2 : ℝ) ^ s k

/-- A row of attention: the values averaged under the weights `2^(s k)`. -/
def attn (n : ℕ) (s : ℕ → ℝ) (v : ℕ → EReal) : EReal := wsum n (fun k => (2 : ℝ) ^ s k / total n s) v

theorem wsum_congr {n : ℕ} {w w' : ℕ → ℝ} {v v' : ℕ → EReal} (hw : ∀ k < n, w k = w' k) (hv : ∀ k < n, v k = v' k) :
    wsum n w v = wsum n w' v' :=
  Finset.sum_congr rfl fun k hk => by rw [hw k (Finset.mem_range.mp hk), hv k (Finset.mem_range.mp hk)]

theorem attn_congr {n : ℕ} {s s' : ℕ → ℝ} {v v' : ℕ → EReal} (hs : ∀ k < n, s k = s' k) (hv : ∀ k < n, v k = v' k) :
    attn n s v = attn n s' v' := by
  have ht : total n s = total n s' := Finset.sum_congr rfl fun k hk => by rw [hs k (Finset.mem_range.mp hk)]
  exact wsum_congr (fun k hk => by rw [hs k hk, ht]) hv

theorem total_pos {n : ℕ} (hn : 0 < n) (s : ℕ → ℝ) : 0 < total n s :=
  Finset.sum_pos (fun k _ => Real.rpow_pos_of_pos two_pos _) ⟨0, Finset.mem_range.mpr hn⟩

/-- A nonnegative real factor goes into the weights. -/
theorem mul_wsum (n : ℕ) (w : ℕ → ℝ) (v : ℕ → EReal) {c : ℝ} (hc : 0 ≤ c) :
    (c : EReal) * wsum n w v = wsum n (fun k => c * w k) v := by
  induction n with
  | zero => simp [wsum]
  | succ n ih =>
    unfold wsum at *
    rw [Finset.sum_range_succ, Finset.sum_range_succ,
      EReal.left_distrib_of_nonneg_of_ne_top (EReal.coe_nonneg.mpr hc) (EReal.coe_ne_top c), ih, EReal.coe_mul, mul_assoc]

theorem wsum_add (n c : ℕ) (w : ℕ → ℝ) (v : ℕ → EReal) :
    wsum (n + c) w v = wsum n w v + wsum c (fun k => w (n + k)) (fun k => v (n + k)) := by
  unfold wsum; rw [Finset.sum_range_add]

/-- A division by a positive real goes into the weights. -/
theorem div_wsum (n : ℕ) (w : ℕ → ℝ) (v : ℕ → EReal) {W : ℝ} (hW : 0 < W) :
    Ideal.div (wsum n w v) (W : EReal) = wsum n (fun k => w k / W) v := by
  rw [Ideal.div_coe hW.ne', mul_comm, mul_wsum _ _ _ (by positivity)]
  exact wsum_congr (fun k _ => by rw [one_div, div_eq_inv_mul]) fun _ _ => rfl

/-- Weights proportional to `2^s`, divided by their sum: the average. -/
theorem quotient_eq_attn {n : ℕ} (hn : 0 < n) (s : ℕ → ℝ) (v : ℕ → EReal) (M : ℝ) :
    Ideal.div (wsum n (fun k => (2 : ℝ) ^ (s k - M)) v) ((total n (fun k => s k - M) : ℝ) : EReal) = attn n s v := by
  rw [div_wsum _ _ _ (total_pos hn _)]
  have ht : total n (fun k => s k - M) = total n s / (2 : ℝ) ^ M := by
    unfold total
    rw [Finset.sum_div]
    exact Finset.sum_congr rfl fun k _ => Real.rpow_sub two_pos _ _
  refine wsum_congr (fun k _ => ?_) fun _ _ => rfl
  rw [ht, Real.rpow_sub two_pos, div_div_div_cancel_right₀ (Real.rpow_pos_of_pos two_pos _).ne']

theorem coe_sum_range (n : ℕ) (f : ℕ → ℝ) : ((∑ k ∈ range n, f k : ℝ) : EReal) = ∑ k ∈ range n, (f k : EReal) := by
  induction n with
  | zero => simp
  | succ n ih => rw [Finset.sum_range_succ, Finset.sum_range_succ, EReal.coe_add, ih]

theorem coe_sum_fin {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- A sum of exponentials of differences of reals, as a program forms it. -/
theorem sum_exp2 (n : ℕ) (s : ℕ → ℝ) (M : ℝ) :
    ∑ k : Fin n, Ideal.exp2 ((s k : EReal) - (M : EReal)) = ((total n (fun k => s k - M) : ℝ) : EReal) := by
  unfold total
  rw [coe_sum_range, Finset.sum_range]
  exact Finset.sum_congr rfl fun k _ => by rw [← EReal.coe_sub, Ideal.exp2_coe]; rfl

/-- The same sum with values. -/
theorem sum_exp2_mul (n : ℕ) (s : ℕ → ℝ) (v : ℕ → EReal) (M : ℝ) :
    ∑ k : Fin n, Ideal.exp2 ((s k : EReal) - (M : EReal)) * v k = wsum n (fun k => (2 : ℝ) ^ (s k - M)) v := by
  unfold wsum
  rw [Finset.sum_range]
  exact Finset.sum_congr rfl fun k _ => by rw [← EReal.coe_sub, Ideal.exp2_coe]; rfl

/-! ## The running maximum -/

/-- The largest of finitely many reals, and of one at least, is a real. -/
theorem fold_max_real {c : ℕ} (hc : 0 < c) (f : Fin c → ℝ) :
    ∃ M : ℝ, (Finset.univ.fold max (⊥ : EReal) fun k => (f k : EReal)) = (M : EReal) := by
  have key : ∀ t : Finset (Fin c), t.Nonempty → ∃ M : ℝ, (t.fold max (⊥ : EReal) fun k => (f k : EReal)) = (M : EReal) := by
    intro t ht
    induction ht using Finset.Nonempty.cons_induction with
    | singleton a => exact ⟨f a, by simp⟩
    | cons a t ha _ ih =>
      obtain ⟨M, hM⟩ := ih
      exact ⟨max (f a) M, by rw [Finset.fold_cons, hM]; exact (EReal.coe_strictMono.monotone.map_max).symm⟩
  exact key _ ⟨⟨0, hc⟩, Finset.mem_univ _⟩

/-- What the running maximum, denominator and accumulator hold once `n` keys are seen: sums taken relative to some
    real `M`, which the maximum is. -/
structure Seen (n : ℕ) (s : ℕ → ℝ) (v : ℕ → EReal) (m l acc : EReal) (M : ℝ) : Prop where
  m_eq : m = (M : EReal)
  l_eq : l = ((total n (fun k => s k - M) : ℝ) : EReal)
  acc_eq : acc = wsum n (fun k => (2 : ℝ) ^ (s k - M)) v

/-- The maximum a chunk of keys leaves. -/
def chunkMax (c n : ℕ) (s : ℕ → ℝ) : EReal := Finset.univ.fold max (⊥ : EReal) fun k : Fin c => ((s (n + k.val) : ℝ) : EReal)

/-- The first chunk, from a maximum of −∞ and zero sums. -/
theorem seen_first {c : ℕ} (hc : 0 < c) (s : ℕ → ℝ) : ∃ M : ℝ, ∀ v : ℕ → EReal,
    Seen c s v (max ⊥ (chunkMax c 0 s))
      (Ideal.exp2 (⊥ - max ⊥ (chunkMax c 0 s)) * 0 + ∑ k : Fin c, Ideal.exp2 (((s k : ℝ) : EReal) - max ⊥ (chunkMax c 0 s)))
      (Ideal.exp2 (⊥ - max ⊥ (chunkMax c 0 s)) * 0 + ∑ k : Fin c, Ideal.exp2 (((s k : ℝ) : EReal) - max ⊥ (chunkMax c 0 s)) * v k) M := by
  obtain ⟨M, hM⟩ := fold_max_real hc fun k => s (0 + k.val)
  refine ⟨M, fun v => ?_⟩
  have e : max ⊥ (chunkMax c 0 s) = (M : EReal) := by rw [max_eq_right bot_le]; exact hM
  rw [e]
  exact ⟨rfl, by rw [mul_zero, zero_add, sum_exp2], by rw [mul_zero, zero_add, sum_exp2_mul]⟩

/-- One more chunk. -/
theorem seen_step {n c : ℕ} (hc : 0 < c) (s : ℕ → ℝ) (m l : EReal) (M : ℝ) : ∃ M' : ℝ, ∀ (v : ℕ → EReal) (acc : EReal),
    Seen n s v m l acc M → Seen (n + c) s v (max m (chunkMax c n s))
      (Ideal.exp2 (m - max m (chunkMax c n s)) * l
        + ∑ k : Fin c, Ideal.exp2 (((s (n + k.val) : ℝ) : EReal) - max m (chunkMax c n s)))
      (Ideal.exp2 (m - max m (chunkMax c n s)) * acc
        + ∑ k : Fin c, Ideal.exp2 (((s (n + k.val) : ℝ) : EReal) - max m (chunkMax c n s)) * v (n + k.val)) M' := by
  obtain ⟨C, hC⟩ := fold_max_real hc fun k => s (n + k.val)
  refine ⟨max M C, fun v acc h => ?_⟩
  obtain ⟨hm, hl, ha⟩ := h
  have e : max m (chunkMax c n s) = ((max M C : ℝ) : EReal) := by
    rw [hm, EReal.coe_strictMono.monotone.map_max]; exact congrArg _ hC
  generalize max M C = M' at e
  have hal : Ideal.exp2 (m - (M' : EReal)) = (((2 : ℝ) ^ (M - M') : ℝ) : EReal) := by
    rw [hm, ← EReal.coe_sub, Ideal.exp2_coe]; rfl
  have hw : ∀ k, (2 : ℝ) ^ (M - M') * (2 : ℝ) ^ (s k - M) = (2 : ℝ) ^ (s k - M') := fun k => by
    rw [← Real.rpow_add two_pos]; congr 1; ring
  rw [e, hal, hl, ha]
  refine ⟨rfl, ?_, ?_⟩
  · rw [sum_exp2 c (fun k => s (n + k)) M', ← EReal.coe_mul, ← EReal.coe_add]
    congr 1
    unfold total
    rw [Finset.mul_sum, Finset.sum_range_add]
    exact congrArg (· + _) (Finset.sum_congr rfl fun k _ => hw k)
  · rw [sum_exp2_mul c (fun k => s (n + k)) (fun k => v (n + k)) M',
      mul_wsum _ _ _ (Real.rpow_pos_of_pos two_pos _).le, wsum_add]
    exact congrArg (· + _) (wsum_congr (fun k _ => hw k) fun _ _ => rfl)

/-- The quotient at the end is the average. -/
theorem seen_quotient {n : ℕ} (hn : 0 < n) {s : ℕ → ℝ} {v : ℕ → EReal} {m l acc : EReal} {M : ℝ}
    (h : Seen n s v m l acc M) : Ideal.div acc l = attn n s v := by
  rw [h.l_eq, h.acc_eq, quotient_eq_attn hn]

/-! ## The softmax in base `e` -/

theorem exp_eq_rpow (s M : ℝ) : Real.exp (s * Real.log 2 - M) = (2 : ℝ) ^ (s - M / Real.log 2) := by
  have hl : Real.log 2 ≠ 0 := (Real.log_pos one_lt_two).ne'
  rw [Real.rpow_def_of_pos two_pos]
  congr 1
  field_simp

/-- `Σ softmax(s·ln 2)_k · v_k`, the maximum taken off being any real. -/
theorem softmax_eq_attn {n : ℕ} (hn : 0 < n) (s : ℕ → ℝ) (v : ℕ → EReal) (M : ℝ) :
    ∑ k : Fin n, Ideal.div (Ideal.exp (((s k * Real.log 2 : ℝ) : EReal) - (M : EReal)))
        (∑ j : Fin n, Ideal.exp (((s j * Real.log 2 : ℝ) : EReal) - (M : EReal))) * v k = attn n s v := by
  have hx : ∀ k : ℕ, Ideal.exp (((s k * Real.log 2 : ℝ) : EReal) - (M : EReal))
      = (((2 : ℝ) ^ (s k - M / Real.log 2) : ℝ) : EReal) := fun k => by
    rw [← EReal.coe_sub, Ideal.exp_coe, exp_eq_rpow]
  have hs : ∑ j : Fin n, Ideal.exp (((s j * Real.log 2 : ℝ) : EReal) - (M : EReal))
      = ((total n (fun k => s k - M / Real.log 2) : ℝ) : EReal) := by
    unfold total
    rw [coe_sum_range, Finset.sum_range]
    exact Finset.sum_congr rfl fun k _ => hx k
  rw [hs, ← quotient_eq_attn hn s v (M / Real.log 2), div_wsum _ _ _ (total_pos hn _)]
  unfold wsum
  rw [Finset.sum_range]
  refine Finset.sum_congr rfl fun k _ => ?_
  rw [hx k, Ideal.div_coe (total_pos hn _).ne', ← EReal.coe_mul, mul_one_div]

/-- A softmax row as a program forms it: the largest score taken off, the value before the weight. -/
theorem softmax_row {n : ℕ} (hn : 0 < n) (s : ℕ → ℝ) (v : ℕ → EReal) (x : Fin n → EReal)
    (hx : ∀ k, x k = ((s k * Real.log 2 : ℝ) : EReal)) :
    ∑ k : Fin n, v k * Ideal.div (Ideal.exp (x k - max ⊥ (Finset.fold max ⊥ x Finset.univ)))
        (0 + ∑ j : Fin n, Ideal.exp (x j - max ⊥ (Finset.fold max ⊥ x Finset.univ))) = attn n s v := by
  obtain ⟨M, hM⟩ := fold_max_real hn fun k => s k * Real.log 2
  have hx' : x = fun k : Fin n => ((s k * Real.log 2 : ℝ) : EReal) := funext hx
  rw [max_eq_right bot_le, zero_add, hx', hM, ← softmax_eq_attn hn s v M]
  exact Finset.sum_congr rfl fun k _ => mul_comm _ _

end Cert.Softmax

end
-- ==== Proof.BlockValue.lean ====
/- The attention block over the extended reals: whichever quotient the body takes, its output block holds the average
   of the values under the weights `2^(q·k)`, as long as the queries and keys are finite, the key tail's first lane is
   one (it meets the bound), and the value tail is one (it sums the weights). -/
module

public import proofs.«01_k».proof.Proof.Reads
public import proofs.«01_k».proof.Proof.ReadsOnline
public import proofs.«01_k».proof.Proof.Softmax
public import Idealize.ShloMosaic.Lib.Pipeline.Value

@[expose] public section
set_option maxRecDepth 16384
noncomputable section
namespace Cert.KernelIdeal.Body
open Cert.KernelIdeal.Gen Cert.Softmax
open Idealize.ShloMosaic
open Finset (range)

/-! ## Loads and stores of pieces -/

/-- A load of whole rows' first lanes, at an index. -/
theorem ld_rows {A B : ℕ} {o : ℕ} (x : Vec Ideal S1x8448x256 .bf16)
    (inb : ∀ a, (![0, o, 0] : Fin 3 → ℕ) a + (![1, A, B] : Fin 3 → ℕ) a ≤ S1x8448x256.size a) (n : Fin A) (d : Fin B)
    (hn : o + n.val < 8448) (hd : d.val < 256) :
    View.ld x (Rect.unit (s := S1x8448x256) ![0, o, 0] ![1, A, B] inb) (ix3 (n0 := 1) (n1 := A) (n2 := B) 0 n d)
      = x (ix3 0 ⟨o + n.val, hn⟩ ⟨d.val, hd⟩) := by
  refine congrArg x (funext fun a => Fin.ext ?_)
  fin_cases a
  · rfl
  · show o + 1 * n.val = o + n.val
    omega
  · show 0 + 1 * d.val = d.val
    omega

/-- Row `n` of a key or value block, lane `d`. -/
def key (x : Vec Ideal S1x8448x256 .bf16) (n : ℕ) (d : Fin 256) : EReal := x (ix3 0 ⟨n % 8448, Nat.mod_lt _ (by decide)⟩ d)

theorem key_of_lt (x : Vec Ideal S1x8448x256 .bf16) {n : ℕ} (hn : n < 8448) (d : Fin 256) :
    (x (ix3 0 ⟨n, hn⟩ d) : EReal) = key x n d :=
  congrArg x (congrArg (fun j => ix3 0 j d) (Fin.ext (Nat.mod_eq_of_lt hn).symm))

theorem rowsC_apply (x : Vec Ideal S1x8448x256 .bf16) (n : Fin 256) (d : Fin 256) : (rowsC x (ix3 0 n d) : EReal) = key x n.val d := by
  have hn := n.isLt
  rw [← key_of_lt x (by omega)]
  exact (ld_rows x _ n d (by omega) d.isLt).trans (congrArg x (congrArg (fun j => ix3 0 j d) (Fin.ext (Nat.zero_add _))))

theorem rows0_apply (x : Vec Ideal S1x8448x256 .bf16) (n : Fin 2304) (d : Fin 256) : (rows0 x (ix3 0 n d) : EReal) = key x n.val d := by
  have hn := n.isLt
  rw [← key_of_lt x (by omega)]
  exact (ld_rows x _ n d (by omega) d.isLt).trans (congrArg x (congrArg (fun j => ix3 0 j d) (Fin.ext (Nat.zero_add _))))

theorem rows1_apply (x : Vec Ideal S1x8448x256 .bf16) (n : Fin 2048) (d : Fin 256) :
    (rows1 x (ix3 0 n d) : EReal) = key x (2304 + n.val) d := by
  have hn := n.isLt
  rw [← key_of_lt x (by omega)]
  exact ld_rows x _ n d (by omega) d.isLt

theorem rows2_apply (x : Vec Ideal S1x8448x256 .bf16) (n : Fin 2048) (d : Fin 256) :
    (rows2 x (ix3 0 n d) : EReal) = key x (4352 + n.val) d := by
  have hn := n.isLt
  rw [← key_of_lt x (by omega)]
  exact ld_rows x _ n d (by omega) d.isLt

theorem rows3_apply (x : Vec Ideal S1x8448x256 .bf16) (n : Fin 2048) (d : Fin 256) :
    (rows3 x (ix3 0 n d) : EReal) = key x (6400 + n.val) d := by
  have hn := n.isLt
  rw [← key_of_lt x (by omega)]
  exact ld_rows x _ n d (by omega) d.isLt

theorem headC_apply (x : Vec Ideal S1x8448x256 .bf16) (n : Fin 256) (d : Fin 128) :
    (headC x (ix3 0 n d) : EReal) = key x n.val ⟨d.val, by omega⟩ := by
  have hn := n.isLt
  have hd := d.isLt
  rw [← key_of_lt x (by omega)]
  exact (ld_rows x _ n d (by omega) (by omega)).trans
    (congrArg x (congrArg (fun j => ix3 0 j _) (Fin.ext (Nat.zero_add _))))

theorem headL_apply (x : Vec Ideal S1x8448x256 .bf16) (k : ℕ) (n : Fin 2048) (d : Fin 128) :
    (headL x k (ix3 0 n d) : EReal) = key x (256 + 2048 * k + n.val) ⟨d.val, by omega⟩ := by
  unfold headL key
  rw [← ix3_eq_valueIdx]
  rfl

/-- What the stacked queries hold. -/
def qsG (x0 : Vec Ideal S1x256x512 .bf16) (x3 x4 : Vec Ideal S1x128 .f32) : Vec Ideal S1024x256 .bf16 := fun y =>
  if h : (y 1).val < 128 then
    x0 (ix3 0 ⟨(y 0).val % 256, Nat.mod_lt _ (by decide)⟩
      ⟨128 * ((y 0).val / 256) + (y 1).val, by have h0 : (y 0).val < 1024 := (y 0).isLt; omega⟩)
  else k0_pay51 x3 x4 (ix2 0 ⟨((y 1).val - 128) % 128, Nat.mod_lt _ (by decide)⟩)

theorem qsG_head (x0 : Vec Ideal S1x256x512 .bf16) (x3 x4 : Vec Ideal S1x128 .f32) (o : ℕ) (h : Fin 4) (ho : o = 256 * h.val)
    (inb : ∀ a, (![o, 0] : Fin 2 → ℕ) a + S256x128.size a ≤ S1024x256.size a) (p : Vec Ideal S256x128 .bf16)
    (hp : ∀ (r : Fin 256) (d : Fin 128), p (ix2 r d) = x0 (ix3 0 r ⟨128 * h.val + d.val, by omega⟩)) (x : S256x128.Idx) :
    p x = qsG x0 x3 x4 ((Rect.unit (s := S1024x256) ![o, 0] S256x128.size inb).emb x) := by
  obtain ⟨r, d, rfl⟩ : ∃ (r : Fin 256) (d : Fin 128), x = ix2 r d := ⟨x 0, x 1, eq_ix2 x⟩
  have e0 : ((Rect.unit (s := S1024x256) ![o, 0] S256x128.size inb).emb (ix2 r d) 0).val = o + r.val :=
    congrArg (o + ·) (Nat.one_mul _)
  have e1 : ((Rect.unit (s := S1024x256) ![o, 0] S256x128.size inb).emb (ix2 r d) 1).val = d.val :=
    (congrArg (0 + ·) (Nat.one_mul _)).trans (Nat.zero_add _)
  have hr := r.isLt
  have hd := d.isLt
  unfold qsG
  rw [dif_pos (by rw [e1]; exact hd), hp]
  refine congrArg x0 ?_
  congr 1
  · exact Fin.ext (by show r.val = _ % 256; rw [e0]; omega)
  · exact Fin.ext (by show 128 * h.val + d.val = 128 * (_ / 256) + _; rw [e0, e1]; omega)

theorem qsG_tail (x0 : Vec Ideal S1x256x512 .bf16) (x3 x4 : Vec Ideal S1x128 .f32) (o : ℕ)
    (inb : ∀ a, (![o, 128] : Fin 2 → ℕ) a + S256x128.size a ≤ S1024x256.size a) (p : Vec Ideal S256x128 .bf16)
    (hp : ∀ (r : Fin 256) (d : Fin 128), p (ix2 r d) = k0_pay51 x3 x4 (ix2 0 d)) (x : S256x128.Idx) :
    p x = qsG x0 x3 x4 ((Rect.unit (s := S1024x256) ![o, 128] S256x128.size inb).emb x) := by
  obtain ⟨r, d, rfl⟩ : ∃ (r : Fin 256) (d : Fin 128), x = ix2 r d := ⟨x 0, x 1, eq_ix2 x⟩
  have e1 : ((Rect.unit (s := S1024x256) ![o, 128] S256x128.size inb).emb (ix2 r d) 1).val = 128 + d.val :=
    congrArg (128 + ·) (Nat.one_mul _)
  have hd := d.isLt
  unfold qsG
  rw [dif_neg (by rw [e1]; omega), hp]
  refine congrArg (k0_pay51 x3 x4) ?_
  congr 1
  exact Fin.ext (by show d.val = (_ - 128) % 128; rw [e1]; omega)

theorem qs_eq (x0 : Vec Ideal S1x256x512 .bf16) (x3 x4 : Vec Ideal S1x128 .f32) : qs x0 x3 x4 = qsG x0 x3 x4 := by
  funext y
  refine View.canon_apply_of_pieces (qsG x0 x3 x4) (qsL x0 x3 x4) ?_ y ?_
  · intro p hp
    simp only [qsL, List.mem_cons, List.not_mem_nil, or_false] at hp
    rcases hp with rfl | rfl | rfl | rfl | rfl | rfl | rfl | rfl
    · exact qsG_tail x0 x3 x4 768 inb_S1024x256_S256x128_768_128 _ (pay60_apply (k0_pay51 x3 x4))
    · exact qsG_head x0 x3 x4 768 3 rfl inb_S1024x256_S256x128_768_0 _ (pay59_apply x0)
    · exact qsG_tail x0 x3 x4 512 inb_S1024x256_S256x128_512_128 _ (pay58_apply (k0_pay51 x3 x4))
    · exact qsG_head x0 x3 x4 512 2 rfl inb_S1024x256_S256x128_512_0 _ (pay57_apply x0)
    · exact qsG_tail x0 x3 x4 256 inb_S1024x256_S256x128_256_128 _ (pay56_apply (k0_pay51 x3 x4))
    · exact qsG_head x0 x3 x4 256 1 rfl inb_S1024x256_S256x128_256_0 _ (pay55_apply x0)
    · exact qsG_tail x0 x3 x4 0 inb_S1024x256_S256x128_0_128 _ (pay53_apply x3 x4)
    · exact qsG_head x0 x3 x4 0 0 rfl inb_S1024x256_S256x128_0_0 _ fun r d => (pay52_apply x0 r d).trans
        (congrArg x0 (congrArg (ix3 0 r) (Fin.ext (Nat.zero_add _).symm)))
  · have h0 : (y 0).val < 1024 := (y 0).isLt
    have h1 : (y 1).val < 256 := (y 1).isLt
    simp only [qsL, List.exists_mem_cons_iff, Rect.mem_set_unit, Fin.forall_fin_two, List.not_mem_nil, false_and,
      exists_false, or_false]
    simp only [S256x128, Matrix.cons_val_zero, Matrix.cons_val_one]
    omega

theorem qs_lane (x0 : Vec Ideal S1x256x512 .bf16) (x3 x4 : Vec Ideal S1x128 .f32) (r : Fin 1024) (d : Fin 128) :
    qs x0 x3 x4 (ix2 r ⟨d.val, by omega⟩)
      = x0 (ix3 0 ⟨r.val % 256, Nat.mod_lt _ (by decide)⟩ ⟨128 * (r.val / 256) + d.val, by omega⟩) := by
  rw [qs_eq]
  exact dif_pos d.isLt

theorem qs_tail (x0 : Vec Ideal S1x256x512 .bf16) (x3 x4 : Vec Ideal S1x128 .f32) (r : Fin 1024) (d : Fin 128) :
    qs x0 x3 x4 (ix2 r ⟨128 + d.val, by omega⟩) = k0_pay51 x3 x4 (ix2 0 d) := by
  rw [qs_eq]
  refine (dif_neg (show ¬ 128 + d.val < 128 by omega)).trans (congrArg (k0_pay51 x3 x4) (congrArg (ix2 0) (Fin.ext ?_)))
  show (128 + d.val - 128) % 128 = d.val
  omega

theorem qHead_apply (x0 : Vec Ideal S1x256x512 .bf16) (x3 x4 : Vec Ideal S1x128 .f32) (r : Fin 1024) (d : Fin 128) :
    qHead x0 x3 x4 (ix2 r d)
      = x0 (ix3 0 ⟨r.val % 256, Nat.mod_lt _ (by decide)⟩ ⟨128 * (r.val / 256) + d.val, by omega⟩) := by
  rw [← qs_lane x0 x3 x4 r d]
  refine congrArg (qs x0 x3 x4) (funext fun a => Fin.ext ?_)
  fin_cases a
  · show 0 + 1 * r.val = r.val
    omega
  · show 0 + 1 * d.val = d.val
    omega

/-! ## The output block from the stacked quotient -/

/-- Head `h`'s row `a` of the output block is row `256 h + a` of the stacked quotient. -/
def outG (r : FVec Ideal S1024x128 .f32) : Vec Ideal S1x256x512 .bf16 := fun y =>
  r (ix2 ⟨256 * ((y 2).val / 128) + (y 1).val, by
      have h1 : (y 1).val < 256 := (y 1).isLt
      have h2 : (y 2).val < 512 := (y 2).isLt
      omega⟩ ⟨(y 2).val % 128, Nat.mod_lt _ (by decide)⟩)

theorem outG_piece (q : FVec Ideal S1024x128 .f32) (o : ℕ) (h : Fin 4) (ho : o = 128 * h.val)
    (inb : ∀ a, (![0, 0, o] : Fin 3 → ℕ) a + S1x256x128.size a ≤ S1x256x512.size a) (p : Vec Ideal S1x256x128 .bf16)
    (hp : ∀ (r : Fin 256) (d : Fin 128), p (ix3 0 r d) = q (ix2 ⟨256 * h.val + r.val, by omega⟩ d)) (x : S1x256x128.Idx) :
    p x = outG q ((Rect.unit (s := S1x256x512) ![0, 0, o] S1x256x128.size inb).emb x) := by
  obtain ⟨z, r, d, rfl⟩ : ∃ (z : Fin 1) (r : Fin 256) (d : Fin 128), x = ix3 z r d := ⟨x 0, x 1, x 2, eq_ix3 x⟩
  have hz : z = 0 := Subsingleton.elim _ _
  subst hz
  have e1 : ((Rect.unit (s := S1x256x512) ![0, 0, o] S1x256x128.size inb).emb (ix3 0 r d) 1).val = r.val :=
    (congrArg (0 + ·) (Nat.one_mul _)).trans (Nat.zero_add _)
  have e2 : ((Rect.unit (s := S1x256x512) ![0, 0, o] S1x256x128.size inb).emb (ix3 0 r d) 2).val = o + d.val :=
    congrArg (o + ·) (Nat.one_mul _)
  have hd := d.isLt
  unfold outG
  rw [hp]
  refine congrArg q ?_
  congr 1
  · exact Fin.ext (by show 256 * h.val + r.val = 256 * (_ / 128) + _; rw [e1, e2]; omega)
  · exact Fin.ext (by show d.val = _ % 128; rw [e2]; omega)

theorem out_eq (q : FVec Ideal S1024x128 .f32) : View.canon (outL q) = outG q := by
  funext y
  refine View.canon_apply_of_pieces (outG q) (outL q) ?_ y ?_
  · intro p hp
    simp only [outL, List.mem_cons, List.not_mem_nil, or_false] at hp
    rcases hp with rfl | rfl | rfl | rfl
    · exact outG_piece q 384 3 rfl inb_S1x256x512_S1x256x128_0_0_384 _ (pay10_apply q)
    · exact outG_piece q 256 2 rfl inb_S1x256x512_S1x256x128_0_0_256 _ (pay9_apply q)
    · refine outG_piece q 128 1 rfl inb_S1x256x512_S1x256x128_0_0_128 _ fun r d =>
        (pay8_apply (truncf .bf16 (extractStridedSlice S256x128 ![256, 0] q slices_S1024x128_o256_0_S256x128) bitsLt_bf16_f32) r d).trans ?_
      pointwise
    · refine outG_piece q 0 0 rfl inb_S1x256x512_S1x256x128_0_0_0 _ fun r d =>
        (pay8_apply (truncf .bf16 (extractStridedSlice S256x128 ![0, 0] q slices_S1024x128_o0_0_S256x128) bitsLt_bf16_f32) r d).trans ?_
      pointwise
  · have h0 : (y 0).val < 1 := (y 0).isLt
    have h1 : (y 1).val < 256 := (y 1).isLt
    have h2 : (y 2).val < 512 := (y 2).isLt
    simp only [outL, List.exists_mem_cons_iff, Rect.mem_set_unit, Fin.forall_fin_succ, List.not_mem_nil, false_and,
      exists_false, or_false]
    simp [S1x256x128]
    omega

end Cert.KernelIdeal.Body
end
-- ==== Proof.BlockAttn.lean ====
/- The attention block's value: both quotients are the average of the values under the weights `2^(q·k)`. -/
module

public import proofs.«01_k».proof.Proof.BlockValue

@[expose] public section
set_option maxRecDepth 16384
noncomputable section
namespace Cert.KernelIdeal.Body
open Cert.KernelIdeal.Gen Cert.Softmax
open Idealize.ShloMosaic
open Finset (range)

/-- What the block asks of its queries, keys and values. -/
structure Prepared (x0 : Vec Ideal S1x256x512 .bf16) (x1 x2 : Vec Ideal S1x8448x256 .bf16) : Prop where
  /-- the queries are finite, -/
  q_fin : ∀ (r : Fin 256) (d : Fin 512), ∃ t : ℝ, (x0 (ix3 0 r d) : EReal) = t
  /-- the keys' 128 lanes are finite, -/
  k_fin : ∀ (n : Fin 8448) (d : Fin 256), d.val < 128 → ∃ t : ℝ, (x1 (ix3 0 n d) : EReal) = t
  /-- the first lane of their tail is one, -/
  k_one : ∀ n : Fin 8448, (x1 (ix3 0 n 128) : EReal) = 1
  /-- and so is the values' tail. -/
  v_one : ∀ (n : Fin 8448) (d : Fin 256), 128 ≤ d.val → (x2 (ix3 0 n d) : EReal) = 1

/-- The score of stacked query row `r` and key `n`. -/
def score (x0 : Vec Ideal S1x256x512 .bf16) (x1 : Vec Ideal S1x8448x256 .bf16) (r : Fin 1024) (n : ℕ) : ℝ :=
  ∑ d : Fin 128, (x0 (ix3 0 ⟨r.val % 256, Nat.mod_lt _ (by decide)⟩ ⟨128 * (r.val / 256) + d.val, by omega⟩) : EReal).toReal
    * (key x1 n ⟨d.val, by omega⟩).toReal

variable {x0 : Vec Ideal S1x256x512 .bf16} {x1 x2 : Vec Ideal S1x8448x256 .bf16} {x3 x4 : Vec Ideal S1x128 .f32}

theorem score_eq (h : Prepared x0 x1 x2) (r : Fin 1024) (n : ℕ) :
    ∑ d : Fin 128, (x0 (ix3 0 ⟨r.val % 256, Nat.mod_lt _ (by decide)⟩ ⟨128 * (r.val / 256) + d.val, by omega⟩) : EReal)
      * key x1 n ⟨d.val, by omega⟩ = (score x0 x1 r n : EReal) := by
  unfold score
  rw [coe_sum_fin]
  refine Finset.sum_congr rfl fun d _ => ?_
  obtain ⟨a, ha⟩ := h.q_fin ⟨r.val % 256, Nat.mod_lt _ (by decide)⟩ ⟨128 * (r.val / 256) + d.val, by omega⟩
  obtain ⟨b, hb⟩ := h.k_fin ⟨n % 8448, Nat.mod_lt _ (by decide)⟩ ⟨d.val, by omega⟩ d.isLt
  rw [key, ha, hb, EReal.toReal_coe, EReal.toReal_coe, EReal.coe_mul]

/-! ## Without a running maximum -/

/-- The score with the bound taken off, as the contraction over all 256 lanes forms it. -/
theorem full_score (h : Prepared x0 x1 x2) (r : Fin 1024) (n : ℕ) :
    ∑ d : Fin 256, (qs x0 x3 x4 (ix2 r d) : EReal) * key x1 n d = (score x0 x1 r n : EReal) + k0_pay51 x3 x4 (ix2 0 0) := by
  refine (Fin.sum_univ_add (a := 128) (b := 128) (fun d => (qs x0 x3 x4 (ix2 r d) : EReal) * key x1 n d)).trans ?_
  rw [← score_eq h r n]
  refine congrArg₂ (· + ·) (Finset.sum_congr rfl fun d _ => ?_) ?_
  · exact congrArg (· * key x1 n ⟨d.val, by omega⟩) (qs_lane x0 x3 x4 r d)
  · refine (Finset.sum_eq_single (0 : Fin 128) (fun d _ hd => ?_) fun hn => absurd (Finset.mem_univ _) hn).trans ?_
    · refine (congrArg (· * key x1 n ⟨128 + d.val, by omega⟩) (qs_tail x0 x3 x4 r d)).trans ?_
      show (k0_pay51 x3 x4 (ix2 0 d) : EReal) * _ = 0
      rw [pay51_pos x3 x4 d (fun e => hd (Fin.ext e)), zero_mul]
    · refine (congrArg (· * key x1 n ⟨128 + 0, by omega⟩) (qs_tail x0 x3 x4 r 0)).trans ?_
      have e : key x1 n ⟨128 + 0, by omega⟩ = 1 := h.k_one _
      show (k0_pay51 x3 x4 (ix2 0 0) : EReal) * _ = _
      rw [e, mul_one]

/-- One key's term of the accumulator. -/
def term (x0 : Vec Ideal S1x256x512 .bf16) (x1 x2 : Vec Ideal S1x8448x256 .bf16) (x3 x4 : Vec Ideal S1x128 .f32)
    (r : Fin 1024) (c : Fin 256) (n : ℕ) : EReal :=
  Ideal.exp2 (∑ d : Fin 256, (qs x0 x3 x4 (ix2 r d) : EReal) * key x1 n d) * key x2 n c

theorem accCtx_apply (r : Fin 1024) (c : Fin 256) :
    (accCtx x0 x1 x2 x3 x4 (ix2 r c) : EReal) = ∑ n ∈ range 256, term x0 x1 x2 x3 x4 r c n := by
  rw [Finset.sum_range]
  refine (pay61_apply _ _ _ r c).trans (Finset.sum_congr rfl fun k _ => ?_)
  unfold term
  rw [rowsC_apply]
  refine congrArg (fun z => Ideal.exp2 z * key x2 k.val c) (Finset.sum_congr rfl fun d _ => ?_)
  rw [rowsC_apply]

theorem accLat_apply (r : Fin 1024) (c : Fin 256) :
    (accLat x0 x1 x2 x3 x4 (ix2 r c) : EReal) = ∑ n ∈ range 8448, term x0 x1 x2 x3 x4 r c n := by
  rw [show 8448 = 2304 + 2048 + 2048 + 2048 from rfl, Finset.sum_range_add, Finset.sum_range_add, Finset.sum_range_add]
  unfold accLat
  rw [pay63_apply, pay18_apply, pay16_apply, pay13_apply, Finset.sum_range, Finset.sum_range, Finset.sum_range, Finset.sum_range]
  unfold term
  refine congrArg₂ (· + ·) (congrArg₂ (· + ·) (congrArg₂ (· + ·) ?_ ?_) ?_) ?_
  · refine Finset.sum_congr rfl fun k _ => ?_
    rw [pay11_apply, rows0_apply]
    simp only [rows0_apply]
  · refine Finset.sum_congr rfl fun k _ => ?_
    rw [pay12_apply, rows1_apply]
    simp only [rows1_apply]
  · refine Finset.sum_congr rfl fun k _ => ?_
    rw [pay14_apply, rows2_apply]
    simp only [rows2_apply]
  · refine Finset.sum_congr rfl fun k _ => ?_
    rw [pay17_apply, rows3_apply]
    simp only [rows3_apply]

/-- The smallest denominator accepted is positive. -/
theorem floor_pos : (0 : EReal) < Ideal.ofBits FTy.f32 0x0D800000#32 := by
  simp [Ideal.ofBits, Ideal.ieee, -EReal.coe_mul]

theorem cmp_oge_of_not_le {x y : EReal} (h : ¬ y ≤ x) : Ideal.cmp .oge x y = 0#1 := by
  simp [Ideal.cmp, h]

theorem cmpf_eq (x y : EReal) : Scalar.cmpf (F := Ideal) (φ := .f32) .oge x y = Ideal.cmp .oge x y := rfl
theorem ofBits_eq (b : BitVec 32) : (Scalar.ofBits .f32 b : Ideal .f32) = Ideal.ofBits .f32 b := rfl

/-- An accepted accumulator has every denominator at least that. -/
theorem le_of_not_bad {a : Vec Ideal S1024x256 .f32} (h : ¬ isBad a) : Ideal.ofBits FTy.f32 0x0D800000#32 ≤ (k0_pay7 a : EReal) := by
  by_contra hn
  refine h ?_
  unfold isBad
  have e : Scalar.cmpf .oge (k0_pay7 a) (Scalar.ofBits .f32 0x0D800000#32 : Ideal .f32) = 0#1 := by
    rw [ofBits_eq, cmpf_eq]
    exact cmp_oge_of_not_le hn
  rw [e]
  rfl

/-- The accepted quotient. -/
theorem quot_good (h : Prepared x0 x1 x2) {N : ℕ} (hN : 0 < N) {a : Vec Ideal S1024x256 .f32}
    (ha : ∀ r c, (a (ix2 r c) : EReal) = ∑ n ∈ range N, term x0 x1 x2 x3 x4 r c n) (hb : ¬ isBad a) (r : Fin 1024)
    (d : Fin 128) :
    (k0_pay2 a (ix2 r d) : EReal) = attn N (score x0 x1 r) (fun n => key x2 n ⟨d.val, by omega⟩) := by
  obtain ⟨B, hB0, hB⟩ := pay51_zero x3 x4
  have hv : ∀ n (c : Fin 128), key x2 n ⟨128 + c.val, by omega⟩ = 1 := fun n c => h.v_one _ _ (by show 128 ≤ 128 + c.val; omega)
  rw [pay2_apply]
  induction B using EReal.rec with
  | bot => exact absurd hB0 (by simp)
  | top =>
    exfalso
    have hz : (a (ix2 r ⟨128, by omega⟩) : EReal) = 0 := by
      rw [ha]
      refine Finset.sum_eq_zero fun n _ => ?_
      unfold term
      rw [full_score h, hB]
      have e : (score x0 x1 r n : EReal) + (0 - ⊤) = ⊥ := by rw [zero_sub, EReal.neg_top, EReal.add_bot]
      rw [e, Ideal.exp2_bot, zero_mul]
    exact absurd (hz ▸ (le_of_not_bad hb).trans (pay7_le a r)) (not_le.mpr floor_pos)
  | coe b =>
    have ht : ∀ c n, term x0 x1 x2 x3 x4 r c n = Ideal.exp2 ((score x0 x1 r n : EReal) - (b : EReal)) * key x2 n c := fun c n => by
      unfold term
      rw [full_score h, hB, zero_sub, sub_eq_add_neg]
    rw [ha, ha]
    have h1 : ∑ n ∈ range N, term x0 x1 x2 x3 x4 r ⟨d.val, by omega⟩ n
        = wsum N (fun n => (2 : ℝ) ^ (score x0 x1 r n - b)) (fun n => key x2 n ⟨d.val, by omega⟩) := by
      rw [← sum_exp2_mul, Finset.sum_range]
      exact Finset.sum_congr rfl fun n _ => ht _ _
    have h2 : ∑ n ∈ range N, term x0 x1 x2 x3 x4 r ⟨128 + d.val, by omega⟩ n
        = ((total N (fun n => score x0 x1 r n - b) : ℝ) : EReal) := by
      rw [← sum_exp2, Finset.sum_range]
      exact Finset.sum_congr rfl fun n _ => by rw [ht, hv, mul_one]
    rw [h1, h2, quotient_eq_attn hN]

/-! ## With one -/

theorem pay35_eq (h : Prepared x0 x1 x2) (r : Fin 1024) (n : Fin 256) :
    (k0_pay35 (headC x1) (qHead x0 x3 x4) (ix2 r n) : EReal) = (score x0 x1 r n.val : EReal) := by
  rw [pay35_apply, ← score_eq h]
  exact Finset.sum_congr rfl fun d _ => by rw [qHead_apply, headC_apply]

theorem pay19_eq (h : Prepared x0 x1 x2) (r : Fin 1024) (k : ℕ) (n : Fin 2048) :
    (k0_pay19 (headL x1 k) (qHead x0 x3 x4) (ix2 r n) : EReal) = (score x0 x1 r (256 + 2048 * k + n.val) : EReal) := by
  rw [pay19_apply, ← score_eq h]
  exact Finset.sum_congr rfl fun d _ => by rw [qHead_apply, headL_apply]

/-- After `n` latent chunks the online softmax has seen the context and those. -/
theorem online_seen (h : Prepared x0 x1 x2) (r : Fin 1024) (n : ℕ) : ∃ M : ℝ, ∀ d : Fin 128,
    Seen (256 + 2048 * n) (score x0 x1 r) (fun k => key x2 k ⟨d.val, by omega⟩) ((online x0 x1 x2 x3 x4 n).m (ix2 r 0))
      ((online x0 x1 x2 x3 x4 n).l (ix2 r 0)) ((online x0 x1 x2 x3 x4 n).acc (ix2 r d)) M := by
  induction n with
  | zero =>
    obtain ⟨M, hM⟩ := seen_first (c := 256) (by decide) (score x0 x1 r)
    refine ⟨M, fun d => ?_⟩
    have hmax : (k0_pay36 (headC x1) (qHead x0 x3 x4) (k0_pay31 (F := Ideal)) (ix2 r 0) : EReal) = max ⊥ (chunkMax 256 0 (score x0 x1 r)) := by
      refine (pay36_apply _ _ _ r).trans (congrArg₂ max (pay31_apply r) ?_)
      refine congrArg (fun f => Finset.fold max ⊥ f Finset.univ) (funext fun k => ?_)
      refine (pay35_eq h r k).trans ?_
      rw [Nat.zero_add]
    have hm : ((online x0 x1 x2 x3 x4 0).m (ix2 r 0) : EReal) = max ⊥ (chunkMax 256 0 (score x0 x1 r)) := by
      unfold online online0
      dsimp only
      rw [pay42_apply]
      exact hmax
    have hl : ((online x0 x1 x2 x3 x4 0).l (ix2 r 0) : EReal)
        = Ideal.exp2 (⊥ - max ⊥ (chunkMax 256 0 (score x0 x1 r))) * 0
          + ∑ k : Fin 256, Ideal.exp2 (((score x0 x1 r k : ℝ) : EReal) - max ⊥ (chunkMax 256 0 (score x0 x1 r))) := by
      refine (pay39_apply _ _ _ _ r).trans ?_
      rw [pay37_apply, pay31_apply, pay32_apply, hmax]
      exact congrArg (_ + ·) (Finset.sum_congr rfl fun k _ => by rw [pay38_apply, pay35_eq h, hmax])
    have hz : ((View.ld (k0_pay33 (F := Ideal)) rHead : Vec Ideal S1024x128 .f32) (ix2 r d) : EReal) = 0 := by
      refine Eq.trans ?_ (pay33_apply r ⟨d.val, by omega⟩)
      refine congrArg (k0_pay33 (F := Ideal)) (funext fun a => Fin.ext ?_)
      fin_cases a
      · show 0 + 1 * r.val = r.val
        omega
      · show 0 + 1 * d.val = d.val
        omega
    have ha : ((online x0 x1 x2 x3 x4 0).acc (ix2 r d) : EReal)
        = Ideal.exp2 (⊥ - max ⊥ (chunkMax 256 0 (score x0 x1 r))) * 0
          + ∑ k : Fin 256, Ideal.exp2 (((score x0 x1 r k : ℝ) : EReal) - max ⊥ (chunkMax 256 0 (score x0 x1 r)))
            * key x2 k ⟨d.val, by omega⟩ := by
      refine (pay41_apply _ _ _ _ r d).trans ?_
      rw [pay37_apply, pay31_apply, hz, hmax]
      exact congrArg (_ + ·) (Finset.sum_congr rfl fun k _ => by rw [pay38_apply, pay35_eq h, hmax, headC_apply])
    rw [hm, hl, ha]
    exact hM _
  | succ n ih =>
    obtain ⟨M, ih⟩ := ih
    obtain ⟨M', hM⟩ := seen_step (n := 256 + 2048 * n) (c := 2048) (by decide) (score x0 x1 r)
      ((online x0 x1 x2 x3 x4 n).m (ix2 r 0)) ((online x0 x1 x2 x3 x4 n).l (ix2 r 0)) M
    refine ⟨M', fun d => ?_⟩
    have hs := hM _ _ (ih d)
    have hmax : (k0_pay20 (headL x1 n) (qHead x0 x3 x4) (online x0 x1 x2 x3 x4 n).m (ix2 r 0) : EReal)
        = max ((online x0 x1 x2 x3 x4 n).m (ix2 r 0)) (chunkMax 2048 (256 + 2048 * n) (score x0 x1 r)) := by
      refine (pay20_apply _ _ _ r).trans (congrArg (max _) ?_)
      exact congrArg (fun f => Finset.fold max ⊥ f Finset.univ) (funext fun k => pay19_eq h r n k)
    have hm : ((online x0 x1 x2 x3 x4 (n + 1)).m (ix2 r 0) : EReal)
        = max ((online x0 x1 x2 x3 x4 n).m (ix2 r 0)) (chunkMax 2048 (256 + 2048 * n) (score x0 x1 r)) :=
      (pay44_apply _ r).trans hmax
    have hl : ((online x0 x1 x2 x3 x4 (n + 1)).l (ix2 r 0) : EReal)
        = Ideal.exp2 ((online x0 x1 x2 x3 x4 n).m (ix2 r 0)
            - max ((online x0 x1 x2 x3 x4 n).m (ix2 r 0)) (chunkMax 2048 (256 + 2048 * n) (score x0 x1 r)))
            * (online x0 x1 x2 x3 x4 n).l (ix2 r 0)
          + ∑ k : Fin 2048, Ideal.exp2 (((score x0 x1 r (256 + 2048 * n + k.val) : ℝ) : EReal)
            - max ((online x0 x1 x2 x3 x4 n).m (ix2 r 0)) (chunkMax 2048 (256 + 2048 * n) (score x0 x1 r))) := by
      refine (pay23_apply (headL x1 n) (qHead x0 x3 x4) (online x0 x1 x2 x3 x4 n).m (online x0 x1 x2 x3 x4 n).l r).trans ?_
      rw [pay21_apply, hmax]
      exact congrArg (_ + ·) (Finset.sum_congr rfl fun k _ => by rw [pay22_apply, pay19_eq h, hmax])
    have ha : ((online x0 x1 x2 x3 x4 (n + 1)).acc (ix2 r d) : EReal)
        = Ideal.exp2 ((online x0 x1 x2 x3 x4 n).m (ix2 r 0)
            - max ((online x0 x1 x2 x3 x4 n).m (ix2 r 0)) (chunkMax 2048 (256 + 2048 * n) (score x0 x1 r)))
            * (online x0 x1 x2 x3 x4 n).acc (ix2 r d)
          + ∑ k : Fin 2048, Ideal.exp2 (((score x0 x1 r (256 + 2048 * n + k.val) : ℝ) : EReal)
            - max ((online x0 x1 x2 x3 x4 n).m (ix2 r 0)) (chunkMax 2048 (256 + 2048 * n) (score x0 x1 r))) * key x2 (256 + 2048 * n + k.val) ⟨d.val, by omega⟩ := by
      refine (pay24_apply (headL x1 n) (headL x2 n) (qHead x0 x3 x4) (online x0 x1 x2 x3 x4 n).m
        (online x0 x1 x2 x3 x4 n).acc r d).trans ?_
      rw [pay21_apply, hmax]
      exact congrArg (_ + ·) (Finset.sum_congr rfl fun k _ => by rw [pay22_apply, pay19_eq h, hmax, headL_apply])
    rw [hm, hl, ha]
    exact hs

/-- The fallback's quotient. -/
theorem quot_bad (h : Prepared x0 x1 x2) (n : ℕ) (r : Fin 1024) (d : Fin 128) :
    (k0_pay47 (online x0 x1 x2 x3 x4 n).acc (online x0 x1 x2 x3 x4 n).l (ix2 r d) : EReal)
      = attn (256 + 2048 * n) (score x0 x1 r) (fun k => key x2 k ⟨d.val, by omega⟩) := by
  obtain ⟨M, hM⟩ := online_seen (x3 := x3) (x4 := x4) h r n
  rw [pay47_apply]
  exact seen_quotient (by omega) (hM d)

/-! ## The block -/

/-- How many keys a tile's queries see. -/
def keys (i : grid0.Coords) : ℕ :=
  haveI := Classical.propDecidable (isCtx i)
  if isCtx i then 256 else 8448

theorem outBlk_apply (h : Prepared x0 x1 x2) (i : grid0.Coords) (y : S1x256x512.Idx) :
    (outBlk i x0 x1 x2 x3 x4 y : EReal)
      = attn (keys i) (score x0 x1 ⟨256 * ((y 2).val / 128) + (y 1).val, by
          have h1 : (y 1).val < 256 := (y 1).isLt
          have h2 : (y 2).val < 512 := (y 2).isLt
          omega⟩) (fun n => key x2 n ⟨(y 2).val % 128, by omega⟩) := by
  unfold outBlk keys
  rw [out_eq]
  unfold outG
  by_cases hc : isCtx i
  · rw [if_pos hc, if_pos hc]
    unfold quot
    split
    · exact quot_bad h 0 _ _
    · exact quot_good h (by decide) accCtx_apply ‹_› _ _
  · rw [if_neg hc, if_neg hc]
    unfold quot
    split
    · exact quot_bad h 4 _ _
    · exact quot_good h (by decide) accLat_apply ‹_› _ _

end Cert.KernelIdeal.Body
end
-- ==== Proof.ArrayValue.lean ====
/- The attention's output array: every query row is the average of the values its tile sees, under the weights
   `2^(q·k)`, head by head. -/
module

public import proofs.«01_k».proof.Proof.IdealFrame
public import proofs.«01_k».proof.Proof.BlockAttn
public import Idealize.ShloMosaic.Lib.Pipeline.ValueKit.Geometry

@[expose] public section
set_option maxRecDepth 16384
noncomputable section
namespace Cert.KernelIdeal.Body
open Cert.KernelIdeal.Gen Cert.Softmax
open Idealize.ShloMosaic Idealize.ShloMosaic.TcCoe Idealize.SL.Sem
open Idealize.ShloMosaic.Pipeline (Dat Cfg Window)

/-- The score of query row `i` (batch, row, head's first lane from the lane `i 2`) against key `n`. -/
def scoreAll (q : Vec Ideal S2x8448x2048 .bf16) (k : Vec Ideal S2x8448x1024 .bf16) (i : S2x8448x2048.Idx) (n : ℕ) : ℝ :=
  ∑ d : Fin 128,
    (q (ix3 (i 0) (i 1) ⟨128 * ((i 2).val / 128) + d.val, by have h : (i 2).val < 2048 := (i 2).isLt; omega⟩) : EReal).toReal
    * (k (ix3 (i 0) ⟨n % 8448, Nat.mod_lt _ (by decide)⟩
        ⟨256 * ((i 2).val / 512) + d.val, by have h : (i 2).val < 2048 := (i 2).isLt; omega⟩) : EReal).toReal

/-- Value `n` at the lane of `i`. -/
def valueAll (v : Vec Ideal S2x8448x1024 .bf16) (i : S2x8448x2048.Idx) (n : ℕ) : EReal :=
  v (ix3 (i 0) ⟨n % 8448, Nat.mod_lt _ (by decide)⟩
    ⟨256 * ((i 2).val / 512) + (i 2).val % 128, by have h : (i 2).val < 2048 := (i 2).isLt; omega⟩)

/-- The attention: a context row sees the 256 context rows, a latent row all. -/
def attnAll (q : Vec Ideal S2x8448x2048 .bf16) (k v : Vec Ideal S2x8448x1024 .bf16) : Vec Ideal S2x8448x2048 .bf16 := fun i =>
  attn (if (i 1).val < 256 then 256 else 8448) (scoreAll q k i) (valueAll v i)

/-- What the attention asks of its arrays. -/
structure PreparedAll (q : Vec Ideal S2x8448x2048 .bf16) (k v : Vec Ideal S2x8448x1024 .bf16) : Prop where
  q_fin : ∀ (b : Fin 2) (r : Fin 8448) (d : Fin 2048), ∃ t : ℝ, (q (ix3 b r d) : EReal) = t
  k_fin : ∀ (b : Fin 2) (n : Fin 8448) (d : Fin 1024), d.val % 256 < 128 → ∃ t : ℝ, (k (ix3 b n d) : EReal) = t
  k_one : ∀ (b : Fin 2) (n : Fin 8448) (d : Fin 1024), d.val % 256 = 128 → (k (ix3 b n d) : EReal) = 1
  v_one : ∀ (b : Fin 2) (n : Fin 8448) (d : Fin 1024), 128 ≤ d.val % 256 → (v (ix3 b n d) : EReal) = 1

/-! ## Which blocks a grid point reads and writes -/

theorem index0 : ∀ t : Fin cfg0.N, win0_0.index t = ![(grid0.coords t 0).val, (grid0.coords t 2).val, (grid0.coords t 1).val] :=
  (by decide +kernel : ∀ t : Fin grid0.N, win0_0.index t = ![(grid0.coords t 0).val, (grid0.coords t 2).val, (grid0.coords t 1).val])
theorem index1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem index2 : ∀ t : Fin cfg0.N, win0_2.index t = ![(grid0.coords t 0).val, 0, (grid0.coords t 1).val] :=
  (by decide +kernel : ∀ t : Fin grid0.N, win0_2.index t = ![(grid0.coords t 0).val, 0, (grid0.coords t 1).val])
theorem index5 : ∀ t : Fin cfg0.N, win0_5.index t = ![(grid0.coords t 0).val, (grid0.coords t 2).val, (grid0.coords t 1).val] :=
  (by decide +kernel : ∀ t : Fin grid0.N, win0_5.index t = ![(grid0.coords t 0).val, (grid0.coords t 2).val, (grid0.coords t 1).val])
theorem ctx_iff : ∀ t : Fin cfg0.N, isCtx (grid0.coords t) ↔ (grid0.coords t 2).val = 0 :=
  (by decide +kernel : ∀ t : Fin grid0.N, isCtx (grid0.coords t) ↔ (grid0.coords t 2).val = 0)
theorem coord0_lt (t : Fin cfg0.N) : (grid0.coords t 0).val < 2 := (grid0.coords t 0).isLt
theorem coord1_lt (t : Fin cfg0.N) : (grid0.coords t 1).val < 4 := (grid0.coords t 1).isLt
theorem coord2_lt (t : Fin cfg0.N) : (grid0.coords t 2).val < 33 := (grid0.coords t 2).isLt

variable (m : (ℓ : Loc nD τ sig) → Buf (Elt Ideal) ℓ) (c : Dev nD)

/-- The three arrays as the launch finds them. -/
abbrev qArr : Vec Ideal S2x8448x2048 .bf16 := m ((c : Thread nD τ).loc main_arg0)
abbrev kArr : Vec Ideal S2x8448x1024 .bf16 := m ((c : Thread nD τ).loc main_arg1)
abbrev vArr : Vec Ideal S2x8448x1024 .bf16 := m ((c : Thread nD τ).loc main_arg2)

theorem iblk0_apply (t : Fin cfg0.N) (r : Fin 256) (d : Fin 512) :
    (iblk m c 0 t (ix3 (n0 := 1) (n1 := 256) (n2 := 512) 0 r d) : EReal)
      = qArr m c (ix3 ⟨(grid0.coords t 0).val, coord0_lt t⟩
          ⟨256 * (grid0.coords t 2).val + r.val, by have := coord2_lt t; omega⟩
          ⟨512 * (grid0.coords t 1).val + d.val, by have := coord1_lt t; omega⟩) := by
  unfold qArr
  rw [← V_main_arg0 m c]
  blk_simp [iblk]
  refine congrArg _ ?_
  blk_ext [index0]

theorem iblk1_apply (t : Fin cfg0.N) (n : Fin 8448) (d : Fin 256) :
    (iblk m c 1 t (ix3 (n0 := 1) (n1 := 8448) (n2 := 256) 0 n d) : EReal)
      = kArr m c (ix3 ⟨(grid0.coords t 0).val, coord0_lt t⟩ n
          ⟨256 * (grid0.coords t 1).val + d.val, by have := coord1_lt t; omega⟩) := by
  unfold kArr
  rw [← V_main_arg1 m c]
  blk_simp [iblk]
  refine congrArg _ ?_
  blk_ext [index1]

theorem iblk2_apply (t : Fin cfg0.N) (n : Fin 8448) (d : Fin 256) :
    (iblk m c 2 t (ix3 (n0 := 1) (n1 := 8448) (n2 := 256) 0 n d) : EReal)
      = vArr m c (ix3 ⟨(grid0.coords t 0).val, coord0_lt t⟩ n
          ⟨256 * (grid0.coords t 1).val + d.val, by have := coord1_lt t; omega⟩) := by
  unfold vArr
  rw [← V_main_arg2 m c]
  blk_simp [iblk]
  refine congrArg _ ?_
  blk_ext [index2]

theorem prepared (h : PreparedAll (qArr m c) (kArr m c) (vArr m c)) (t : Fin cfg0.N) :
    Prepared (iblk m c 0 t) (iblk m c 1 t) (iblk m c 2 t) where
  q_fin r d := by rw [iblk0_apply]; exact h.q_fin _ _ _
  k_fin n d hd := by rw [iblk1_apply]; exact h.k_fin _ _ _ (by show (256 * _ + d.val) % 256 < 128; omega)
  k_one n := by rw [iblk1_apply]; exact h.k_one _ _ _ (by show (256 * _ + 128) % 256 = 128; omega)
  v_one n d hd := by rw [iblk2_apply]; exact h.v_one _ _ _ (by have := d.isLt; show 128 ≤ (256 * _ + d.val) % 256; omega)

theorem keys_eq (t : Fin cfg0.N) (r : ℕ) (hr : r < 256) :
    keys (grid0.coords t) = if (grid0.coords t 2).val * 256 + r < 256 then 256 else 8448 := by
  unfold keys
  by_cases hc : isCtx (grid0.coords t)
  · have := (ctx_iff t).mp hc
    rw [if_pos hc, if_pos (by omega)]
  · have := mt (ctx_iff t).mpr hc
    rw [if_neg hc, if_neg (by omega)]

/-- The output array after the run. -/
theorem final (h : PreparedAll (qArr m c) (kArr m c) (vArr m c)) :
    (dats m 0 c).arrAt 5 cfg0.N = attnAll (qArr m c) (kArr m c) (vArr m c) := by
  refine (dats m 0 c).arrAt_eq_of_covers 5 _ (by decide +kernel) fun t hf y => ?_
  blk_simp
  rw [after0_5]
  refine (outBlk_apply (prepared m c h t) (grid0.coords t) y).trans ?_
  have h0 : (y 0).val < 1 := (y 0).isLt
  have h1 : (y 1).val < 256 := (y 1).isLt
  have h2 : (y 2).val < 512 := (y 2).isLt
  have hc0 := coord0_lt t
  have hc1 := coord1_lt t
  have hc2 := coord2_lt t
  have e0 : ((win0_5.blk t).view.emb y 0).val = (grid0.coords t 0).val := by blk_simp [index5]
  have e1 : ((win0_5.blk t).view.emb y 1).val = (grid0.coords t 2).val * 256 + (y 1).val := by blk_simp [index5]
  have e2 : ((win0_5.blk t).view.emb y 2).val = (grid0.coords t 1).val * 512 + (y 2).val := by blk_simp [index5]
  unfold attnAll
  rw [keys_eq t _ h1, e1]
  refine attn_congr (fun n hn => ?_) fun n hn => ?_
  · unfold score scoreAll
    refine Finset.sum_congr rfl fun d _ => ?_
    have hd := d.isLt
    rw [iblk0_apply, key, iblk1_apply]
    refine congrArg₂ (fun a b : EReal => a.toReal * b.toReal) (congrArg (qArr m c) ?_) (congrArg (kArr m c) ?_)
    · refine congr (congr (congrArg ix3 (Fin.ext e0.symm)) (Fin.ext ?_)) (Fin.ext ?_)
      · show 256 * _ + (256 * ((y 2).val / 128) + (y 1).val) % 256 = _
        rw [e1]; omega
      · show 512 * _ + (128 * ((256 * ((y 2).val / 128) + (y 1).val) / 256) + d.val) = 128 * (_ / 128) + d.val
        rw [e2]; omega
    · refine congr (congr (congrArg ix3 (Fin.ext e0.symm)) rfl) (Fin.ext ?_)
      show 256 * _ + d.val = 256 * (_ / 512) + d.val
      rw [e2]; omega
  · unfold valueAll
    rw [key, iblk2_apply]
    refine congrArg (vArr m c) (congr (congr (congrArg ix3 (Fin.ext e0.symm)) rfl) (Fin.ext ?_))
    show 256 * _ + (y 2).val % 128 = 256 * (_ / 512) + _ % 128
    rw [e2]; omega

/-- The run: the output array ends holding the attention of the arguments, the arguments unchanged. -/
theorem run_value (ρ : Dev nD → PrngReg) (h : ∀ c, PreparedAll (qArr m c) (kArr m c) (vArr m c)) :
    θ_run defs (onTc (τ := τ) (main (F := Ideal))) ⟨m, fun _ => 0, ρ⟩ fun r => ∀ c : Dev nD,
      r.2.mem ((c.tc : Thread nD τ).loc main_v2) = attnAll (qArr m c) (kArr m c) (vArr m c) := by
  refine (θ_run defs _ _).mono (fun r hr c => ?_) (run_main m ρ)
  exact (hr.out_eq c 5).trans (final m c (h c))

end Cert.KernelIdeal.Body
end
-- ==== Proof.Prepared.lean ====
/- What the precondition says of the arrays, element by element. -/
module

public import proofs.«01_k».proof.Proof.Gen.Pre_prepared
public import proofs.«01_k».proof.Proof.ArrayValue
public import Idealize.ShloMosaic.Lib.Pointwise

@[expose] public section
set_option maxRecDepth 16384
noncomputable section
namespace Cert.Pre_prepared.Body
open Cert.Pre_prepared Cert.Pre_prepared.Gen
open Idealize.ShloMosaic

theorem andi_one : ∀ a b : BitVec 1, IntOp.andi a b = 1#1 ↔ a = 1#1 ∧ b = 1#1 := by decide
theorem ori_one : ∀ a b : BitVec 1, IntOp.ori a b = 1#1 ↔ a = 1#1 ∨ b = 1#1 := by decide
theorem ofBool_one (p : Prop) [Decidable p] : BitVec.ofBool (decide p) = 1#1 ↔ p := by
  by_cases h : p <;> simp [h]
theorem select_one (c a b : BitVec 1) : Scalar.select c a b = 1#1 ↔ (c = 1#1 ∧ a = 1#1) ∨ (c ≠ 1#1 ∧ b = 1#1) := by
  revert c a b; decide

/-- The lane of a head: its number below 256. -/
theorem lane_lt : ∀ d : Fin 1024, IntOp.cmpi .slt (IntOp.andi (BitVec.ofNat 32 d.val) 255#32) 128#32 = 1#1 ↔ d.val % 256 < 128 := by
  decide +kernel
theorem lane_gt : ∀ d : Fin 1024, IntOp.cmpi .sgt (IntOp.andi (BitVec.ofNat 32 d.val) 255#32) 128#32 = 1#1 ↔ 128 < d.val % 256 := by
  decide +kernel

theorem ofBits_inf : (Ideal.ofBits FTy.f32 2139095040#32 : EReal) = ⊤ := by simp [Ideal.ofBits, Ideal.ieee]

theorem real_of_lt {x : EReal} (h : x < ⊤) (h' : ⊥ < x) : ∃ t : ℝ, x = t := by
  induction x with
  | bot => exact absurd h' (lt_irrefl _)
  | coe t => exact ⟨t, rfl⟩
  | top => exact absurd h (lt_irrefl _)

variable (x0 : FVec Ideal S2x8448x2048 .bf16) (x1 x2 : FVec Ideal S2x8448x1024 .bf16) (x3 x4 : FVec Ideal S128 .f32)

/-- The precondition at one element. -/
theorem fn_apply (b : Fin 2) (n : Fin 8448) (d : Fin 1024) (h : fn (F := Ideal) x0 x1 x2 x3 x4 (ix3 b n d) = 1#1) :
    (((((x0 (ix3 b n ⟨d.val, by omega⟩) : EReal) < ⊤ ∧ ⊥ < (x0 (ix3 b n ⟨d.val, by omega⟩) : EReal))
      ∧ ((x0 (ix3 b n ⟨1024 + d.val, by omega⟩) : EReal) < ⊤ ∧ ⊥ < (x0 (ix3 b n ⟨1024 + d.val, by omega⟩) : EReal)))
      ∧ ((d.val % 256 < 128 ∧ ((x1 (ix3 b n d) : EReal) < ⊤ ∧ ⊥ < (x1 (ix3 b n d) : EReal)))
        ∨ (¬ d.val % 256 < 128 ∧ (128 < d.val % 256 ∨ (x1 (ix3 b n d) : EReal) = 1))))
      ∧ (d.val % 256 < 128 ∨ (x2 (ix3 b n d) : EReal) = 1)) := by
  revert h
  pointwise [fn, fn_part1, fn_where]
  simp only [andi_one, ori_one, select_one, ofBool_one, lane_lt, lane_gt, ofBits_inf, Cert.KernelIdeal.Body.ofBits_ninf, ne_eq]
  exact id

open Cert.KernelIdeal.Body in
/-- The precondition gives what the attention asks. -/
theorem preparedAll (h : fn (F := Ideal) x0 x1 x2 x3 x4 = fun _ => 1#1) : PreparedAll x0 x1 x2 where
  q_fin b r d := by
    by_cases hd : d.val < 1024
    · have e := (fn_apply x0 x1 x2 x3 x4 b r ⟨d.val, hd⟩ (congrFun h _)).1.1.1
      exact real_of_lt e.1 e.2
    · have e := (fn_apply x0 x1 x2 x3 x4 b r ⟨d.val - 1024, by omega⟩ (congrFun h _)).1.1.2
      have hd' : (⟨1024 + (d.val - 1024), by omega⟩ : Fin 2048) = d := Fin.ext (by
        show 1024 + (d.val - 1024) = d.val; omega)
      rw [hd'] at e
      exact real_of_lt e.1 e.2
  k_fin b n d hd := by
    rcases (fn_apply x0 x1 x2 x3 x4 b n d (congrFun h _)).1.2 with e | e
    · exact real_of_lt e.2.1 e.2.2
    · exact absurd hd e.1
  k_one b n d hd := by
    rcases (fn_apply x0 x1 x2 x3 x4 b n d (congrFun h _)).1.2 with e | ⟨_, e | e⟩
    · exact absurd e.1 (by omega)
    · exact absurd e (by omega)
    · exact e
  v_one b n d hd := by
    rcases (fn_apply x0 x1 x2 x3 x4 b n d (congrFun h _)).2 with e | e
    · exact absurd e (by omega)
    · exact e

end Cert.Pre_prepared.Body
end
-- ==== Proof.RefValue.lean ====
module

public import proofs.«01_k».proof.Proof.Gen.ReferenceIdeal.Run
public import proofs.«01_k».proof.Proof.Gen.ReferenceIdeal.Read

@[expose] public section
-- ==== Proof.RefMax.lean ====
/- The host's maximum over the last of five axes, read at an index over the extended reals. -/
module

public import Idealize.ShloMosaic.Lib.Pointwise

@[expose] public section
noncomputable section
namespace Cert.ReferenceIdeal.Body
open Idealize.ShloMosaic

/-- A row's maximum is the fold of `max` over the row, from the initial value. -/
theorem max_last {n0 n1 n2 n3 n : ℕ} {u : Shape} (x : (⟨5, ![n0, n1, n2, n3, n]⟩ : Shape).Idx → EReal)
    (init : u.Idx → EReal) (h' : (⟨5, ![n0, n1, n2, n3, n]⟩ : Shape).ReducesTo [4] ⟨4, ![n0, n1, n2, n3]⟩)
    (hr : (⟨5, ![n0, n1, n2, n3, n]⟩ : Shape).Reduces [4] ⟨4, ![n0, n1, n2, n3]⟩) (hu : 0 < u.numel)
    (a : Fin n0) (b : Fin n1) (c : Fin n2) (d : Fin n3) :
    Host.reduce (FloatOps.maximumf (F := Ideal) (φ := .f32)) x init h' hu (ix4 a b c d)
      = Finset.fold max (init (Shape.Idx.first hu)) (fun k : Fin n => x (ix5 a b c d k)) Finset.univ := by
  refine (Host.reduce_eq_fold_single (FloatOps.maximumf (F := Ideal) (φ := .f32)) x init h' hr hu (ix4 a b c d)).trans ?_
  refine congrArg (fun f => Finset.fold max (init (Shape.Idx.first hu)) f (Finset.univ : Finset (Fin n))) ?_
  funext k
  exact congrArg x (funext fun e => Fin.ext (by
    match e with | ⟨0, _⟩ => rfl | ⟨1, _⟩ => rfl | ⟨2, _⟩ => rfl | ⟨3, _⟩ => rfl | ⟨4, _⟩ => rfl))

end Cert.ReferenceIdeal.Body
end
-- ==== Proof.RefCtx.lean ====
/- The reference's context rows, read at an index over the extended reals. -/
module

public import proofs.«01_k».proof.Proof.RefValue
public import proofs.«01_k».proof.Proof.RefMax
public import Idealize.ShloMosaic.Lib.Pointwise

@[expose] public section
set_option maxRecDepth 16384
noncomputable section
namespace Cert.ReferenceIdeal.Body
open Cert.ReferenceIdeal Cert.ReferenceIdeal.Gen Cert.ReferenceIdeal.Read
open Idealize.ShloMosaic

variable (x0 : Vec Ideal S2x8448x2048 .bf16) (x1 x2 : Vec Ideal S2x8448x1024 .bf16)

/-- A score. -/
theorem v12_apply (b : Fin 2) (g h : Fin 4) (r : Fin 256) (k : Fin 256) :
    (val_main_v12 (F := Ideal) x0 x1 (ix5 b g h r k) : EReal)
      = (∑ d : Fin 128, (x1 (ix3 b ⟨k.val, by omega⟩ ⟨g.val * 256 + d.val, by omega⟩) : EReal)
          * x0 (ix3 b ⟨r.val, by omega⟩ ⟨g.val * 512 + h.val * 128 + d.val, by omega⟩))
        * Ideal.log (Ideal.ofBits FTy.f32 1073741824#32) := by
  pointwise [val_main_v12, val_main_v11, val_main_v10, val_main_v9, val_main_v8, val_main_v6, val_main_v5, val_main_v2, val_main_v1, val_main_v0, val_main_cst]

/-- The largest score of a row. -/
theorem v13_apply (b : Fin 2) (g h : Fin 4) (r : Fin 256) :
    (val_main_v13 (F := Ideal) x0 x1 (ix4 b g h r) : EReal)
      = Finset.fold max (val_main_cst_0 (F := Ideal) (Shape.Idx.first h_S_) : EReal)
          (fun k : Fin 256 => (val_main_v12 (F := Ideal) x0 x1 (ix5 b g h r k) : EReal)) Finset.univ := by
  unfold val_main_v13
  generalize val_main_v12 (F := Ideal) x0 x1 = y
  exact max_last y (val_main_cst_0 (F := Ideal)) reducesTo_S2x4x4x256x256_S2x4x4x256_d4 (by decide) h_S_ b g h r

/-- A weight before it is divided. -/
theorem v19_apply (b : Fin 2) (g h : Fin 4) (r : Fin 256) (k : Fin 256) :
    (val_main_v19 (F := Ideal) x0 x1 (ix5 b g h r k) : EReal)
      = Ideal.exp (val_main_v12 (F := Ideal) x0 x1 (ix5 b g h r k)
          - max (Ideal.ofBits FTy.f32 4286578688#32) (val_main_v13 (F := Ideal) x0 x1 (ix4 b g h r))) := by
  have e : idx_main_v16 (idx_main_v17 (ix5 b g h r k)) = ix4 b g h r := funext fun a => Fin.ext (by
    match a with | ⟨0, _⟩ => rfl | ⟨1, _⟩ => rfl | ⟨2, _⟩ => rfl | ⟨3, _⟩ => rfl)
  rw [val_main_v19_apply, val_main_v18_apply, val_main_v17_apply, val_main_v16_apply, val_main_v15_apply,
    val_main_v14_apply, val_main_cst_1_apply, e]
  generalize val_main_v13 (F := Ideal) x0 x1 = y
  generalize val_main_v12 (F := Ideal) x0 x1 = z
  rfl

/-- An output. -/
theorem v27_apply (b : Fin 2) (g h : Fin 4) (r : Fin 256) (d : Fin 128) :
    (val_main_v27 (F := Ideal) x0 x1 x2 (ix5 b r g h d) : EReal)
      = ∑ k : Fin 256, (x2 (ix3 b ⟨k.val, by omega⟩ ⟨g.val * 256 + d.val, by omega⟩) : EReal)
          * Ideal.div (val_main_v19 (F := Ideal) x0 x1 (ix5 b g h r k))
              (Ideal.ofBits FTy.f32 0#32 + ∑ j : Fin 256, (val_main_v19 (F := Ideal) x0 x1 (ix5 b g h r j) : EReal)) := by
  unfold val_main_v27 val_main_v26 val_main_v25 val_main_v24 val_main_v23 val_main_v22 val_main_v21 val_main_v20 val_main_v7 val_main_v4 val_main_v3
  generalize val_main_v19 (F := Ideal) x0 x1 = y
  pointwise [val_main_cst_2]

end Cert.ReferenceIdeal.Body
end
-- ==== Proof.RefLat.lean ====
/- The reference's latent rows and its result, read at an index over the extended reals. -/
module

public import proofs.«01_k».proof.Proof.RefValue
public import proofs.«01_k».proof.Proof.RefMax
public import Idealize.ShloMosaic.Lib.Pointwise

@[expose] public section
set_option maxRecDepth 16384
noncomputable section
namespace Cert.ReferenceIdeal.Body
open Cert.ReferenceIdeal Cert.ReferenceIdeal.Gen Cert.ReferenceIdeal.Read
open Idealize.ShloMosaic

variable (x0 : Vec Ideal S2x8448x2048 .bf16) (x1 x2 : Vec Ideal S2x8448x1024 .bf16)

/-- A score. -/
theorem v33_apply (b : Fin 2) (g h : Fin 4) (r : Fin 8192) (k : Fin 8448) :
    (val_main_v33 (F := Ideal) x0 x1 (ix5 b g h r k) : EReal)
      = (∑ d : Fin 128, (x1 (ix3 b ⟨k.val, by omega⟩ ⟨g.val * 256 + d.val, by omega⟩) : EReal)
          * x0 (ix3 b ⟨256 + r.val, by omega⟩ ⟨g.val * 512 + h.val * 128 + d.val, by omega⟩))
        * Ideal.log (Ideal.ofBits FTy.f32 1073741824#32) := by
  pointwise [val_main_v33, val_main_v32, val_main_v31, val_main_v30, val_main_v29, val_main_v28, val_main_v2, val_main_v1, val_main_v0, val_main_cst_3]

/-- The largest score of a row. -/
theorem v34_apply (b : Fin 2) (g h : Fin 4) (r : Fin 8192) :
    (val_main_v34 (F := Ideal) x0 x1 (ix4 b g h r) : EReal)
      = Finset.fold max (val_main_cst_4 (F := Ideal) (Shape.Idx.first h_S_) : EReal)
          (fun k : Fin 8448 => (val_main_v33 (F := Ideal) x0 x1 (ix5 b g h r k) : EReal)) Finset.univ := by
  unfold val_main_v34
  generalize val_main_v33 (F := Ideal) x0 x1 = y
  exact max_last y (val_main_cst_4 (F := Ideal)) reducesTo_S2x4x4x8192x8448_S2x4x4x8192_d4 (by decide) h_S_ b g h r

/-- A weight before it is divided. -/
theorem v40_apply (b : Fin 2) (g h : Fin 4) (r : Fin 8192) (k : Fin 8448) :
    (val_main_v40 (F := Ideal) x0 x1 (ix5 b g h r k) : EReal)
      = Ideal.exp (val_main_v33 (F := Ideal) x0 x1 (ix5 b g h r k)
          - max (Ideal.ofBits FTy.f32 4286578688#32) (val_main_v34 (F := Ideal) x0 x1 (ix4 b g h r))) := by
  have e : idx_main_v37 (idx_main_v38 (ix5 b g h r k)) = ix4 b g h r := funext fun a => Fin.ext (by
    match a with | ⟨0, _⟩ => rfl | ⟨1, _⟩ => rfl | ⟨2, _⟩ => rfl | ⟨3, _⟩ => rfl)
  rw [val_main_v40_apply, val_main_v39_apply, val_main_v38_apply, val_main_v37_apply, val_main_v36_apply,
    val_main_v35_apply, val_main_cst_5_apply, e]
  generalize val_main_v34 (F := Ideal) x0 x1 = y
  generalize val_main_v33 (F := Ideal) x0 x1 = z
  rfl

/-- An output. -/
theorem v48_apply (b : Fin 2) (g h : Fin 4) (r : Fin 8192) (d : Fin 128) :
    (val_main_v48 (F := Ideal) x0 x1 x2 (ix5 b r g h d) : EReal)
      = ∑ k : Fin 8448, (x2 (ix3 b ⟨k.val, by omega⟩ ⟨g.val * 256 + d.val, by omega⟩) : EReal)
          * Ideal.div (val_main_v40 (F := Ideal) x0 x1 (ix5 b g h r k))
              (Ideal.ofBits FTy.f32 0#32 + ∑ j : Fin 8448, (val_main_v40 (F := Ideal) x0 x1 (ix5 b g h r j) : EReal)) := by
  unfold val_main_v48 val_main_v47 val_main_v46 val_main_v45 val_main_v44 val_main_v43 val_main_v42 val_main_v41 val_main_v4 val_main_v3
  generalize val_main_v40 (F := Ideal) x0 x1 = y
  pointwise [val_main_cst_6]

/-- The result: context rows first, then the latents. -/
theorem v50_apply (b : Fin 2) (r : Fin 8448) (c : Fin 2048) :
    (val_main_v50 (F := Ideal) x0 x1 x2 (ix3 b r c) : EReal)
      = if h : r.val < 256 then
          val_main_v27 (F := Ideal) x0 x1 x2
            (ix5 b ⟨r.val, h⟩ ⟨c.val / 512, by omega⟩ ⟨c.val / 128 % 4, by omega⟩ ⟨c.val % 128, by omega⟩)
        else
          val_main_v48 (F := Ideal) x0 x1 x2
            (ix5 b ⟨r.val - 256, by omega⟩ ⟨c.val / 512, by omega⟩ ⟨c.val / 128 % 4, by omega⟩ ⟨c.val % 128, by omega⟩) := by
  pointwise [val_main_v50, val_main_v49]

end Cert.ReferenceIdeal.Body
end
-- ==== Proof.RefAttn.lean ====
/- What the reference computes over the extended reals: the same attention, row by row. -/
module

public import proofs.«01_k».proof.Proof.RefCtx
public import proofs.«01_k».proof.Proof.RefLat
public import proofs.«01_k».proof.Proof.ArrayValue

@[expose] public section
set_option maxRecDepth 16384
noncomputable section
namespace Cert.ReferenceIdeal.Body
open Cert.ReferenceIdeal Cert.ReferenceIdeal.Gen Cert.ReferenceIdeal.Read
open Cert.KernelIdeal.Body (scoreAll valueAll attnAll PreparedAll ofBits_ninf ofBits_zero)
open Cert.Softmax
open Idealize.ShloMosaic

theorem ofBits_two : (Ideal.ofBits FTy.f32 1073741824#32 : EReal) = ((2 : ℝ) : EReal) := by
  simp [Ideal.ofBits, Ideal.ieee, -EReal.coe_mul]
  norm_num

/-- The factor the scores carry is the natural logarithm of two. -/
theorem log_two : (Ideal.log (Ideal.ofBits FTy.f32 1073741824#32) : EReal) = ((Real.log 2 : ℝ) : EReal) := by
  rw [ofBits_two, Ideal.log_coe, if_neg (by norm_num)]

theorem cst_0_first : (val_main_cst_0 (F := Ideal) (Shape.Idx.first h_S_) : EReal) = ⊥ :=
  (val_main_cst_0_apply _).trans ofBits_ninf
theorem cst_4_first : (val_main_cst_4 (F := Ideal) (Shape.Idx.first h_S_) : EReal) = ⊥ :=
  (val_main_cst_4_apply _).trans ofBits_ninf

variable (x0 : Vec Ideal S2x8448x2048 .bf16) (x1 x2 : Vec Ideal S2x8448x1024 .bf16)

/-- The reference's score is the real one times `ln 2`. -/
theorem score_eq (H : PreparedAll x0 x1 x2) (b : Fin 2) (r : Fin 8448) (c : Fin 2048) (n : ℕ) (hn : n < 8448) :
    (∑ d : Fin 128, (x1 (ix3 b ⟨n, hn⟩ ⟨c.val / 512 * 256 + d.val, by omega⟩) : EReal)
        * x0 (ix3 b r ⟨c.val / 512 * 512 + c.val / 128 % 4 * 128 + d.val, by omega⟩))
      * Ideal.log (Ideal.ofBits FTy.f32 1073741824#32)
      = ((scoreAll x0 x1 (ix3 b r c) n * Real.log 2 : ℝ) : EReal) := by
  rw [log_two, EReal.coe_mul]
  refine congrArg (· * ((Real.log 2 : ℝ) : EReal)) ?_
  unfold scoreAll
  rw [coe_sum_fin]
  refine Finset.sum_congr rfl fun d _ => ?_
  obtain ⟨t, ht⟩ := H.q_fin b r ⟨128 * (c.val / 128) + d.val, by omega⟩
  obtain ⟨u, hu⟩ := H.k_fin b ⟨n, hn⟩ ⟨256 * (c.val / 512) + d.val, by omega⟩ (by show (256 * (c.val / 512) + d.val) % 256 < 128; omega)
  have e0 : (⟨c.val / 512 * 512 + c.val / 128 % 4 * 128 + d.val, by omega⟩ : Fin 2048)
      = ⟨128 * (c.val / 128) + d.val, by omega⟩ := Fin.ext (by
    show c.val / 512 * 512 + c.val / 128 % 4 * 128 + d.val = 128 * (c.val / 128) + d.val; omega)
  have e1 : (⟨c.val / 512 * 256 + d.val, by omega⟩ : Fin 1024) = ⟨256 * (c.val / 512) + d.val, by omega⟩ := Fin.ext (by
    show c.val / 512 * 256 + d.val = 256 * (c.val / 512) + d.val; omega)
  have e2 : (⟨n % 8448, Nat.mod_lt _ (by decide)⟩ : Fin 8448) = ⟨n, hn⟩ := Fin.ext (Nat.mod_eq_of_lt hn)
  rw [e0, e1, ht, hu]
  show _ = (((x0 (ix3 b r ⟨128 * (c.val / 128) + d.val, _⟩) : EReal).toReal
    * (x1 (ix3 b (⟨n % 8448, Nat.mod_lt _ (by decide)⟩ : Fin 8448) ⟨256 * (c.val / 512) + d.val, _⟩) : EReal).toReal : ℝ) : EReal)
  rw [e2, ht, hu, EReal.toReal_coe, EReal.toReal_coe, EReal.coe_mul, mul_comm]

/-- The reference's value is the one the attention weighs. -/
theorem value_eq (b : Fin 2) (r : Fin 8448) (c : Fin 2048) (n : ℕ) (hn : n < 8448) :
    valueAll x2 (ix3 b r c) n = x2 (ix3 b ⟨n, hn⟩ ⟨c.val / 512 * 256 + c.val % 128, by omega⟩) := by
  refine congrArg x2 ?_
  have e1 : (⟨256 * (c.val / 512) + c.val % 128, by omega⟩ : Fin 1024) = ⟨c.val / 512 * 256 + c.val % 128, by omega⟩ := Fin.ext (by
    show 256 * (c.val / 512) + c.val % 128 = c.val / 512 * 256 + c.val % 128; omega)
  have e2 : (⟨n % 8448, Nat.mod_lt _ (by decide)⟩ : Fin 8448) = ⟨n, hn⟩ := Fin.ext (Nat.mod_eq_of_lt hn)
  show ix3 b (⟨n % 8448, Nat.mod_lt _ (by decide)⟩ : Fin 8448) (⟨256 * (c.val / 512) + c.val % 128, _⟩ : Fin 1024) = _
  rw [e1, e2]

/-- A context row. -/
theorem ctx_eq (H : PreparedAll x0 x1 x2) (b : Fin 2) (r : Fin 256) (c : Fin 2048) :
    (val_main_v27 (F := Ideal) x0 x1 x2
        (ix5 b r ⟨c.val / 512, by omega⟩ ⟨c.val / 128 % 4, by omega⟩ ⟨c.val % 128, by omega⟩) : EReal)
      = attnAll x0 x1 x2 (ix3 b ⟨r.val, by omega⟩ c) := by
  have hx : ∀ n : Fin 256, (val_main_v12 (F := Ideal) x0 x1
      (ix5 b ⟨c.val / 512, by omega⟩ ⟨c.val / 128 % 4, by omega⟩ r n) : EReal)
        = ((scoreAll x0 x1 (ix3 b ⟨r.val, by omega⟩ c) n.val * Real.log 2 : ℝ) : EReal) := fun n => by
    rw [v12_apply]
    exact score_eq x0 x1 x2 H b ⟨r.val, by omega⟩ c n.val (by omega)
  have hs := softmax_row (by norm_num) (scoreAll x0 x1 (ix3 b ⟨r.val, by omega⟩ c))
    (valueAll x2 (ix3 b ⟨r.val, by omega⟩ c)) _ hx
  rw [v27_apply]
  simp only [v19_apply, v13_apply, cst_0_first, ofBits_ninf, ofBits_zero]
  unfold attnAll
  rw [show (if ((ix3 b (⟨r.val, by omega⟩ : Fin 8448) c : S2x8448x2048.Idx) 1).val < 256 then 256 else 8448) = 256 from if_pos r.isLt]
  rw [← hs]
  refine Finset.sum_congr rfl fun n _ => ?_
  rw [value_eq x2 b ⟨r.val, by omega⟩ c n.val (by omega)]

/-- A latent row. -/
theorem lat_eq (H : PreparedAll x0 x1 x2) (b : Fin 2) (r : Fin 8192) (c : Fin 2048) :
    (val_main_v48 (F := Ideal) x0 x1 x2
        (ix5 b r ⟨c.val / 512, by omega⟩ ⟨c.val / 128 % 4, by omega⟩ ⟨c.val % 128, by omega⟩) : EReal)
      = attnAll x0 x1 x2 (ix3 b ⟨256 + r.val, by omega⟩ c) := by
  have hx : ∀ n : Fin 8448, (val_main_v33 (F := Ideal) x0 x1
      (ix5 b ⟨c.val / 512, by omega⟩ ⟨c.val / 128 % 4, by omega⟩ r n) : EReal)
        = ((scoreAll x0 x1 (ix3 b ⟨256 + r.val, by omega⟩ c) n.val * Real.log 2 : ℝ) : EReal) := fun n => by
    rw [v33_apply]
    exact score_eq x0 x1 x2 H b ⟨256 + r.val, by omega⟩ c n.val (by omega)
  have hs := softmax_row (by norm_num) (scoreAll x0 x1 (ix3 b ⟨256 + r.val, by omega⟩ c))
    (valueAll x2 (ix3 b ⟨256 + r.val, by omega⟩ c)) _ hx
  rw [v48_apply]
  simp only [v40_apply, v34_apply, cst_4_first, ofBits_ninf, ofBits_zero]
  unfold attnAll
  rw [show (if ((ix3 b (⟨256 + r.val, by omega⟩ : Fin 8448) c : S2x8448x2048.Idx) 1).val < 256 then 256 else 8448) = 8448 from if_neg (Nat.not_lt.mpr (Nat.le_add_right 256 r.val))]
  rw [← hs]
  refine Finset.sum_congr rfl fun n _ => ?_
  rw [value_eq x2 b ⟨256 + r.val, by omega⟩ c n.val (by omega)]

/-- The whole result. -/
theorem result_eq (H : PreparedAll x0 x1 x2) : val_main_v50 (F := Ideal) x0 x1 x2 = attnAll x0 x1 x2 := by
  funext i
  obtain ⟨b, r, c, rfl⟩ : ∃ (b : Fin 2) (r : Fin 8448) (c : Fin 2048), i = ix3 b r c := ⟨i 0, i 1, i 2, eq_ix3 i⟩
  rw [v50_apply]
  split
  · next h => exact ctx_eq x0 x1 x2 H b ⟨r.val, h⟩ c
  · next h =>
    refine (lat_eq x0 x1 x2 H b ⟨r.val - 256, by omega⟩ c).trans ?_
    have e : (⟨256 + (r.val - 256), by omega⟩ : Fin 8448) = r := Fin.ext (by
      show 256 + (r.val - 256) = r.val; omega)
    exact congrArg (fun r' : Fin 8448 => attnAll x0 x1 x2 (ix3 b r' c)) e

end Cert.ReferenceIdeal.Body
end
-- ==== Proof.AttnClaims.lean ====
/- The claims about the attention call, one theorem each. -/
module

public import proofs.«01_k».proof.Defs
public import proofs.«01_k».proof.Proof.KernelFrame
public import proofs.«01_k».proof.Proof.Prepared
public import proofs.«01_k».proof.Proof.RefAttn
public import Idealize.ShloMosaic.Lib.Claim

@[expose] public section
noncomputable section
namespace Cert.Proof
open Idealize.ShloMosaic Idealize.ShloMosaic.TcCoe Idealize.SL.Sem
open Cert.KernelIdeal.Body (attnAll PreparedAll qArr kArr vArr run_value)

/-- The reference has no semaphore, and its run leaves its arguments alone. -/
theorem quiescent_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem quiescent_reference_prepared : Cert.quiescent_ReferenceIdeal_pre_prepared := fun m ρ _ =>
  quiescent_reference m ρ trivial

/-- From prepared arrays kernel and reference end with the same attention. -/
theorem algebraic_attention : Cert.algebraic_KernelIdeal_ReferenceIdeal_pre_prepared := by
  intro m ρ m' ρ' hp hagree
  have H : ∀ c, PreparedAll (qArr m c) (kArr m c) (vArr m c) := fun c => Cert.Pre_prepared.Body.preparedAll _ _ _ _ _ (hp c)
  refine ⟨fun c => attnAll (qArr m c) (kArr m c) (vArr m c), ?_, ?_⟩
  · exact (θ_run Cert.KernelIdeal.defs _ _).mono (fun r h c => ⟨h.1 c, h.2.1 c⟩)
      (θ_run_and (run_value m ρ H) (Cert.KernelIdeal.Body.frame m ρ))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v50_eq, (hagree c).1, (hagree c).2.1, (hagree c).2.2.1]
    exact Cert.ReferenceIdeal.Body.result_eq _ _ _ (H c)

end Cert.Proof
end
-- ==== Proof.InTrip.lean ====
/- What one trip of the projection's normalizing loop stores: 352 rows of the scratch buffer. -/
module

public import proofs.«01_k».proof.Proof.Gen.Kernel2Ideal.Value
public import Idealize.ShloMosaic.Lib.Pointwise

@[expose] public section
set_option maxRecDepth 16384
noncomputable section
namespace Cert.Kernel2Ideal.Body
open Cert.Kernel2Ideal.Gen
open Idealize.ShloMosaic Idealize.ShloMosaic.TcCoe
variable {F : FTy → Type} [FloatOps F]

/-- One trip's rows from the values it loads: the rows of `x`, the gain, and of each half of the modulation the
    context's vector and the batch's. -/
def tripPay (arg1 : BitVec 32) (k : Fin k0_t1_loop.trips) (x : Vec F S1x352x2048 .f32) (g : Vec F S1x2048 .f32)
    (sh2 shb sc2 scb : Vec F S1x1x2048 .f32) : FVec F S352x2048 .bf16 :=
  k0_pay1 (k0_pay3 x g) (k0_pay4 arg1 0#32 1#32 k) (k0_pay5 arg1 0#32 1#32 k sh2 shb) (k0_pay6 sc2) scb

/-- The rows of a block of `x` that trip `k` loads. -/
def trX (i : grid0.Coords) (h1 : k0_cond1 i = 1#1) (k : Fin k0_t1_loop.trips) : Rect S1x1056x2048 :=
  Rect.unit (s := S1x1056x2048) (k0_off1 k) S1x352x2048.size (k0_off1_inb i k h1)
/-- The row of the modulation's context vector. -/
def trM2 : Rect S1x8x2048 := Rect.unit (s := S1x8x2048) ![0, 2, 0] S1x1x2048.size inb_S1x8x2048_S1x1x2048_0_2_0
/-- The row of the modulation's vector of this batch. -/
def trMb (i : grid0.Coords) (h1 : k0_cond1 i = 1#1) : Rect S1x8x2048 :=
  Rect.unit (s := S1x8x2048) (k0_off2 i) S1x1x2048.size (k0_off2_inb i h1)
/-- The whole gain. -/
def trG : Rect S1x2048 := Rect.unit (s := S1x2048) ![0, 0] S1x2048.size inb_S1x2048_S1x2048_0_0
/-- The rows of the scratch buffer trip `k` stores. -/
def trS (i : grid0.Coords) (h1 : k0_cond1 i = 1#1) (k : Fin k0_t1_loop.trips) : Rect S1056x2048 :=
  Rect.unit (s := S1056x2048) (k0_off3 k) S352x2048.size (k0_off3_inb i k h1)

set_option maxHeartbeats 1000000 in
/-- A trip stores one piece. -/
theorem tripL_eq (𝒱 : Variants) (c : Dev nD) (bd : Option 𝒱.V) (i : grid0.Coords) (arg3 : Memref sig .tc .vmem S1x1056x2048 .f32)
    (harg3 : arg3.IsWhole) (arg4 : Memref sig .tc .vmem S1x8x2048 .f32) (harg4 : arg4.IsWhole)
    (arg5 : Memref sig .tc .vmem S1x8x2048 .f32) (harg5 : arg5.IsWhole) (arg6 : Memref sig .tc .vmem S1x2048 .f32)
    (harg6 : arg6.IsWhole) (arg7 : Memref sig .tc .vmem S1x2048x1024 .bf16) (harg7 : arg7.IsWhole)
    (arg8 : Memref sig .tc .vmem S1x1056x1024 .bf16) (harg8 : arg8.IsWhole) (arg9 : Memref sig .tc .vmem S1056x2048 .bf16)
    (harg9 : arg9.IsWhole) (arg0 arg1 : BitVec 32) (h1 : k0_cond1 i = 1#1)
    (X3 : BufTy.Contents (Elt F) arg3.view.ty) (X4 : BufTy.Contents (Elt F) arg4.view.ty)
    (X5 : BufTy.Contents (Elt F) arg5.view.ty) (X6 : BufTy.Contents (Elt F) arg6.view.ty) (k : Fin k0_t1_loop.trips) :
    tripL_k0_t1 (F := F) 𝒱 c bd i arg3 harg3 arg4 harg4 arg5 harg5 arg6 harg6 arg7 harg7 arg8 harg8 arg9 harg9 arg0 arg1 h1
        X3 X4 X5 X6 k
      = [⟨trS i h1 k, tripPay arg1 k (arg3.view.readAt (Elt F) (trX i h1 k).toLoadRect X3)
          (arg6.view.readAt (Elt F) trG.toLoadRect X6)
          (arg4.view.readAt (Elt F) trM2.toLoadRect X4) (arg4.view.readAt (Elt F) (trMb i h1).toLoadRect X4)
          (arg5.view.readAt (Elt F) trM2.toLoadRect X5) (arg5.view.readAt (Elt F) (trMb i h1).toLoadRect X5)⟩] := by
  unfold tripL_k0_t1 trip_k0_t1
  rfl

/-- The scratch buffer's pieces after all trips. -/
theorem pb_eq (𝒱 : Variants) (c : Dev nD) (bd : Option 𝒱.V) (i : grid0.Coords) (arg3 : Memref sig .tc .vmem S1x1056x2048 .f32)
    (harg3 : arg3.IsWhole) (arg4 : Memref sig .tc .vmem S1x8x2048 .f32) (harg4 : arg4.IsWhole)
    (arg5 : Memref sig .tc .vmem S1x8x2048 .f32) (harg5 : arg5.IsWhole) (arg6 : Memref sig .tc .vmem S1x2048 .f32)
    (harg6 : arg6.IsWhole) (arg7 : Memref sig .tc .vmem S1x2048x1024 .bf16) (harg7 : arg7.IsWhole)
    (arg8 : Memref sig .tc .vmem S1x1056x1024 .bf16) (harg8 : arg8.IsWhole) (arg9 : Memref sig .tc .vmem S1056x2048 .bf16)
    (harg9 : arg9.IsWhole) (arg0 arg1 : BitVec 32) (h1 : k0_cond1 i = 1#1)
    (X3 : BufTy.Contents (Elt F) arg3.view.ty) (X4 : BufTy.Contents (Elt F) arg4.view.ty)
    (X5 : BufTy.Contents (Elt F) arg5.view.ty) (X6 : BufTy.Contents (Elt F) arg6.view.ty) (n : ℕ) (hn : n ≤ k0_t1_loop.trips)
    (p : View.Piece (Elt F) S1056x2048 .bf16) :
    p ∈ pb_k0_t1 (F := F) 𝒱 c bd i arg3 harg3 arg4 harg4 arg5 harg5 arg6 harg6 arg7 harg7 arg8 harg8 arg9 harg9 arg0 arg1 h1
        X3 X4 X5 X6 n
      ↔ ∃ k : Fin k0_t1_loop.trips, k.val < n ∧ p = ⟨trS i h1 k, tripPay arg1 k (arg3.view.readAt (Elt F) (trX i h1 k).toLoadRect X3)
          (arg6.view.readAt (Elt F) trG.toLoadRect X6)
          (arg4.view.readAt (Elt F) trM2.toLoadRect X4) (arg4.view.readAt (Elt F) (trMb i h1).toLoadRect X4)
          (arg5.view.readAt (Elt F) trM2.toLoadRect X5) (arg5.view.readAt (Elt F) (trMb i h1).toLoadRect X5)⟩ := by
  induction n with
  | zero => exact ⟨fun h => absurd h List.not_mem_nil, fun ⟨k, h, _⟩ => absurd h (Nat.not_lt_zero _)⟩
  | succ n ih =>
    rw [pb_k0_t1_succ 𝒱 c bd i arg3 harg3 arg4 harg4 arg5 harg5 arg6 harg6 arg7 harg7 arg8 harg8 arg9 harg9 arg0 arg1 h1
        X3 X4 X5 X6 ⟨n, hn⟩, tripL_eq, List.singleton_append, List.mem_cons, ih (Nat.le_of_succ_le hn)]
    constructor
    · rintro (rfl | ⟨k, hk, rfl⟩)
      · exact ⟨⟨n, hn⟩, Nat.lt_succ_self n, rfl⟩
      · exact ⟨k, Nat.lt_succ_of_lt hk, rfl⟩
    · rintro ⟨k, hk, rfl⟩
      rcases Nat.lt_succ_iff_lt_or_eq.mp hk with h | h
      · exact .inr ⟨k, h, rfl⟩
      · obtain rfl : k = ⟨n, hn⟩ := Fin.ext h
        exact .inl rfl

end Cert.Kernel2Ideal.Body
end
-- ==== Proof.InPay.lean ====
/- What one trip of the projection's normalizing loop stores, read at one index over the extended reals. -/
module

public import proofs.«01_k».proof.Proof.InTrip

@[expose] public section
set_option maxRecDepth 16384
noncomputable section
namespace Cert.Kernel2Ideal.Body
open Cert.Kernel2Ideal.Gen
open Idealize.ShloMosaic Idealize.ShloMosaic.TcCoe

/-- The factor that normalizes a row: one over the root of its mean square and a little. -/
def rowScale (row : Fin 2048 → EReal) : EReal :=
  Ideal.rsqrt (Ideal.div (∑ e : Fin 2048, row e * row e) (Ideal.ofBits FTy.f32 1157627904#32) + Ideal.ofBits FTy.f32 897988541#32)

theorem pay3_apply (x : Vec Ideal S1x352x2048 .f32) (g : Vec Ideal S1x2048 .f32) (r : Fin 352) (d : Fin 2048) :
    k0_pay3 x g (ix2 r d) = x (ix3 0 r d) * rowScale (fun e => x (ix3 0 r e)) * g (ix2 0 d) := by
  pointwise [k0_pay3, rowScale]

/-- A number's 32-bit word is below 256 when the number is. -/
theorem slt_word (n : ℕ) (h : n < 2 ^ 31) : IntOp.cmpi CmpIPredicate.slt (BitVec.ofNat 32 n) 256#32 = if n < 256 then 1#1 else 0#1 := by
  have h1 : (BitVec.ofNat 32 n).toInt = n := by
    rw [BitVec.toInt_eq_toNat_of_lt (by rw [BitVec.toNat_ofNat]; omega), BitVec.toNat_ofNat]; omega
  have h2 : (256#32).toInt = 256 := by decide
  unfold IntOp.cmpi
  by_cases hn : n < 256
  · have : (BitVec.ofNat 32 n).slt 256#32 = true := by rw [BitVec.slt_eq_decide, h1, h2]; exact decide_eq_true (by omega)
    simp [this, hn]
  · have : (BitVec.ofNat 32 n).slt 256#32 = false := by rw [BitVec.slt_eq_decide, h1, h2]; exact decide_eq_false (by omega)
    simp [this, hn]

theorem trips_eq : k0_t1_loop.trips = 3 := by decide

/-- The test for a context row: the row of `x` the trip's row `r` is lies below 256. -/
theorem pay4_apply (n : ℕ) (hn : n < 8) (k : Fin k0_t1_loop.trips) (r : Fin 352) :
    k0_pay4 (BitVec.ofNat 32 n) 0#32 1#32 k (ix2 r 0) = if 1056 * n + (352 * k.val + r.val) < 256 then 1#1 else 0#1 := by
  have hk : k.val < 3 := trips_eq ▸ k.isLt
  rw [← slt_word _ (by omega)]
  pointwise [k0_pay4]
  congr 1
  apply BitVec.eq_of_toNat_eq
  simp [IntOp.addi, Scalar.addi, Scalar.muli, IntOp.muli, Scf.iv]
  omega
theorem pay5_apply (a : BitVec 32) (k : Fin k0_t1_loop.trips) (s t : Vec Ideal S1x1x2048 .f32) (r : Fin 352) (d : Fin 2048) :
    k0_pay5 a 0#32 1#32 k s t (ix2 r d) = Scalar.select (k0_pay4 a 0#32 1#32 k (ix2 r 0)) (s (ix3 0 0 d)) (t (ix3 0 0 d)) := by
  pointwise [k0_pay5]
theorem pay1_apply (v : FVec Ideal S352x2048 .f32) (q : IVec S352x1 1) (w : FVec Ideal S352x2048 .f32) (s : Vec Ideal S1x1x2048 .f32)
    (t : Vec Ideal S1x1x2048 .f32) (r : Fin 352) (d : Fin 2048) :
    k0_pay1 v q w (k0_pay6 s) t (ix2 r d)
      = v (ix2 r d) * (1 + Scalar.select (q (ix2 r 0)) (s (ix3 0 0 d)) (t (ix3 0 0 d))) + w (ix2 r d) := by
  pointwise [k0_pay1, k0_pay6]
theorem pay2_apply (h : Vec Ideal S1056x2048 .bf16) (w : Vec Ideal S1x2048x1024 .bf16) (r : Fin 1056) (n : Fin 1024) :
    k0_pay2 h w (ix3 0 r n) = ∑ d : Fin 2048, h (ix2 r d) * w (ix3 0 d n) := by
  pointwise [k0_pay2]

theorem off1_eq : ∀ k : Fin k0_t1_loop.trips, k0_off1 k = ![0, 352 * k.val, 0] := by decide
theorem off3_eq : ∀ k : Fin k0_t1_loop.trips, k0_off3 k = ![352 * k.val, 0] := by decide
theorem off2_eq (i : grid0.Coords) : k0_off2 i = ![0, (i 0).val, 0] := by
  have h : (i 0).val < 2 := (i 0).isLt
  unfold k0_off2
  interval_cases (i 0).val <;> decide

end Cert.Kernel2Ideal.Body
end
-- ==== Proof.InRun.lean ====
/- What one point of the projection's grid leaves, over what the loop's pieces read back as. -/
module

public import proofs.«01_k».proof.Proof.InPay

@[expose] public section
set_option maxRecDepth 16384
noncomputable section
namespace Cert.Kernel2Ideal.Body
open Cert.Kernel2Ideal.Gen
open Idealize.ShloMosaic Idealize.ShloMosaic.TcCoe
variable {F : FTy → Type} [FloatOps F]

section
variable (c : Dev nD) (i : grid0.Coords) (arg3 : Memref sig .tc .vmem S1x1056x2048 .f32)
    (harg3 : arg3.IsWhole) (arg4 : Memref sig .tc .vmem S1x8x2048 .f32) (harg4 : arg4.IsWhole)
    (arg5 : Memref sig .tc .vmem S1x8x2048 .f32) (harg5 : arg5.IsWhole) (arg6 : Memref sig .tc .vmem S1x2048 .f32)
    (harg6 : arg6.IsWhole) (arg7 : Memref sig .tc .vmem S1x2048x1024 .bf16) (harg7 : arg7.IsWhole)
    (arg8 : Memref sig .tc .vmem S1x1056x1024 .bf16) (harg8 : arg8.IsWhole) (arg9 : Memref sig .tc .vmem S1056x2048 .bf16)
    (harg9 : arg9.IsWhole)
    (x0 : Vec F S1x1056x2048 .f32) (x1 x2 : Vec F S1x8x2048 .f32) (x3 : Vec F S1x2048 .f32) (x4 : Vec F S1x2048x1024 .bf16)

/-- The loop's pieces at a point that starts a row block. -/
def pbA (hc0 : cond0_0 i) : List (View.Piece (Elt F) S1056x2048 .bf16) :=
  pb_k0_t1 (F := F) Variants.none c none i arg3 harg3 arg4 harg4 arg5 harg5 arg6 harg6 arg7 harg7 arg8 harg8 arg9 harg9
    (BitVec.ofNat 32 (i 0).val) (BitVec.ofNat 32 (i 1).val) hc0 (harg3.unread x0) (harg4.unread x1) (harg5.unread x2) (harg6.unread x3)
    (Scf.trips k0_t1_loop.lb k0_t1_loop.ub k0_t1_loop.st)

theorem runA_scratch (hc0 : cond0_0 i) :
    (kernelRun0_A c i arg3 harg3 arg4 harg4 arg5 harg5 arg6 harg6 arg7 harg7 arg8 harg8 arg9 harg9 hc0 x0 x1 x2 x3 x4).2.1
      = pbA c i arg3 harg3 arg4 harg4 arg5 harg5 arg6 harg6 arg7 harg7 arg8 harg8 arg9 harg9 x0 x1 x2 x3 hc0 := by
  rfl

theorem runA_out (hc0 : cond0_0 i) :
    (kernelRun0_A c i arg3 harg3 arg4 harg4 arg5 harg5 arg6 harg6 arg7 harg7 arg8 harg8 arg9 harg9 hc0 x0 x1 x2 x3 x4).1
      = [⟨Rect.unit (s := S1x1056x1024) ![0, 0, 0] S1x1056x1024.size inb_S1x1056x1024_S1x1056x1024_0_0_0,
          k0_pay2 (arg9.view.readCov (pbA c i arg3 harg3 arg4 harg4 arg5 harg5 arg6 harg6 arg7 harg7 arg8 harg8 arg9 harg9 x0 x1 x2 x3 hc0)
              (Rect.unit (s := S1056x2048) ![0, 0] S1056x2048.size inb_S1056x2048_S1056x2048_0_0).toLoadRect)
            (arg7.view.readAt (Elt F) (Rect.unit (s := S1x2048x1024) ![0, 0, 0] S1x2048x1024.size inb_S1x2048x1024_S1x2048x1024_0_0_0).toLoadRect
              (harg7.unread x4))⟩] := by
  rfl

theorem runB_out (hc0 : ¬cond0_0 i) (xs : Vec F S1056x2048 .bf16) :
    (kernelRun0_B c i arg3 harg3 arg4 harg4 arg5 harg5 arg6 harg6 arg7 harg7 arg8 harg8 arg9 harg9 hc0 x0 x1 x2 x3 x4 xs).1
      = [⟨Rect.unit (s := S1x1056x1024) ![0, 0, 0] S1x1056x1024.size inb_S1x1056x1024_S1x1056x1024_0_0_0,
          k0_pay2 (arg9.view.readAt (Elt F) (Rect.unit (s := S1056x2048) ![0, 0] S1056x2048.size inb_S1056x2048_S1056x2048_0_0).toLoadRect
              (harg9.unread xs))
            (arg7.view.readAt (Elt F) (Rect.unit (s := S1x2048x1024) ![0, 0, 0] S1x2048x1024.size inb_S1x2048x1024_S1x2048x1024_0_0_0).toLoadRect
              (harg7.unread x4))⟩] := by
  rfl
end

end Cert.Kernel2Ideal.Body
end
-- ==== Proof.InBlock.lean ====
/- What one point of the projection's grid computes: the normalized and modulated rows, and their product with a
   block of the weights. -/
module

public import proofs.«01_k».proof.Proof.InRun

@[expose] public section
set_option maxRecDepth 16384
noncomputable section
namespace Cert.Kernel2Ideal.Body
open Cert.Kernel2Ideal.Gen
open Idealize.ShloMosaic Idealize.ShloMosaic.TcCoe

/-- One entry of a normalized and modulated row: `x / rms(x) · gain · (1 + scale) + shift`. -/
def modEntry (row : Fin 2048 → EReal) (g : EReal) (sc sh : EReal) (d : Fin 2048) : EReal :=
  row d * rowScale row * g * (1 + sc) + sh

/-- Row `r` of row block `n` of batch `b`, from the block's windows: a context row takes the third vector of
    the modulation, a latent row its batch's. -/
def normAt (n : ℕ) (b : Fin 8) (x : Vec Ideal S1x1056x2048 .f32) (sh sc : Vec Ideal S1x8x2048 .f32) (g : Vec Ideal S1x2048 .f32)
    (r : Fin 1056) (d : Fin 2048) : EReal :=
  modEntry (fun e => x (ix3 0 r e)) (g (ix2 0 d))
    (if 1056 * n + r.val < 256 then sc (ix3 0 2 d) else sc (ix3 0 b d))
    (if 1056 * n + r.val < 256 then sh (ix3 0 2 d) else sh (ix3 0 b d)) d

theorem ld_x (i : grid0.Coords) (h1 : k0_cond1 i = 1#1) (k : Fin k0_t1_loop.trips) (x : Vec Ideal S1x1056x2048 .f32) (r : Fin 352)
    (R : Fin 1056) (hR : R.val = 352 * k.val + r.val) (d : Fin 2048) :
    View.ld x (trX i h1 k) (ix3 0 r d) = x (ix3 0 R d) := by
  refine congrArg x (funext fun a => Fin.ext ?_)
  match a with
  | ⟨0, _⟩ => show (k0_off1 k) 0 + 1 * 0 = 0; rw [off1_eq]; rfl
  | ⟨1, _⟩ => show (k0_off1 k) 1 + 1 * r.val = R.val; rw [off1_eq, hR, Nat.one_mul]; rfl
  | ⟨2, _⟩ => show (k0_off1 k) 2 + 1 * d.val = d.val; rw [off1_eq, Nat.one_mul]; exact Nat.zero_add _

theorem ld_m2 (x : Vec Ideal S1x8x2048 .f32) (d : Fin 2048) : View.ld x trM2 (ix3 0 0 d) = x (ix3 0 2 d) := by
  refine congrArg x (funext fun a => Fin.ext ?_)
  match a with
  | ⟨0, _⟩ => rfl
  | ⟨1, _⟩ => rfl
  | ⟨2, _⟩ => show 0 + 1 * d.val = d.val; omega

theorem ld_mb (i : grid0.Coords) (h1 : k0_cond1 i = 1#1) (x : Vec Ideal S1x8x2048 .f32) (b : Fin 8) (hb : b.val = (i 0).val)
    (d : Fin 2048) : View.ld x (trMb i h1) (ix3 0 0 d) = x (ix3 0 b d) := by
  refine congrArg x (funext fun a => Fin.ext ?_)
  match a with
  | ⟨0, _⟩ => show (k0_off2 i) 0 + 1 * 0 = 0; rw [off2_eq]; rfl
  | ⟨1, _⟩ => show (k0_off2 i) 1 + 1 * 0 = b.val; rw [off2_eq, hb]; rfl
  | ⟨2, _⟩ => show (k0_off2 i) 2 + 1 * d.val = d.val; rw [off2_eq, Nat.one_mul]; exact Nat.zero_add _

theorem ld_g (x : Vec Ideal S1x2048 .f32) (d : Fin 2048) : View.ld x trG (ix2 0 d) = x (ix2 0 d) := by
  refine congrArg x (funext fun a => Fin.ext ?_)
  match a with
  | ⟨0, _⟩ => rfl
  | ⟨1, _⟩ => show 0 + 1 * d.val = d.val; omega

theorem select_ite (p : Prop) [Decidable p] (s t : EReal) :
    Scalar.select (if p then 1#1 else 0#1) s t = if p then s else t := by
  by_cases hp : p <;> simp [Scalar.select, hp]

/-- A trip's rows are the block's, from what its loads hold. -/
theorem tripPay_apply (n : ℕ) (hn : n < 8) (k : Fin k0_t1_loop.trips) (b : Fin 8)
    (x : Vec Ideal S1x1056x2048 .f32) (sh sc : Vec Ideal S1x8x2048 .f32) (g : Vec Ideal S1x2048 .f32) (r : Fin 352) (R : Fin 1056)
    (hR : R.val = 352 * k.val + r.val) (d : Fin 2048) (X : Vec Ideal S1x352x2048 .f32) (G : Vec Ideal S1x2048 .f32)
    (sh2 shb sc2 scb : Vec Ideal S1x1x2048 .f32) (hX : ∀ e, X (ix3 0 r e) = x (ix3 0 R e)) (hG : G (ix2 0 d) = g (ix2 0 d))
    (h1 : sh2 (ix3 0 0 d) = sh (ix3 0 2 d)) (h2 : shb (ix3 0 0 d) = sh (ix3 0 b d))
    (h3 : sc2 (ix3 0 0 d) = sc (ix3 0 2 d)) (h4 : scb (ix3 0 0 d) = sc (ix3 0 b d)) :
    tripPay (BitVec.ofNat 32 n) k X G sh2 shb sc2 scb (ix2 r d) = normAt n b x sh sc g R d := by
  unfold tripPay normAt modEntry
  rw [pay1_apply, pay3_apply, pay5_apply, pay4_apply _ hn, h1, h2, h3, h4, hG, select_ite, select_ite, hR, hX d]
  simp only [hX]

section
variable (c : Dev nD) (i : grid0.Coords) (arg3 : Memref sig .tc .vmem S1x1056x2048 .f32)
    (harg3 : arg3.IsWhole) (arg4 : Memref sig .tc .vmem S1x8x2048 .f32) (harg4 : arg4.IsWhole)
    (arg5 : Memref sig .tc .vmem S1x8x2048 .f32) (harg5 : arg5.IsWhole) (arg6 : Memref sig .tc .vmem S1x2048 .f32)
    (harg6 : arg6.IsWhole) (arg7 : Memref sig .tc .vmem S1x2048x1024 .bf16) (harg7 : arg7.IsWhole)
    (arg8 : Memref sig .tc .vmem S1x1056x1024 .bf16) (harg8 : arg8.IsWhole) (arg9 : Memref sig .tc .vmem S1056x2048 .bf16)
    (harg9 : arg9.IsWhole) (hc0 : cond0_0 i) (b : Fin 8) (hb : b.val = (i 0).val)
    (x0 : Vec Ideal S1x1056x2048 .f32) (x1 x2 : Vec Ideal S1x8x2048 .f32) (x3 : Vec Ideal S1x2048 .f32) (x4 : Vec Ideal S1x2048x1024 .bf16)

/-- The scratch buffer's contents as one function of its index. -/
def normBuf (n : ℕ) (b : Fin 8) (x : Vec Ideal S1x1056x2048 .f32) (sh sc : Vec Ideal S1x8x2048 .f32) (g : Vec Ideal S1x2048 .f32) :
    Vec Ideal S1056x2048 .bf16 := fun y => normAt n b x sh sc g (y 0) (y 1)

include hb in
/-- The loop's pieces, read back through any view over any contents, are the block's rows. -/
theorem read_pbA {sg : RefSig} {κ : Kind} {sp : Space} (v : View sg κ sp S1056x2048 .bf16) (f : v.ty.Contents (Elt Ideal)) (y : S1056x2048.Idx) :
    v.read (Elt Ideal) (v.writes (Elt Ideal) f
      (pbA c i arg3 harg3 arg4 harg4 arg5 harg5 arg6 harg6 arg7 harg7 arg8 harg8 arg9 harg9 x0 x1 x2 x3 hc0)) y
      = normBuf (i 1).val b x0 x1 x2 x3 y := by
  have ht : Scf.trips k0_t1_loop.lb k0_t1_loop.ub k0_t1_loop.st = 3 := trips_eq
  have hmem := pb_eq (F := Ideal) Variants.none c none i arg3 harg3 arg4 harg4 arg5 harg5 arg6 harg6 arg7 harg7 arg8 harg8 arg9 harg9
    (BitVec.ofNat 32 (i 0).val) (BitVec.ofNat 32 (i 1).val) hc0 (harg3.unread x0) (harg4.unread x1) (harg5.unread x2) (harg6.unread x3)
    (Scf.trips k0_t1_loop.lb k0_t1_loop.ub k0_t1_loop.st) le_rfl
  refine View.read_writes_apply_of_pieces (v := v) (f := f) (normBuf (i 1).val b x0 x1 x2 x3) _ ?_ y ?_
  · intro p hp z
    obtain ⟨k, hk, rfl⟩ := (hmem p).mp hp
    have hk3 : k.val < 3 := ht ▸ hk
    have hz : z = ix2 (n0 := 352) (n1 := 2048) (z 0) (z 1) := by
      funext a; match a with
        | ⟨0, _⟩ => rfl
        | ⟨1, _⟩ => rfl
    have hz0 : (z 0).val < 352 := (z 0).isLt
    simp only [View.readAt_eq_ld, Memref.IsWhole.read_unread]
    have e0 : (((trS i hc0 k).emb z) 0).val = 352 * k.val + (z 0).val := by
      show (k0_off3 k) 0 + 1 * (z 0).val = _
      rw [off3_eq, Nat.one_mul]; rfl
    have e1 : ((trS i hc0 k).emb z) 1 = z 1 := Fin.ext (by
      show (k0_off3 k) 1 + 1 * (z 1).val = _
      rw [off3_eq, Nat.one_mul]; exact Nat.zero_add _)
    unfold normBuf
    rw [e1]
    conv_lhs => rw [hz]
    exact tripPay_apply (i 1).val (i 1).isLt k b x0 x1 x2 x3 (z 0) _ e0 (z 1) _ _ _ _ _ _ (ld_x i hc0 k x0 (z 0) _ e0) (ld_g x3 (z 1))
      (ld_m2 x1 (z 1)) (ld_mb i hc0 x1 b hb (z 1)) (ld_m2 x2 (z 1)) (ld_mb i hc0 x2 b hb (z 1))
  · have hy0 : (y 0).val < 1056 := (y 0).isLt
    have hkk : (y 0).val / 352 < 3 := by omega
    have hlt : (y 0).val / 352 < k0_t1_loop.trips := lt_of_lt_of_eq hkk trips_eq.symm
    refine ⟨_, (hmem _).mpr ⟨⟨(y 0).val / 352, hlt⟩, lt_of_lt_of_eq hkk ht.symm, rfl⟩, ?_⟩
    show y ∈ (trS i hc0 ⟨(y 0).val / 352, hlt⟩).set
    unfold trS
    rw [Rect.mem_set_unit, off3_eq]
    intro a
    match a with
    | ⟨0, _⟩ =>
      show 352 * ((y 0).val / 352) ≤ (y 0).val ∧ (y 0).val < 352 * ((y 0).val / 352) + 352
      omega
    | ⟨1, _⟩ => exact ⟨Nat.zero_le _, lt_of_lt_of_eq (y 1).isLt (Nat.zero_add _).symm⟩

end

end Cert.Kernel2Ideal.Body
end
-- ==== Proof.InPoint.lean ====
/- What every point of the projection's grid leaves: the scratch buffer holds the rows of its row block, the output block
   their product with the weights. -/
module

public import proofs.«01_k».proof.Proof.InBlock
public import Idealize.ShloMosaic.Lib.VecWindow
public import Idealize.ShloMosaic.Lib.Pipeline.ValueKit.Geometry

@[expose] public section
set_option maxRecDepth 16384
noncomputable section
namespace Cert.Kernel2Ideal.Body
open Cert.Kernel2Ideal.Gen
open Idealize.ShloMosaic Idealize.ShloMosaic.TcCoe Idealize.SL.Sem
open Idealize.ShloMosaic.Pipeline (Dat Cfg Window)

section
variable (c : Dev nD) (i : grid0.Coords) (arg3 : Memref sig .tc .vmem S1x1056x2048 .f32)
    (harg3 : arg3.IsWhole) (arg4 : Memref sig .tc .vmem S1x8x2048 .f32) (harg4 : arg4.IsWhole)
    (arg5 : Memref sig .tc .vmem S1x8x2048 .f32) (harg5 : arg5.IsWhole) (arg6 : Memref sig .tc .vmem S1x2048 .f32)
    (harg6 : arg6.IsWhole) (arg7 : Memref sig .tc .vmem S1x2048x1024 .bf16) (harg7 : arg7.IsWhole)
    (arg8 : Memref sig .tc .vmem S1x1056x1024 .bf16) (harg8 : arg8.IsWhole) (arg9 : Memref sig .tc .vmem S1056x2048 .bf16)
    (harg9 : arg9.IsWhole) (b : Fin 8) (hb : b.val = (i 0).val)
    (x0 : Vec Ideal S1x1056x2048 .f32) (x1 x2 : Vec Ideal S1x8x2048 .f32) (x3 : Vec Ideal S1x2048 .f32) (x4 : Vec Ideal S1x2048x1024 .bf16)

include hb in
theorem sout0_A (hc0 : cond0_0 i) :
    sout0_A_0 c i arg3 harg3 arg4 harg4 arg5 harg5 arg6 harg6 arg7 harg7 arg8 harg8 arg9 harg9 hc0 x0 x1 x2 x3 x4
      = normBuf (i 1).val b x0 x1 x2 x3 := by
  unfold sout0_A_0
  rw [runA_scratch]
  exact funext fun y => read_pbA c i arg3 harg3 arg4 harg4 arg5 harg5 arg6 harg6 arg7 harg7 arg8 harg8 arg9 harg9 hc0 b hb x0 x1 x2 x3 _ _ y

include hb in
theorem out0_A (hc0 : cond0_0 i) :
    out0_A_5 c i arg3 harg3 arg4 harg4 arg5 harg5 arg6 harg6 arg7 harg7 arg8 harg8 arg9 harg9 hc0 x0 x1 x2 x3 x4
      = k0_pay2 (normBuf (i 1).val b x0 x1 x2 x3) x4 := by
  unfold out0_A_5
  rw [runA_out, View.read_writes_full]
  refine congrArg₂ k0_pay2 ?_ ?_
  · unfold View.readCov
    rw [View.readAt_full]
    exact funext fun y => read_pbA c i arg3 harg3 arg4 harg4 arg5 harg5 arg6 harg6 arg7 harg7 arg8 harg8 arg9 harg9 hc0 b hb x0 x1 x2 x3 _ _ y
  · rw [View.readAt_full, harg7.read_unread]

theorem out0_B (hc0 : ¬cond0_0 i) (xs : Vec Ideal S1056x2048 .bf16) :
    out0_B_5 c i arg3 harg3 arg4 harg4 arg5 harg5 arg6 harg6 arg7 harg7 arg8 harg8 arg9 harg9 hc0 x0 x1 x2 x3 x4 xs
      = k0_pay2 xs x4 := by
  unfold out0_B_5
  rw [runB_out, View.read_writes_full]
  refine congrArg₂ k0_pay2 ?_ ?_
  · rw [View.readAt_full, harg9.read_unread]
  · rw [View.readAt_full, harg7.read_unread]
end

/-! ## The arrays -/

/-- Entry `d` of the normalized and modulated row `r` of batch `b`. -/
def inRow (x : Vec Ideal S2x8448x2048 .f32) (md : Vec Ideal S2x8x12288 .f32) (g : Vec Ideal S2048 .f32) (b : Fin 2) (r : Fin 8448)
    (d : Fin 2048) : EReal :=
  modEntry (fun e => x (ix3 b r e)) (g (ix1 d))
    (if r.val < 256 then md (ix3 0 2 ⟨2048 + d.val, by omega⟩) else md (ix3 0 ⟨b.val, by omega⟩ ⟨2048 + d.val, by omega⟩))
    (if r.val < 256 then md (ix3 0 2 ⟨d.val, by omega⟩) else md (ix3 0 ⟨b.val, by omega⟩ ⟨d.val, by omega⟩)) d

/-- The projection of every normalized and modulated row. -/
def inAll (x : Vec Ideal S2x8448x2048 .f32) (md : Vec Ideal S2x8x12288 .f32) (g : Vec Ideal S2048 .f32)
    (w : Vec Ideal S2x2048x19456 .bf16) : Vec Ideal S2x8448x19456 .bf16 := fun i =>
  ∑ d : Fin 2048, inRow x md g (i 0) (i 1) d * w (ix3 0 d (i 2))

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![0, 0, 1] :=
  (by decide +kernel : ∀ t : Fin grid0.N, win0_2.index t = ![0, 0, 1])
theorem index3 : ∀ t : Fin cfg0.N, win0_3.index t = ![0, 0] :=
  (by decide +kernel : ∀ t : Fin grid0.N, win0_3.index t = ![0, 0])
theorem index4 : ∀ t : Fin cfg0.N, win0_4.index t = ![0, 0, (grid0.coords t 2).val] :=
  (by decide +kernel : ∀ t : Fin grid0.N, win0_4.index t = ![0, 0, (grid0.coords t 2).val])
theorem coords_eq : ∀ t : Fin cfg0.N, (grid0.coords t 0).val = t.val / 152 ∧ (grid0.coords t 1).val = t.val / 19 % 8
    ∧ (grid0.coords t 2).val = t.val % 19 :=
  (by decide +kernel : ∀ t : Fin grid0.N, (grid0.coords t 0).val = t.val / 152 ∧ (grid0.coords t 1).val = t.val / 19 % 8
    ∧ (grid0.coords t 2).val = t.val % 19)
theorem coord0_lt (t : Fin cfg0.N) : (grid0.coords t 0).val < 2 := (grid0.coords t 0).isLt
theorem coord1_lt (t : Fin cfg0.N) : (grid0.coords t 1).val < 8 := (grid0.coords t 1).isLt
theorem coord2_lt (t : Fin cfg0.N) : (grid0.coords t 2).val < 19 := (grid0.coords t 2).isLt

variable (m : (ℓ : Loc nD τ sig) → Buf (Elt Ideal) ℓ) (c : Dev nD)

/-- The arrays as the launch finds them. -/
abbrev xArr : Vec Ideal S2x8448x2048 .f32 := m ((c : Thread nD τ).loc main_arg0)
abbrev mArr : Vec Ideal S2x8x12288 .f32 := m ((c : Thread nD τ).loc main_arg1)
abbrev gArr : Vec Ideal S2048 .f32 := m ((c : Thread nD τ).loc main_arg2)
abbrev wArr : Vec Ideal S2x2048x19456 .bf16 := m ((c : Thread nD τ).loc main_arg3)

theorem iblk0_apply (t : Fin cfg0.N) (r : Fin 1056) (d : Fin 2048) :
    (iblk m c 0 t (ix3 (n0 := 1) (n1 := 1056) (n2 := 2048) 0 r d) : EReal)
      = xArr m c (ix3 ⟨(grid0.coords t 0).val, coord0_lt t⟩
          ⟨1056 * (grid0.coords t 1).val + r.val, by have := coord1_lt t; omega⟩ d) := by
  unfold xArr
  rw [← V_main_arg0 m c]
  blk_simp [iblk]
  refine congrArg _ ?_
  blk_ext [index0]

theorem iblk1_apply (t : Fin cfg0.N) (r : Fin 8) (d : Fin 2048) :
    (iblk m c 1 t (ix3 (n0 := 1) (n1 := 8) (n2 := 2048) 0 r d) : EReal) = mArr m c (ix3 0 r ⟨d.val, by omega⟩) := by
  unfold mArr
  rw [← V_main_arg1 m c]
  blk_simp [iblk]
  refine congrArg _ ?_
  blk_ext [index1]

theorem iblk2_apply (t : Fin cfg0.N) (r : Fin 8) (d : Fin 2048) :
    (iblk m c 2 t (ix3 (n0 := 1) (n1 := 8) (n2 := 2048) 0 r d) : EReal) = mArr m c (ix3 0 r ⟨2048 + d.val, by omega⟩) := by
  unfold mArr
  rw [← V_main_arg1 m c]
  blk_simp [iblk]
  refine congrArg _ ?_
  blk_ext [index2]

theorem iblk4_apply (t : Fin cfg0.N) (d : Fin 2048) (n : Fin 1024) :
    (iblk m c 4 t (ix3 (n0 := 1) (n1 := 2048) (n2 := 1024) 0 d n) : EReal)
      = wArr m c (ix3 0 d ⟨1024 * (grid0.coords t 2).val + n.val, by have := coord2_lt t; omega⟩) := by
  unfold wArr
  rw [← V_main_arg3 m c]
  blk_simp [iblk]
  refine congrArg _ ?_
  blk_ext [index4]

theorem gain_apply (g : Vec Ideal S2048 .f32) (d : Fin 2048) :
    shapeCast S1x2048 g shapeCasts_S2048_S1x2048 (ix2 0 d) = g (ix1 d) := by
  pointwise []

theorem iblk3_apply (t : Fin cfg0.N) (d : Fin 2048) :
    (iblk m c 3 t (ix2 (n0 := 1) (n1 := 2048) 0 d) : EReal) = gArr m c (ix1 d) := by
  have h : V m c main_v0 = shapeCast S1x2048 (gArr m c) shapeCasts_S2048_S1x2048 := by rfl
  refine Eq.trans ?_ (gain_apply (gArr m c) d)
  rw [← h]
  blk_simp [iblk]
  refine congrArg _ ?_
  blk_ext [index3]

/-! ## Every point -/

/-- The rows of the row block point `t` works on. -/
def rowsAt (t : Fin cfg0.N) : Vec Ideal S1056x2048 .bf16 := fun y =>
  inRow (xArr m c) (mArr m c) (gArr m c) ⟨(grid0.coords t 0).val, coord0_lt t⟩
    ⟨1056 * (grid0.coords t 1).val + (y 0).val, by have := coord1_lt t; have h : (y 0).val < 1056 := (y 0).isLt; omega⟩ (y 1)

theorem normAt_eq (t : Fin cfg0.N) (r : Fin 1056) (d : Fin 2048) :
    normAt (grid0.coords t 1).val ⟨(grid0.coords t 0).val, by have := coord0_lt t; omega⟩ (iblk m c 0 t) (iblk m c 1 t) (iblk m c 2 t)
      (iblk m c 3 t) r d
      = inRow (xArr m c) (mArr m c) (gArr m c) ⟨(grid0.coords t 0).val, coord0_lt t⟩
          ⟨1056 * (grid0.coords t 1).val + r.val, by have := coord1_lt t; omega⟩ d := by
  unfold normAt inRow
  rw [iblk2_apply, iblk2_apply, iblk1_apply, iblk1_apply, iblk3_apply]
  simp only [iblk0_apply]

theorem normBuf_eq (t : Fin cfg0.N) :
    normBuf (grid0.coords t 1).val ⟨(grid0.coords t 0).val, by have := coord0_lt t; omega⟩ (iblk m c 0 t) (iblk m c 1 t) (iblk m c 2 t)
      (iblk m c 3 t) = rowsAt m c t :=
  funext fun y => normAt_eq m c t (y 0) (y 1)

theorem rowsAt_pred (t s : Fin cfg0.N) (h0 : (grid0.coords t 0).val = (grid0.coords s 0).val)
    (h1 : (grid0.coords t 1).val = (grid0.coords s 1).val) : rowsAt m c t = rowsAt m c s := by
  funext y
  unfold rowsAt
  congr 1
  · exact Fin.ext h0
  · exact Fin.ext (by show 1056 * _ + _ = 1056 * _ + _; rw [h1])

/-- The scratch buffer after every point: the rows of its row block. -/
theorem scratch_eq : ∀ (n : ℕ) (hn : n < cfg0.N), (outsAt0 m c n hn).2 = rowsAt m c ⟨n, hn⟩ := by
  intro n
  induction n with
  | zero =>
    intro hn
    rw [outsAt0_A m c ⟨0, hn⟩ rfl]
    exact (sout0_A c _ _ _ _ _ _ _ _ _ _ _ _ _ _ _ _ rfl _ _ _ _ _ _).trans (normBuf_eq m c ⟨0, hn⟩)
  | succ n ih =>
    intro hn
    by_cases h0 : (n + 1) % 19 = 0
    · rw [outsAt0_A m c ⟨n + 1, hn⟩ h0]
      exact (sout0_A c _ _ _ _ _ _ _ _ _ _ _ _ _ _ _ _ rfl _ _ _ _ _ _).trans (normBuf_eq m c ⟨n + 1, hn⟩)
    · rw [outsAt0_B m c ⟨n + 1, hn⟩ h0]
      have hn' : n < cfg0.N := Nat.lt_of_succ_lt hn
      refine (ih hn').trans (rowsAt_pred m c _ _ ?_ ?_)
      · rw [(coords_eq ⟨n, hn'⟩).1, (coords_eq ⟨n + 1, hn⟩).1]; show n / 152 = (n + 1) / 152; omega
      · rw [(coords_eq ⟨n, hn'⟩).2.1, (coords_eq ⟨n + 1, hn⟩).2.1]; show n / 19 % 8 = (n + 1) / 19 % 8; omega

/-- The output block after every point. -/
theorem out_eq (t : Fin cfg0.N) : (outsAt0 m c t.val t.isLt).1 = k0_pay2 (rowsAt m c t) (iblk m c 4 t) := by
  by_cases h0 : t.val % 19 = 0
  · refine (congrArg Prod.fst (outsAt0_A m c t h0)).trans ?_
    dsimp only
    rw [← normBuf_eq m c t]
    exact out0_A c _ _ _ _ _ _ _ _ _ _ _ _ _ _ _ ⟨(grid0.coords t 0).val, by have := coord0_lt t; omega⟩ rfl _ _ _ _ _ _
  · have h2 : (outsAt0 m c (t.val - 1) (Nat.lt_of_le_of_lt (Nat.sub_le _ _) t.isLt)).2 = rowsAt m c t :=
      (congrArg Prod.snd (outsAt0_B m c t h0)).symm.trans (scratch_eq m c t.val t.isLt)
    refine (congrArg Prod.fst (outsAt0_B m c t h0)).trans ?_
    dsimp only
    rw [← h2]
    exact out0_B c _ _ _ _ _ _ _ _ _ _ _ _ _ _ _ _ _ _ _ _ _ _

/-- An output block's entry. -/
theorem block_apply (t : Fin cfg0.N) (r : Fin 1056) (n : Fin 1024) :
    k0_pay2 (rowsAt m c t) (iblk m c 4 t) (ix3 0 r n)
      = inAll (xArr m c) (mArr m c) (gArr m c) (wArr m c) (ix3 ⟨(grid0.coords t 0).val, coord0_lt t⟩
          ⟨1056 * (grid0.coords t 1).val + r.val, by have := coord1_lt t; omega⟩
          ⟨1024 * (grid0.coords t 2).val + n.val, by have := coord2_lt t; omega⟩) := by
  refine (pay2_apply _ _ r n).trans ?_
  unfold inAll
  refine Finset.sum_congr rfl fun d _ => ?_
  rw [iblk4_apply]
  rfl

theorem index5 : ∀ t : Fin cfg0.N, win0_5.index t = ![(grid0.coords t 0).val, (grid0.coords t 1).val, (grid0.coords t 2).val] :=
  (by decide +kernel : ∀ t : Fin grid0.N, win0_5.index t = ![(grid0.coords t 0).val, (grid0.coords t 1).val, (grid0.coords t 2).val])

/-- The output array after the run. -/
theorem final : (dats m 0 c).arrAt 5 cfg0.N = inAll (xArr m c) (mArr m c) (gArr m c) (wArr m c) := by
  refine (dats m 0 c).arrAt_eq_of_covers 5 _ (by decide +kernel) fun t hf y => ?_
  blk_simp
  rw [after0_5, out_eq]
  have h0 : (y 0).val < 1 := (y 0).isLt
  have h1 : (y 1).val < 1056 := (y 1).isLt
  have h2 : (y 2).val < 1024 := (y 2).isLt
  have hc0 := coord0_lt t
  have hc1 := coord1_lt t
  have hc2 := coord2_lt t
  have e0 : ((win0_5.blk t).view.emb y 0).val = (grid0.coords t 0).val := by blk_simp [index5]
  have e1 : ((win0_5.blk t).view.emb y 1).val = (grid0.coords t 1).val * 1056 + (y 1).val := by blk_simp [index5]
  have e2 : ((win0_5.blk t).view.emb y 2).val = (grid0.coords t 2).val * 1024 + (y 2).val := by blk_simp [index5]
  have hy : y = ix3 (n0 := 1) (n1 := 1056) (n2 := 1024) 0 (y 1) (y 2) := by
    funext a
    match a with
    | ⟨0, _⟩ => exact Fin.ext (by show (y 0).val = 0; omega)
    | ⟨1, _⟩ => rfl
    | ⟨2, _⟩ => rfl
  refine (congrArg (k0_pay2 (rowsAt m c t) (iblk m c 4 t)) hy).trans ((block_apply m c t (y 1) (y 2)).trans ?_)
  refine congrArg (inAll _ _ _ _) (funext fun a => Fin.ext ?_)
  match a with
  | ⟨0, _⟩ => exact e0.symm
  | ⟨1, _⟩ => refine Eq.trans ?_ e1.symm; show 1056 * _ + (y 1).val = _; omega
  | ⟨2, _⟩ => refine Eq.trans ?_ e2.symm; show 1024 * _ + (y 2).val = _; omega

/-- The run: the output array ends holding the projection of the normalized rows. -/
theorem run_value (ρ : Dev nD → PrngReg) :
    θ_run defs (onTc (τ := τ) (main (F := Ideal))) ⟨m, fun _ => 0, ρ⟩ fun r => ∀ c : Dev nD,
      r.2.mem ((c.tc : Thread nD τ).loc main_v1) = inAll (xArr m c) (mArr m c) (gArr m c) (wArr m c) :=
  (θ_run defs _ _).mono (fun r hr c => (hr c).1.trans (final m c)) (Value.run_blocks m ρ)

end Cert.Kernel2Ideal.Body
end
-- ==== Proof.InRef.lean ====
/- The reference of the projection, read at an index over the extended reals. -/
module

public import proofs.«01_k».proof.Proof.InPoint
public import proofs.«01_k».proof.Proof.Gen.Reference2Ideal.Run
public import proofs.«01_k».proof.Proof.Gen.Reference2Ideal.Read

@[expose] public section
set_option maxRecDepth 16384
noncomputable section
namespace Cert.Reference2Ideal.Body
open Cert.Reference2Ideal Cert.Reference2Ideal.Gen Cert.Reference2Ideal.Read
open Idealize.ShloMosaic
open Cert.Kernel2Ideal.Body (modEntry rowScale inRow inAll)

variable (x0 : Vec Ideal S2x8448x2048 .f32) (x1 : Vec Ideal S2x8x12288 .f32) (x2 : Vec Ideal S2048 .f32) (x3 : Vec Ideal S2x2048x19456 .bf16)

/-! ## The context rows -/

theorem v5_apply (b : Fin 2) (r : Fin 256) (d : Fin 2048) :
    (val_main_v5 (F := Ideal) x0 (ix3 b r d) : EReal) = x0 (ix3 b ⟨r.val, by omega⟩ d) := by
  pointwise [val_main_v5]

theorem v13_apply (b : Fin 2) (r : Fin 256) :
    (val_main_v13 (F := Ideal) x0 (ix3 b r 0) : EReal) = rowScale (fun e => val_main_v5 (F := Ideal) x0 (ix3 b r e)) := by
  unfold val_main_v13 val_main_v12 val_main_v10 val_main_v8 val_main_v7 val_main_v6
  generalize val_main_v5 (F := Ideal) x0 = y
  pointwise [val_main_v9, val_main_v11, val_main_cst, val_main_cst_0, val_main_cst_1, rowScale]

theorem v22_apply (d : Fin 2048) : (val_main_v22 (F := Ideal) x1 (ix1 d) : EReal) = 1 + x1 (ix3 0 2 ⟨2048 + d.val, by omega⟩) := by
  pointwise [val_main_v22, val_main_v21, val_main_v20, val_main_v4, val_main_v3, val_main_cst_2]

theorem v19_apply (d : Fin 2048) : (val_main_v19 (F := Ideal) x1 (ix1 d) : EReal) = x1 (ix3 0 2 ⟨d.val, by omega⟩) := by
  pointwise [val_main_v19, val_main_v4, val_main_v3]

theorem v28_apply (b : Fin 2) (r : Fin 256) (d : Fin 2048) :
    (val_main_v28 (F := Ideal) x0 x1 x2 (ix3 b r d) : EReal)
      = val_main_v5 (F := Ideal) x0 (ix3 b r d) * val_main_v13 (F := Ideal) x0 (ix3 b r 0) * x2 (ix1 d)
          * val_main_v22 (F := Ideal) x1 (ix1 d) + val_main_v19 (F := Ideal) x1 (ix1 d) := by
  unfold val_main_v28 val_main_v27 val_main_v26 val_main_v25 val_main_v24 val_main_v23 val_main_v18 val_main_v17 val_main_v16 val_main_v15 val_main_v14
  generalize val_main_v5 (F := Ideal) x0 = y
  generalize val_main_v13 (F := Ideal) x0 = z
  generalize val_main_v22 (F := Ideal) x1 = u
  generalize val_main_v19 (F := Ideal) x1 = w
  pointwise []

theorem ctx_row (b : Fin 2) (r : Fin 256) (d : Fin 2048) :
    (val_main_v28 (F := Ideal) x0 x1 x2 (ix3 b r d) : EReal) = inRow x0 x1 x2 b ⟨r.val, by omega⟩ d := by
  have hr : r.val < 256 := r.isLt
  rw [v28_apply, v13_apply, v22_apply, v19_apply]
  unfold inRow modEntry
  simp only [v5_apply, if_pos hr]

/-! ## The latent rows -/

theorem v29_apply (b : Fin 2) (r : Fin 8192) (d : Fin 2048) :
    (val_main_v29 (F := Ideal) x0 (ix3 b r d) : EReal) = x0 (ix3 b ⟨256 + r.val, by omega⟩ d) := by
  pointwise [val_main_v29]

theorem v37_apply (b : Fin 2) (r : Fin 8192) :
    (val_main_v37 (F := Ideal) x0 (ix3 b r 0) : EReal) = rowScale (fun e => val_main_v29 (F := Ideal) x0 (ix3 b r e)) := by
  unfold val_main_v37 val_main_v36 val_main_v34 val_main_v32 val_main_v31 val_main_v30
  generalize val_main_v29 (F := Ideal) x0 = y
  pointwise [val_main_v33, val_main_v35, val_main_cst_3, val_main_cst_4, val_main_cst_5, rowScale]

theorem v46_apply (b : Fin 2) (d : Fin 2048) :
    (val_main_v46 (F := Ideal) x1 (ix3 b 0 d) : EReal) = 1 + x1 (ix3 0 ⟨b.val, by omega⟩ ⟨2048 + d.val, by omega⟩) := by
  pointwise [val_main_v46, val_main_v45, val_main_v44, val_main_v2, val_main_v1, val_main_v0, val_main_cst_6]

theorem v43_apply (b : Fin 2) (d : Fin 2048) :
    (val_main_v43 (F := Ideal) x1 (ix3 b 0 d) : EReal) = x1 (ix3 0 ⟨b.val, by omega⟩ ⟨d.val, by omega⟩) := by
  pointwise [val_main_v43, val_main_v2, val_main_v1, val_main_v0]

theorem v50_apply (b : Fin 2) (r : Fin 8192) (d : Fin 2048) :
    (val_main_v50 (F := Ideal) x0 x1 x2 (ix3 b r d) : EReal)
      = val_main_v29 (F := Ideal) x0 (ix3 b r d) * val_main_v37 (F := Ideal) x0 (ix3 b r 0) * x2 (ix1 d)
          * val_main_v46 (F := Ideal) x1 (ix3 b 0 d) + val_main_v43 (F := Ideal) x1 (ix3 b 0 d) := by
  unfold val_main_v50 val_main_v49 val_main_v48 val_main_v47 val_main_v42 val_main_v41 val_main_v40 val_main_v39 val_main_v38
  generalize val_main_v29 (F := Ideal) x0 = y
  generalize val_main_v37 (F := Ideal) x0 = z
  generalize val_main_v46 (F := Ideal) x1 = u
  generalize val_main_v43 (F := Ideal) x1 = w
  pointwise []

theorem lat_row (b : Fin 2) (r : Fin 8192) (d : Fin 2048) :
    (val_main_v50 (F := Ideal) x0 x1 x2 (ix3 b r d) : EReal) = inRow x0 x1 x2 b ⟨256 + r.val, by omega⟩ d := by
  have hr : ¬(256 + r.val < 256) := by omega
  rw [v50_apply, v37_apply, v46_apply, v43_apply]
  unfold inRow modEntry
  simp only [v29_apply, if_neg hr]

/-! ## The projection -/

theorem v53_apply (d : Fin 2048) (n : Fin 19456) : (val_main_v53 (F := Ideal) x3 (ix2 d n) : EReal) = x3 (ix3 0 d n) := by
  pointwise [val_main_v53, val_main_v52, val_main_v51]

theorem v54_apply (b : Fin 2) (r : Fin 256) (n : Fin 19456) :
    (val_main_v54 (F := Ideal) x0 x1 x2 x3 (ix3 b r n) : EReal)
      = ∑ d : Fin 2048, val_main_v28 (F := Ideal) x0 x1 x2 (ix3 b r d) * val_main_v53 (F := Ideal) x3 (ix2 d n) := by
  unfold val_main_v54
  generalize val_main_v28 (F := Ideal) x0 x1 x2 = y
  generalize val_main_v53 (F := Ideal) x3 = z
  pointwise []

theorem v55_apply (b : Fin 2) (r : Fin 8192) (n : Fin 19456) :
    (val_main_v55 (F := Ideal) x0 x1 x2 x3 (ix3 b r n) : EReal)
      = ∑ d : Fin 2048, val_main_v50 (F := Ideal) x0 x1 x2 (ix3 b r d) * val_main_v53 (F := Ideal) x3 (ix2 d n) := by
  unfold val_main_v55
  generalize val_main_v50 (F := Ideal) x0 x1 x2 = y
  generalize val_main_v53 (F := Ideal) x3 = z
  pointwise []

theorem v57_apply (b : Fin 2) (r : Fin 8448) (n : Fin 19456) :
    (val_main_v57 (F := Ideal) x0 x1 x2 x3 (ix3 b r n) : EReal)
      = if h : r.val < 256 then val_main_v54 (F := Ideal) x0 x1 x2 x3 (ix3 b ⟨r.val, h⟩ n)
        else val_main_v55 (F := Ideal) x0 x1 x2 x3 (ix3 b ⟨r.val - 256, by omega⟩ n) := by
  unfold val_main_v57 val_main_v56
  generalize val_main_v54 (F := Ideal) x0 x1 x2 x3 = y
  generalize val_main_v55 (F := Ideal) x0 x1 x2 x3 = z
  pointwise []

theorem result_apply (b : Fin 2) (r : Fin 8448) (n : Fin 19456) :
    (val_main_v57 (F := Ideal) x0 x1 x2 x3 (ix3 b r n) : EReal)
      = ∑ d : Fin 2048, inRow x0 x1 x2 b r d * x3 (ix3 0 d n) := by
  rw [v57_apply]
  by_cases h : r.val < 256
  · rw [dif_pos h, v54_apply]
    refine Finset.sum_congr rfl fun d _ => ?_
    rw [ctx_row, v53_apply]
  · rw [dif_neg h, v55_apply]
    refine Finset.sum_congr rfl fun d _ => ?_
    have e : (⟨256 + (r.val - 256), by omega⟩ : Fin 8448) = r := Fin.ext (by show 256 + (r.val - 256) = r.val; omega)
    rw [lat_row, v53_apply, e]

/-- The reference's result is the projection of the normalized rows. -/
theorem result_eq : val_main_v57 (F := Ideal) x0 x1 x2 x3 = inAll x0 x1 x2 x3 := by
  funext i
  rw [eq_ix3 i]
  exact result_apply x0 x1 x2 x3 (i 0) (i 1) (i 2)

end Cert.Reference2Ideal.Body
end
-- ==== Proof.InClaims.lean ====
/- The claims about the input projection, one theorem each. -/
module

public import proofs.«01_k».proof.Defs
public import proofs.«01_k».proof.Proof.InRef
public import Idealize.ShloMosaic.Lib.Claim

@[expose] public section
noncomputable section
namespace Cert.Proof
open Idealize.ShloMosaic Idealize.ShloMosaic.TcCoe Idealize.SL.Sem
open Cert.Kernel2Ideal.Body (inAll xArr mArr gArr wArr)

/-- The reference has no semaphore, and its run leaves its arguments alone. -/
theorem quiescent_in_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference end with the same projection. -/
theorem algebraic_in : Cert.algebraic_Kernel2Ideal_Reference2Ideal := by
  intro m ρ m' ρ' _ hagree
  refine ⟨fun c => inAll (xArr m c) (mArr m c) (gArr m c) (wArr m c), ?_, ?_⟩
  · exact (θ_run Cert.Kernel2Ideal.defs _ _).mono (fun r h c => ⟨h.1 c, (h.2 c).2⟩)
      (θ_run_and (Cert.Kernel2Ideal.Body.run_value m ρ) (Cert.Kernel2Ideal.Value.run_blocks m ρ))
  · refine (θ_run Cert.Reference2Ideal.defs _ _).mono (fun r h c => ⟨(h c).1.trans ?_, (h c).2⟩)
      (Cert.Reference2Ideal.Value.run (F := Ideal) m' ρ')
    rw [Cert.Reference2Ideal.Read.val_main_v57_eq, (hagree c).1, (hagree c).2.1, (hagree c).2.2.1, (hagree c).2.2.2]
    exact Cert.Reference2Ideal.Body.result_eq _ _ _ _

end Cert.Proof
end
-- ==== Proof.MergePay.lean ====
/- What one point of the merge's grid computes, read at one index over the extended reals. -/
module

public import proofs.«01_k».proof.Proof.Gen.Kernel3Ideal.Value
public import Idealize.ShloMosaic.Lib.Pointwise

@[expose] public section
set_option maxRecDepth 16384
noncomputable section
namespace Cert.Kernel3Ideal.Body
open Cert.Kernel3Ideal.Gen
open Idealize.ShloMosaic Idealize.ShloMosaic.TcCoe

/-- The gate of a logit: `1 / (1 + exp (-p))`. -/
def gate (p : EReal) : EReal := Ideal.div 1 (1 + Ideal.exp (-p))

theorem pay2_apply (g0 : Vec Ideal S1x768x512 .bf16) (y0 : Vec Ideal S1x768x2048 .bf16) (w0 : Vec Ideal S1x2048x512 .bf16)
    (g1 : Vec Ideal S1x768x512 .bf16) (y1 : Vec Ideal S1x768x2048 .bf16) (w1 : Vec Ideal S1x2048x512 .bf16) (r : Fin 768) (n : Fin 512) :
    (k0_pay2 g0 y0 w0 g1 y1 w1 (ix2 r n) : EReal)
      = gate (g0 (ix3 0 r n)) * ∑ d : Fin 2048, y0 (ix3 0 r d) * w0 (ix3 0 d n)
        + gate (g1 (ix3 0 r n)) * ∑ d : Fin 2048, y1 (ix3 0 r d) * w1 (ix3 0 d n) := by
  pointwise [k0_pay2, gate]
  rfl

theorem pay3_apply (g : Vec Ideal S1x768x512 .bf16) (r : Fin 768) (n : Fin 512) :
    (k0_pay3 g (ix2 r n) : EReal) = gate (g (ix3 0 r n)) := by
  pointwise [k0_pay3, gate]
  rfl

theorem pay1_apply (a b : FVec Ideal S768x512 .f32) (y : Vec Ideal S1x768x2048 .bf16) (w : Vec Ideal S1x2048x512 .bf16)
    (r : Fin 768) (n : Fin 512) :
    (k0_pay1 a b (k0_pay4 y) w (ix3 0 r n) : EReal)
      = a (ix2 r n) + b (ix2 r n) * ∑ d : Fin 2048, y (ix3 0 r d) * w (ix3 0 d n) := by
  pointwise [k0_pay1, k0_pay4]

end Cert.Kernel3Ideal.Body
end
-- ==== Proof.MergePoint.lean ====
/- What the merge's grid leaves in the output array. -/
module

public import proofs.«01_k».proof.Proof.MergePay
public import Idealize.ShloMosaic.Lib.VecWindow
public import Idealize.ShloMosaic.Lib.Pipeline.ValueKit.Geometry

@[expose] public section
set_option maxRecDepth 16384
noncomputable section
namespace Cert.Kernel3Ideal.Body
open Cert.Kernel3Ideal.Gen
open Idealize.ShloMosaic Idealize.ShloMosaic.TcCoe Idealize.SL.Sem
open Idealize.ShloMosaic.Pipeline (Dat Cfg Window)

/-- One branch's share of a row's entry: its gate times its row of the branch's output projection. -/
def share (y : Vec Ideal S2x8448x2048 .bf16) (w : Vec Ideal S2x2048x2048 .bf16) (p : EReal) (b : Fin 2) (r : Fin 8448) (n : Fin 2048) : EReal :=
  gate p * ∑ d : Fin 2048, y (ix3 b r d) * w (ix3 0 d n)

/-- The sum of the three branches' gated projections. -/
def mergeAll (ya yl ys : Vec Ideal S2x8448x2048 .bf16) (p : Vec Ideal S2x8448x19456 .bf16) (wa wl ws : Vec Ideal S2x2048x2048 .bf16) :
    Vec Ideal S2x8448x2048 .bf16 := fun i =>
  have h : (i 2).val < 2048 := (i 2).isLt
  share ya wa (p (ix3 (i 0) (i 1) ⟨13312 + (i 2).val, by omega⟩)) (i 0) (i 1) (i 2)
    + share yl wl (p (ix3 (i 0) (i 1) ⟨15360 + (i 2).val, by omega⟩)) (i 0) (i 1) (i 2)
    + share ys ws (p (ix3 (i 0) (i 1) ⟨17408 + (i 2).val, by omega⟩)) (i 0) (i 1) (i 2)

/-! ## One block from its input blocks -/

theorem out_apply (x0 x1 x2 : Vec Ideal S1x768x2048 .bf16) (x3 x4 x5 : Vec Ideal S1x768x512 .bf16) (x6 x7 x8 : Vec Ideal S1x2048x512 .bf16)
    (r : Fin 768) (n : Fin 512) :
    (out0_9 x0 x1 x2 x3 x4 x5 x6 x7 x8 (ix3 0 r n) : EReal)
      = gate (x3 (ix3 0 r n)) * (∑ d : Fin 2048, x0 (ix3 0 r d) * x6 (ix3 0 d n))
        + gate (x4 (ix3 0 r n)) * (∑ d : Fin 2048, x1 (ix3 0 r d) * x7 (ix3 0 d n))
        + gate (x5 (ix3 0 r n)) * (∑ d : Fin 2048, x2 (ix3 0 r d) * x8 (ix3 0 d n)) := by
  unfold out0_9
  have hz : (![0, 0, 0] : Fin 3 → ℕ) = fun _ => 0 := by decide
  rw [View.canon_unit_zero hz]
  simp only [View.ld_unit_zero (S := S1x768x512) hz, View.ld_unit_zero (S := S1x768x2048) hz, View.ld_unit_zero (S := S1x2048x512) hz]
  refine (pay1_apply _ _ _ _ r n).trans ?_
  rw [pay2_apply, pay3_apply]

/-! ## The blocks of the arrays -/

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem index2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem index3 : ∀ t : Fin cfg0.N, win0_3.index t = ![(grid0.coords t 0).val, (grid0.coords t 1).val, 26 + (grid0.coords t 2).val] :=
  (by decide +kernel : ∀ t : Fin grid0.N, win0_3.index t = ![(grid0.coords t 0).val, (grid0.coords t 1).val, 26 + (grid0.coords t 2).val])
theorem index4 : ∀ t : Fin cfg0.N, win0_4.index t = ![(grid0.coords t 0).val, (grid0.coords t 1).val, 30 + (grid0.coords t 2).val] :=
  (by decide +kernel : ∀ t : Fin grid0.N, win0_4.index t = ![(grid0.coords t 0).val, (grid0.coords t 1).val, 30 + (grid0.coords t 2).val])
theorem index5 : ∀ t : Fin cfg0.N, win0_5.index t = ![(grid0.coords t 0).val, (grid0.coords t 1).val, 34 + (grid0.coords t 2).val] :=
  (by decide +kernel : ∀ t : Fin grid0.N, win0_5.index t = ![(grid0.coords t 0).val, (grid0.coords t 1).val, 34 + (grid0.coords t 2).val])
theorem index6 : ∀ t : Fin cfg0.N, win0_6.index t = ![0, 0, (grid0.coords t 2).val] :=
  (by decide +kernel : ∀ t : Fin grid0.N, win0_6.index t = ![0, 0, (grid0.coords t 2).val])
theorem index7 : ∀ t : Fin cfg0.N, win0_7.index t = ![0, 0, (grid0.coords t 2).val] :=
  (by decide +kernel : ∀ t : Fin grid0.N, win0_7.index t = ![0, 0, (grid0.coords t 2).val])
theorem index8 : ∀ t : Fin cfg0.N, win0_8.index t = ![0, 0, (grid0.coords t 2).val] :=
  (by decide +kernel : ∀ t : Fin grid0.N, win0_8.index t = ![0, 0, (grid0.coords t 2).val])
theorem index9 : ∀ t : Fin cfg0.N, win0_9.index t = ![(grid0.coords t 0).val, (grid0.coords t 1).val, (grid0.coords t 2).val] :=
  (by decide +kernel : ∀ t : Fin grid0.N, win0_9.index t = ![(grid0.coords t 0).val, (grid0.coords t 1).val, (grid0.coords t 2).val])
theorem coord0_lt (t : Fin cfg0.N) : (grid0.coords t 0).val < 2 := (grid0.coords t 0).isLt
theorem coord1_lt (t : Fin cfg0.N) : (grid0.coords t 1).val < 11 := (grid0.coords t 1).isLt
theorem coord2_lt (t : Fin cfg0.N) : (grid0.coords t 2).val < 4 := (grid0.coords t 2).isLt

/-- The batch, the row and the column of entry `(r, n)` of point `t`'s block. -/
abbrev batch (t : Fin cfg0.N) : Fin 2 := ⟨(grid0.coords t 0).val, coord0_lt t⟩
abbrev row (t : Fin cfg0.N) (r : Fin 768) : Fin 8448 := ⟨768 * (grid0.coords t 1).val + r.val, by have := coord1_lt t; omega⟩
abbrev col (t : Fin cfg0.N) (n : Fin 512) : Fin 2048 := ⟨512 * (grid0.coords t 2).val + n.val, by have := coord2_lt t; omega⟩

variable (m : (ℓ : Loc nD τ sig) → Buf (Elt Ideal) ℓ) (c : Dev nD)

/-- The arrays as the launch finds them. -/
abbrev attArr : Vec Ideal S2x8448x2048 .bf16 := m ((c : Thread nD τ).loc main_arg0)
abbrev lruArr : Vec Ideal S2x8448x2048 .bf16 := m ((c : Thread nD τ).loc main_arg1)
abbrev scArr : Vec Ideal S2x8448x2048 .bf16 := m ((c : Thread nD τ).loc main_arg2)
abbrev pArr : Vec Ideal S2x8448x19456 .bf16 := m ((c : Thread nD τ).loc main_arg3)
abbrev waArr : Vec Ideal S2x2048x2048 .bf16 := m ((c : Thread nD τ).loc main_arg4)
abbrev wlArr : Vec Ideal S2x2048x2048 .bf16 := m ((c : Thread nD τ).loc main_arg5)
abbrev wsArr : Vec Ideal S2x2048x2048 .bf16 := m ((c : Thread nD τ).loc main_arg6)

theorem iblk0_apply (t : Fin cfg0.N) (r : Fin 768) (d : Fin 2048) :
    (iblk m c 0 t (ix3 (n0 := 1) (n1 := 768) (n2 := 2048) 0 r d) : EReal) = attArr m c (ix3 (batch t) (row t r) d) := by
  unfold attArr
  rw [← V_main_arg0 m c]
  blk_simp [iblk]
  refine congrArg _ ?_
  blk_ext [index0]

theorem iblk1_apply (t : Fin cfg0.N) (r : Fin 768) (d : Fin 2048) :
    (iblk m c 1 t (ix3 (n0 := 1) (n1 := 768) (n2 := 2048) 0 r d) : EReal) = lruArr m c (ix3 (batch t) (row t r) d) := by
  unfold lruArr
  rw [← V_main_arg1 m c]
  blk_simp [iblk]
  refine congrArg _ ?_
  blk_ext [index1]

theorem iblk2_apply (t : Fin cfg0.N) (r : Fin 768) (d : Fin 2048) :
    (iblk m c 2 t (ix3 (n0 := 1) (n1 := 768) (n2 := 2048) 0 r d) : EReal) = scArr m c (ix3 (batch t) (row t r) d) := by
  unfold scArr
  rw [← V_main_arg2 m c]
  blk_simp [iblk]
  refine congrArg _ ?_
  blk_ext [index2]

theorem iblk3_apply (t : Fin cfg0.N) (r : Fin 768) (n : Fin 512) :
    (iblk m c 3 t (ix3 (n0 := 1) (n1 := 768) (n2 := 512) 0 r n) : EReal) = pArr m c (ix3 (batch t) (row t r) ⟨13312 + (col t n).val, by omega⟩) := by
  unfold pArr
  rw [← V_main_arg3 m c]
  blk_simp [iblk]
  refine congrArg _ ?_
  blk_ext [index3]

theorem iblk4_apply (t : Fin cfg0.N) (r : Fin 768) (n : Fin 512) :
    (iblk m c 4 t (ix3 (n0 := 1) (n1 := 768) (n2 := 512) 0 r n) : EReal) = pArr m c (ix3 (batch t) (row t r) ⟨15360 + (col t n).val, by omega⟩) := by
  unfold pArr
  rw [← V_main_arg3 m c]
  blk_simp [iblk]
  refine congrArg _ ?_
  blk_ext [index4]

theorem iblk5_apply (t : Fin cfg0.N) (r : Fin 768) (n : Fin 512) :
    (iblk m c 5 t (ix3 (n0 := 1) (n1 := 768) (n2 := 512) 0 r n) : EReal) = pArr m c (ix3 (batch t) (row t r) ⟨17408 + (col t n).val, by omega⟩) := by
  unfold pArr
  rw [← V_main_arg3 m c]
  blk_simp [iblk]
  refine congrArg _ ?_
  blk_ext [index5]

theorem iblk6_apply (t : Fin cfg0.N) (d : Fin 2048) (n : Fin 512) :
    (iblk m c 6 t (ix3 (n0 := 1) (n1 := 2048) (n2 := 512) 0 d n) : EReal) = waArr m c (ix3 0 d (col t n)) := by
  unfold waArr
  rw [← V_main_arg4 m c]
  blk_simp [iblk]
  refine congrArg _ ?_
  blk_ext [index6]

theorem iblk7_apply (t : Fin cfg0.N) (d : Fin 2048) (n : Fin 512) :
    (iblk m c 7 t (ix3 (n0 := 1) (n1 := 2048) (n2 := 512) 0 d n) : EReal) = wlArr m c (ix3 0 d (col t n)) := by
  unfold wlArr
  rw [← V_main_arg5 m c]
  blk_simp [iblk]
  refine congrArg _ ?_
  blk_ext [index7]

theorem iblk8_apply (t : Fin cfg0.N) (d : Fin 2048) (n : Fin 512) :
    (iblk m c 8 t (ix3 (n0 := 1) (n1 := 2048) (n2 := 512) 0 d n) : EReal) = wsArr m c (ix3 0 d (col t n)) := by
  unfold wsArr
  rw [← V_main_arg6 m c]
  blk_simp [iblk]
  refine congrArg _ ?_
  blk_ext [index8]

/-! ## The output array -/

/-- An output block's entry. -/
theorem block_apply (t : Fin cfg0.N) (r : Fin 768) (n : Fin 512) :
    (out0_9 (iblk m c 0 t) (iblk m c 1 t) (iblk m c 2 t) (iblk m c 3 t) (iblk m c 4 t) (iblk m c 5 t) (iblk m c 6 t) (iblk m c 7 t)
      (iblk m c 8 t) (ix3 0 r n) : EReal)
      = mergeAll (attArr m c) (lruArr m c) (scArr m c) (pArr m c) (waArr m c) (wlArr m c) (wsArr m c) (ix3 (batch t) (row t r) (col t n)) := by
  refine (out_apply _ _ _ _ _ _ _ _ _ r n).trans ?_
  rw [iblk3_apply, iblk4_apply, iblk5_apply]
  simp only [iblk0_apply, iblk1_apply, iblk2_apply, iblk6_apply, iblk7_apply, iblk8_apply]
  rfl

/-- The output array after the run. -/
theorem final : (dats m 0 c).arrAt 9 cfg0.N
    = mergeAll (attArr m c) (lruArr m c) (scArr m c) (pArr m c) (waArr m c) (wlArr m c) (wsArr m c) := by
  refine (dats m 0 c).arrAt_eq_of_covers 9 _ (by decide +kernel) fun t hf y => ?_
  blk_simp
  rw [after0_9]
  have h0 : (y 0).val < 1 := (y 0).isLt
  have e0 : ((win0_9.blk t).view.emb y 0).val = (grid0.coords t 0).val := by blk_simp [index9]
  have e1 : ((win0_9.blk t).view.emb y 1).val = (grid0.coords t 1).val * 768 + (y 1).val := by blk_simp [index9]
  have e2 : ((win0_9.blk t).view.emb y 2).val = (grid0.coords t 2).val * 512 + (y 2).val := by blk_simp [index9]
  have hy : y = ix3 (n0 := 1) (n1 := 768) (n2 := 512) 0 (y 1) (y 2) := by
    funext a
    match a with
    | ⟨0, _⟩ => exact Fin.ext (by show (y 0).val = 0; omega)
    | ⟨1, _⟩ => rfl
    | ⟨2, _⟩ => rfl
  refine (congrArg (out0_9 _ _ _ _ _ _ _ _ _) hy).trans ((block_apply m c t (y 1) (y 2)).trans ?_)
  refine congrArg (mergeAll _ _ _ _ _ _ _) (funext fun a => Fin.ext ?_)
  match a with
  | ⟨0, _⟩ => exact e0.symm
  | ⟨1, _⟩ => refine Eq.trans ?_ e1.symm; show 768 * _ + (y 1).val = _; omega
  | ⟨2, _⟩ => refine Eq.trans ?_ e2.symm; show 512 * _ + (y 2).val = _; omega

/-- The run: the output array ends holding the merged branches. -/
theorem run_value (ρ : Dev nD → PrngReg) :
    θ_run defs (onTc (τ := τ) (main (F := Ideal))) ⟨m, fun _ => 0, ρ⟩ fun r => ∀ c : Dev nD,
      r.2.mem ((c.tc : Thread nD τ).loc main_v0)
        = mergeAll (attArr m c) (lruArr m c) (scArr m c) (pArr m c) (waArr m c) (wlArr m c) (wsArr m c) :=
  (θ_run defs _ _).mono (fun r hr c => (hr c).1.trans (final m c)) (Value.run_blocks m ρ)

end Cert.Kernel3Ideal.Body
end
-- ==== Proof.MergeRef.lean ====
/- The reference of the merge, read at an index over the extended reals. -/
module

public import proofs.«01_k».proof.Proof.MergePoint
public import proofs.«01_k».proof.Proof.Gen.Reference3Ideal.Run
public import proofs.«01_k».proof.Proof.Gen.Reference3Ideal.Read

@[expose] public section
set_option maxRecDepth 16384
noncomputable section
namespace Cert.Reference3Ideal.Body
open Cert.Reference3Ideal Cert.Reference3Ideal.Gen Cert.Reference3Ideal.Read
open Idealize.ShloMosaic
open Cert.Kernel3Ideal.Body (gate share mergeAll)

variable (x0 x1 x2 : Vec Ideal S2x8448x2048 .bf16) (x3 : Vec Ideal S2x8448x19456 .bf16) (x4 x5 x6 : Vec Ideal S2x2048x2048 .bf16)

/-! ## The gates -/

theorem v7_apply (b : Fin 2) (r : Fin 8448) (e : Fin 6144) :
    (val_main_v7 (F := Ideal) x3 (ix3 b r e) : EReal) = gate (x3 (ix3 b r ⟨13312 + e.val, by omega⟩)) := by
  pointwise [val_main_v7, val_main_v6, val_main_v5, val_main_v4, val_main_v3, val_main_v2, val_main_v1, val_main_v0, val_main_cst,
    val_main_cst_0, gate]

theorem v8_apply (b : Fin 2) (r : Fin 8448) (n : Fin 2048) :
    (val_main_v8 (F := Ideal) x3 (ix3 b r n) : EReal) = gate (x3 (ix3 b r ⟨13312 + n.val, by omega⟩)) := by
  refine Eq.trans ?_ (v7_apply x3 b r ⟨n.val, by omega⟩)
  unfold val_main_v8
  generalize val_main_v7 (F := Ideal) x3 = g
  pointwise []

theorem v9_apply (b : Fin 2) (r : Fin 8448) (n : Fin 2048) :
    (val_main_v9 (F := Ideal) x3 (ix3 b r n) : EReal) = gate (x3 (ix3 b r ⟨15360 + n.val, by omega⟩)) := by
  have h : (⟨13312 + (2048 + n.val), by omega⟩ : Fin 19456) = ⟨15360 + n.val, by omega⟩ := Fin.ext (by show 13312 + (2048 + n.val) = 15360 + n.val; omega)
  rw [← h]
  refine Eq.trans ?_ (v7_apply x3 b r ⟨2048 + n.val, by omega⟩)
  unfold val_main_v9
  generalize val_main_v7 (F := Ideal) x3 = g
  pointwise []

theorem v10_apply (b : Fin 2) (r : Fin 8448) (n : Fin 2048) :
    (val_main_v10 (F := Ideal) x3 (ix3 b r n) : EReal) = gate (x3 (ix3 b r ⟨17408 + n.val, by omega⟩)) := by
  have h : (⟨13312 + (4096 + n.val), by omega⟩ : Fin 19456) = ⟨17408 + n.val, by omega⟩ := Fin.ext (by show 13312 + (4096 + n.val) = 17408 + n.val; omega)
  rw [← h]
  refine Eq.trans ?_ (v7_apply x3 b r ⟨4096 + n.val, by omega⟩)
  unfold val_main_v10
  generalize val_main_v7 (F := Ideal) x3 = g
  pointwise []

/-! ## The branches -/

theorem v15_apply (b : Fin 2) (r : Fin 8448) (n : Fin 2048) :
    (val_main_v15 (F := Ideal) x0 x4 (ix3 b r n) : EReal) = ∑ d : Fin 2048, x0 (ix3 b r d) * x4 (ix3 0 d n) := by
  pointwise [val_main_v15, val_main_v14, val_main_v13, val_main_v12, val_main_v11]

theorem v21_apply (b : Fin 2) (r : Fin 8448) (n : Fin 2048) :
    (val_main_v21 (F := Ideal) x1 x5 (ix3 b r n) : EReal) = ∑ d : Fin 2048, x1 (ix3 b r d) * x5 (ix3 0 d n) :=
  v15_apply x1 x5 b r n

theorem v28_apply (b : Fin 2) (r : Fin 8448) (n : Fin 2048) :
    (val_main_v28 (F := Ideal) x2 x6 (ix3 b r n) : EReal) = ∑ d : Fin 2048, x2 (ix3 b r d) * x6 (ix3 0 d n) :=
  v15_apply x2 x6 b r n

/-! ## The result -/

theorem result_apply (b : Fin 2) (r : Fin 8448) (n : Fin 2048) :
    (val_main_v31 (F := Ideal) x0 x1 x2 x3 x4 x5 x6 (ix3 b r n) : EReal) = mergeAll x0 x1 x2 x3 x4 x5 x6 (ix3 b r n) := by
  have e : (val_main_v31 (F := Ideal) x0 x1 x2 x3 x4 x5 x6 (ix3 b r n) : EReal)
      = val_main_v8 (F := Ideal) x3 (ix3 b r n) * val_main_v15 (F := Ideal) x0 x4 (ix3 b r n)
        + val_main_v9 (F := Ideal) x3 (ix3 b r n) * val_main_v21 (F := Ideal) x1 x5 (ix3 b r n)
        + val_main_v10 (F := Ideal) x3 (ix3 b r n) * val_main_v28 (F := Ideal) x2 x6 (ix3 b r n) := rfl
  rw [e, v8_apply, v9_apply, v10_apply, v15_apply, v21_apply, v28_apply]
  rfl

/-- The reference's result is the sum of the gated projections. -/
theorem result_eq : val_main_v31 (F := Ideal) x0 x1 x2 x3 x4 x5 x6 = mergeAll x0 x1 x2 x3 x4 x5 x6 := by
  funext i
  rw [eq_ix3 i]
  exact result_apply x0 x1 x2 x3 x4 x5 x6 (i 0) (i 1) (i 2)

end Cert.Reference3Ideal.Body
end
-- ==== Proof.MergeClaims.lean ====
/- The claims about the merge of the branches, one theorem each. -/
module

public import proofs.«01_k».proof.Defs
public import proofs.«01_k».proof.Proof.MergeRef
public import Idealize.ShloMosaic.Lib.Claim

@[expose] public section
noncomputable section
namespace Cert.Proof
open Idealize.ShloMosaic Idealize.ShloMosaic.TcCoe Idealize.SL.Sem
open Cert.Kernel3Ideal.Body (mergeAll attArr lruArr scArr pArr waArr wlArr wsArr)

/-- The reference has no semaphore, and its run leaves its arguments alone. -/
theorem quiescent_merge_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference end with the same merged branches. -/
theorem algebraic_merge : Cert.algebraic_Kernel3Ideal_Reference3Ideal := by
  intro m ρ m' ρ' _ hagree
  refine ⟨fun c => mergeAll (attArr m c) (lruArr m c) (scArr m c) (pArr m c) (waArr m c) (wlArr m c) (wsArr m c), ?_, ?_⟩
  · exact (θ_run Cert.Kernel3Ideal.defs _ _).mono (fun r h c => ⟨h.1 c, (h.2 c).2⟩)
      (θ_run_and (Cert.Kernel3Ideal.Body.run_value m ρ) (Cert.Kernel3Ideal.Value.run_blocks m ρ))
  · refine (θ_run Cert.Reference3Ideal.defs _ _).mono (fun r h c => ⟨(h c).1.trans ?_, (h c).2⟩)
      (Cert.Reference3Ideal.Value.run (F := Ideal) m' ρ')
    obtain ⟨a0, a1, a2, a3, a4, a5, a6⟩ := hagree c
    rw [Cert.Reference3Ideal.Read.val_main_v31_eq, a0, a1, a2, a3, a4, a5, a6]
    exact Cert.Reference3Ideal.Body.result_eq _ _ _ _ _ _ _

end Cert.Proof
end
-- ==== Proof.OutPay.lean ====
/- What one point of the output projection's grid computes, read at one index over the extended reals. -/
module

public import proofs.«01_k».proof.Proof.InBlock
public import proofs.«01_k».proof.Proof.Gen.Kernel4Ideal.Value
public import Idealize.ShloMosaic.Lib.Pointwise

@[expose] public section
set_option maxRecDepth 16384
noncomputable section
namespace Cert.Kernel4Ideal.Body
open Cert.Kernel4Ideal.Gen
open Idealize.ShloMosaic Idealize.ShloMosaic.TcCoe
open Cert.Kernel2Ideal.Body (modEntry rowScale slt_word select_ite)

/-- The test for a context row: the row of the array the block's row `r` is lies below 256. -/
theorem pay1_apply (i : grid0.Coords) (r : Fin 384) :
    k0_pay1 i (ix2 r 0) = if 384 * (i 1).val + r.val < 256 then 1#1 else 0#1 := by
  have hi : (i 1).val < 22 := (i 1).isLt
  rw [← slt_word _ (by omega)]
  unfold k0_pay1
  generalize (i 1).val = n at hi
  pointwise []
  congr 1
  apply BitVec.eq_of_toNat_eq
  simp [IntOp.addi, Scalar.muli, IntOp.muli]
  omega

section
variable (i : grid0.Coords) (y : Vec Ideal S1x384x2048 .bf16) (w : Vec Ideal S1x2048x2048 .bf16) (x : Vec Ideal S1x384x2048 .f32)
  (g2 gb : Vec Ideal S1x1x2048 .f32)

theorem pay2_apply (r : Fin 384) (d : Fin 2048) :
    (k0_pay2 i y w x g2 gb (ix2 r d) : EReal)
      = x (ix3 0 r d) + (if 384 * (i 1).val + r.val < 256 then g2 (ix3 0 0 d) else gb (ix3 0 0 d))
          * ∑ e : Fin 2048, y (ix3 0 r e) * w (ix3 0 e d) := by
  rw [← select_ite, ← pay1_apply i r]
  unfold k0_pay2
  generalize k0_pay1 i = q
  pointwise []

theorem pay3_apply (r : Fin 384) (d : Fin 2048) :
    (k0_pay3 i y w x g2 gb (ix3 0 r d) : EReal) = k0_pay2 i y w x g2 gb (ix2 r d) := by
  unfold k0_pay3
  generalize k0_pay2 i y w x g2 gb = z
  pointwise []

theorem pay4_apply (r : Fin 384) :
    (k0_pay4 i y w x g2 gb (ix2 r 0) : EReal)
      = Ideal.div (∑ e : Fin 2048, k0_pay2 i y w x g2 gb (ix2 r e) * k0_pay2 i y w x g2 gb (ix2 r e)) (Ideal.ofBits FTy.f32 1157627904#32) := by
  unfold k0_pay4
  generalize k0_pay2 i y w x g2 gb = z
  pointwise []
end

theorem pay5_apply (q : IVec S384x1 1) (z : FVec Ideal S384x2048 .f32) (v : FVec Ideal S384x1 .f32) (g : Vec Ideal S1x2048 .f32)
    (sc2 scb sh2 shb : Vec Ideal S1x1x2048 .f32) (r : Fin 384) (d : Fin 2048) :
    (k0_pay5 q z v g sc2 scb sh2 shb (ix3 0 d r) : EReal)
      = z (ix2 r d) * Ideal.rsqrt (v (ix2 r 0) + Ideal.ofBits FTy.f32 897988541#32) * g (ix2 0 d)
          * (1 + Scalar.select (q (ix2 r 0)) (sc2 (ix3 0 0 d)) (scb (ix3 0 0 d)))
        + Scalar.select (q (ix2 r 0)) (sh2 (ix3 0 0 d)) (shb (ix3 0 0 d)) := by
  pointwise [k0_pay5]

/-- A row of the second result's block: the residual's row normalized and modulated. -/
theorem pay_mod (i : grid0.Coords) (y : Vec Ideal S1x384x2048 .bf16) (w : Vec Ideal S1x2048x2048 .bf16) (x : Vec Ideal S1x384x2048 .f32)
    (g2 gb : Vec Ideal S1x1x2048 .f32) (g : Vec Ideal S1x2048 .f32) (sc2 scb sh2 shb : Vec Ideal S1x1x2048 .f32) (r : Fin 384) (d : Fin 2048) :
    (k0_pay5 (k0_pay1 i) (k0_pay2 i y w x g2 gb) (k0_pay4 i y w x g2 gb) g sc2 scb sh2 shb (ix3 0 d r) : EReal)
      = modEntry (fun e => x (ix3 0 r e) + (if 384 * (i 1).val + r.val < 256 then g2 (ix3 0 0 e) else gb (ix3 0 0 e))
            * ∑ k : Fin 2048, y (ix3 0 r k) * w (ix3 0 k e)) (g (ix2 0 d))
          (if 384 * (i 1).val + r.val < 256 then sc2 (ix3 0 0 d) else scb (ix3 0 0 d))
          (if 384 * (i 1).val + r.val < 256 then sh2 (ix3 0 0 d) else shb (ix3 0 0 d)) d := by
  rw [pay5_apply, pay4_apply, pay1_apply, select_ite, select_ite]
  simp only [pay2_apply]
  rfl

theorem off1_eq (i : grid0.Coords) : k0_off1 i = ![0, (i 0).val, 0] := by
  have h : (i 0).val < 2 := (i 0).isLt
  unfold k0_off1
  interval_cases (i 0).val <;> decide

end Cert.Kernel4Ideal.Body
end
-- ==== Proof.OutBlock.lean ====
/- What one point of the output projection's grid leaves in its two output blocks. -/
module

public import proofs.«01_k».proof.Proof.OutPay
public import Idealize.ShloMosaic.Lib.VecWindow

@[expose] public section
set_option maxRecDepth 16384
noncomputable section
namespace Cert.Kernel4Ideal.Body
open Cert.Kernel4Ideal.Gen
open Idealize.ShloMosaic Idealize.ShloMosaic.TcCoe
open Cert.Kernel2Ideal.Body (modEntry rowScale select_ite)

/-- The row of the modulation's context vector. -/
def rM2 : Rect S1x8x2048 := Rect.unit (s := S1x8x2048) ![0, 2, 0] S1x1x2048.size inb_S1x8x2048_S1x1x2048_0_2_0
/-- The row of the modulation's vector of this batch. -/
def rMb (i : grid0.Coords) : Rect S1x8x2048 := Rect.unit (s := S1x8x2048) (k0_off1 i) S1x1x2048.size (k0_off1_inb i)

theorem ld_m2 (x : Vec Ideal S1x8x2048 .f32) (d : Fin 2048) : View.ld x rM2 (ix3 0 0 d) = x (ix3 0 2 d) := by
  refine congrArg x (funext fun a => Fin.ext ?_)
  match a with
  | ⟨0, _⟩ => rfl
  | ⟨1, _⟩ => rfl
  | ⟨2, _⟩ => show 0 + 1 * d.val = d.val; omega

theorem ld_mb (i : grid0.Coords) (x : Vec Ideal S1x8x2048 .f32) (b : Fin 8) (hb : b.val = (i 0).val)
    (d : Fin 2048) : View.ld x (rMb i) (ix3 0 0 d) = x (ix3 0 b d) := by
  refine congrArg x (funext fun a => Fin.ext ?_)
  match a with
  | ⟨0, _⟩ => show (k0_off1 i) 0 + 1 * 0 = 0; rw [off1_eq]; rfl
  | ⟨1, _⟩ => show (k0_off1 i) 1 + 1 * 0 = b.val; rw [off1_eq, hb]; rfl
  | ⟨2, _⟩ => show (k0_off1 i) 2 + 1 * d.val = d.val; rw [off1_eq, Nat.one_mul]; exact Nat.zero_add _

/-- Entry `(r, d)` of the residual's new rows, row block `n` of batch `b`, from the block's windows. -/
def residAt (n : ℕ) (b : Fin 8) (y : Vec Ideal S1x384x2048 .bf16) (w : Vec Ideal S1x2048x2048 .bf16) (x : Vec Ideal S1x384x2048 .f32)
    (gt : Vec Ideal S1x8x2048 .f32) (r : Fin 384) (d : Fin 2048) : EReal :=
  x (ix3 0 r d) + (if 384 * n + r.val < 256 then gt (ix3 0 2 d) else gt (ix3 0 b d)) * ∑ e : Fin 2048, y (ix3 0 r e) * w (ix3 0 e d)

/-- The same rows normalized and modulated. -/
def normAt (n : ℕ) (b : Fin 8) (y : Vec Ideal S1x384x2048 .bf16) (w : Vec Ideal S1x2048x2048 .bf16) (x : Vec Ideal S1x384x2048 .f32)
    (gt sh sc : Vec Ideal S1x8x2048 .f32) (g : Vec Ideal S1x2048 .f32) (r : Fin 384) (d : Fin 2048) : EReal :=
  modEntry (fun e => residAt n b y w x gt r e) (g (ix2 0 d))
    (if 384 * n + r.val < 256 then sc (ix3 0 2 d) else sc (ix3 0 b d))
    (if 384 * n + r.val < 256 then sh (ix3 0 2 d) else sh (ix3 0 b d)) d

section
variable (c : Dev nD) (i : grid0.Coords) (arg2 : Memref sig .tc .vmem S1x384x2048 .bf16) (harg2 : arg2.IsWhole)
    (arg3 : Memref sig .tc .vmem S1x2048x2048 .bf16) (harg3 : arg3.IsWhole) (arg4 : Memref sig .tc .vmem S1x384x2048 .f32) (harg4 : arg4.IsWhole)
    (arg5 : Memref sig .tc .vmem S1x8x2048 .f32) (harg5 : arg5.IsWhole) (arg6 : Memref sig .tc .vmem S1x8x2048 .f32) (harg6 : arg6.IsWhole)
    (arg7 : Memref sig .tc .vmem S1x8x2048 .f32) (harg7 : arg7.IsWhole) (arg8 : Memref sig .tc .vmem S1x2048 .f32) (harg8 : arg8.IsWhole)
    (arg9 : Memref sig .tc .vmem S1x384x2048 .f32) (harg9 : arg9.IsWhole) (arg10 : Memref sig .tc .vmem S1x2048x384 .bf16) (harg10 : arg10.IsWhole)
    (x0 : Vec Ideal S1x384x2048 .bf16) (x1 : Vec Ideal S1x2048x2048 .bf16) (x2 : Vec Ideal S1x384x2048 .f32) (x3 x4 x5 : Vec Ideal S1x8x2048 .f32)
    (x6 : Vec Ideal S1x2048 .f32)

theorem run_resid :
    (kernelRun0_A c i arg2 harg2 arg3 harg3 arg4 harg4 arg5 harg5 arg6 harg6 arg7 harg7 arg8 harg8 arg9 harg9 arg10 harg10 x0 x1 x2 x3 x4 x5 x6).1
      = [⟨Rect.unit (s := S1x384x2048) ![0, 0, 0] S1x384x2048.size inb_S1x384x2048_S1x384x2048_0_0_0,
          k0_pay3 i
            (arg2.view.readAt (Elt Ideal) (Rect.unit (s := S1x384x2048) ![0, 0, 0] S1x384x2048.size inb_S1x384x2048_S1x384x2048_0_0_0).toLoadRect (harg2.unread x0))
            (arg3.view.readAt (Elt Ideal) (Rect.unit (s := S1x2048x2048) ![0, 0, 0] S1x2048x2048.size inb_S1x2048x2048_S1x2048x2048_0_0_0).toLoadRect (harg3.unread x1))
            (arg4.view.readAt (Elt Ideal) (Rect.unit (s := S1x384x2048) ![0, 0, 0] S1x384x2048.size inb_S1x384x2048_S1x384x2048_0_0_0).toLoadRect (harg4.unread x2))
            (arg5.view.readAt (Elt Ideal) rM2.toLoadRect (harg5.unread x3)) (arg5.view.readAt (Elt Ideal) (rMb i).toLoadRect (harg5.unread x3))⟩] := by
  rfl

theorem run_norm :
    (kernelRun0_A c i arg2 harg2 arg3 harg3 arg4 harg4 arg5 harg5 arg6 harg6 arg7 harg7 arg8 harg8 arg9 harg9 arg10 harg10 x0 x1 x2 x3 x4 x5 x6).2.1
      = [⟨Rect.unit (s := S1x2048x384) ![0, 0, 0] S1x2048x384.size inb_S1x2048x384_S1x2048x384_0_0_0,
          k0_pay5 (k0_pay1 i)
            (k0_pay2 i
              (arg2.view.readAt (Elt Ideal) (Rect.unit (s := S1x384x2048) ![0, 0, 0] S1x384x2048.size inb_S1x384x2048_S1x384x2048_0_0_0).toLoadRect (harg2.unread x0))
              (arg3.view.readAt (Elt Ideal) (Rect.unit (s := S1x2048x2048) ![0, 0, 0] S1x2048x2048.size inb_S1x2048x2048_S1x2048x2048_0_0_0).toLoadRect (harg3.unread x1))
              (arg4.view.readAt (Elt Ideal) (Rect.unit (s := S1x384x2048) ![0, 0, 0] S1x384x2048.size inb_S1x384x2048_S1x384x2048_0_0_0).toLoadRect (harg4.unread x2))
              (arg5.view.readAt (Elt Ideal) rM2.toLoadRect (harg5.unread x3)) (arg5.view.readAt (Elt Ideal) (rMb i).toLoadRect (harg5.unread x3)))
            (k0_pay4 i
              (arg2.view.readAt (Elt Ideal) (Rect.unit (s := S1x384x2048) ![0, 0, 0] S1x384x2048.size inb_S1x384x2048_S1x384x2048_0_0_0).toLoadRect (harg2.unread x0))
              (arg3.view.readAt (Elt Ideal) (Rect.unit (s := S1x2048x2048) ![0, 0, 0] S1x2048x2048.size inb_S1x2048x2048_S1x2048x2048_0_0_0).toLoadRect (harg3.unread x1))
              (arg4.view.readAt (Elt Ideal) (Rect.unit (s := S1x384x2048) ![0, 0, 0] S1x384x2048.size inb_S1x384x2048_S1x384x2048_0_0_0).toLoadRect (harg4.unread x2))
              (arg5.view.readAt (Elt Ideal) rM2.toLoadRect (harg5.unread x3)) (arg5.view.readAt (Elt Ideal) (rMb i).toLoadRect (harg5.unread x3)))
            (arg8.view.readAt (Elt Ideal) (Rect.unit (s := S1x2048) ![0, 0] S1x2048.size inb_S1x2048_S1x2048_0_0).toLoadRect (harg8.unread x6))
            (arg7.view.readAt (Elt Ideal) rM2.toLoadRect (harg7.unread x5)) (arg7.view.readAt (Elt Ideal) (rMb i).toLoadRect (harg7.unread x5))
            (arg6.view.readAt (Elt Ideal) rM2.toLoadRect (harg6.unread x4)) (arg6.view.readAt (Elt Ideal) (rMb i).toLoadRect (harg6.unread x4))⟩] := by
  rfl

theorem out_resid (b : Fin 8) (hb : b.val = (i 0).val) (r : Fin 384) (d : Fin 2048) :
    (out0_A_7 c i arg2 harg2 arg3 harg3 arg4 harg4 arg5 harg5 arg6 harg6 arg7 harg7 arg8 harg8 arg9 harg9 arg10 harg10 x0 x1 x2 x3 x4 x5 x6
        (ix3 0 r d) : EReal)
      = residAt (i 1).val b x0 x1 x2 x3 r d := by
  unfold out0_A_7
  rw [run_resid, View.read_writes_full, View.readAt_full, View.readAt_full, View.readAt_full, harg2.read_unread, harg3.read_unread,
    harg4.read_unread, View.readAt_eq_ld, View.readAt_eq_ld, harg5.read_unread]
  refine ((pay3_apply i _ _ _ _ _ r d).trans (pay2_apply i _ _ _ _ _ r d)).trans ?_
  rw [ld_m2, ld_mb i x3 b hb]
  rfl

theorem pay_norm (b : Fin 8) (hb : b.val = (i 0).val) (r : Fin 384) (d : Fin 2048) :
    (k0_pay5 (k0_pay1 i) (k0_pay2 i x0 x1 x2 (View.ld x3 rM2) (View.ld x3 (rMb i))) (k0_pay4 i x0 x1 x2 (View.ld x3 rM2) (View.ld x3 (rMb i)))
        x6 (View.ld x5 rM2) (View.ld x5 (rMb i)) (View.ld x4 rM2) (View.ld x4 (rMb i)) (ix3 0 d r) : EReal)
      = normAt (i 1).val b x0 x1 x2 x3 x4 x5 x6 r d := by
  refine (pay_mod i _ _ _ _ _ _ _ _ _ _ r d).trans ?_
  rw [ld_m2, ld_m2, ld_mb i x4 b hb, ld_mb i x5 b hb]
  refine congrArg (fun f => modEntry f _ _ _ d) (funext fun e => ?_)
  rw [ld_m2, ld_mb i x3 b hb]
  rfl

theorem out_norm (b : Fin 8) (hb : b.val = (i 0).val) (r : Fin 384) (d : Fin 2048) :
    (out0_A_8 c i arg2 harg2 arg3 harg3 arg4 harg4 arg5 harg5 arg6 harg6 arg7 harg7 arg8 harg8 arg9 harg9 arg10 harg10 x0 x1 x2 x3 x4 x5 x6
        (ix3 0 d r) : EReal)
      = normAt (i 1).val b x0 x1 x2 x3 x4 x5 x6 r d := by
  unfold out0_A_8
  rw [run_norm, View.read_writes_full, View.readAt_full, View.readAt_full, View.readAt_full, View.readAt_full, harg2.read_unread,
    harg3.read_unread, harg4.read_unread, harg8.read_unread]
  simp only [View.readAt_eq_ld, harg5.read_unread, harg6.read_unread, harg7.read_unread]
  exact pay_norm i x0 x1 x2 x3 x4 x5 x6 b hb r d
end

end Cert.Kernel4Ideal.Body
end
-- ==== Proof.OutPoint.lean ====
/- What the output projection's grid leaves in its two output arrays. -/
module

public import proofs.«01_k».proof.Proof.OutBlock
public import Idealize.ShloMosaic.Lib.Pipeline.ValueKit.Geometry

@[expose] public section
set_option maxRecDepth 16384
noncomputable section
namespace Cert.Kernel4Ideal.Body
open Cert.Kernel4Ideal.Gen
open Idealize.ShloMosaic Idealize.ShloMosaic.TcCoe Idealize.SL.Sem
open Idealize.ShloMosaic.Pipeline (Dat Cfg Window)
open Cert.Kernel2Ideal.Body (modEntry)

/-- The entry of a modulation vector, number `k` of the six, at batch `b`, row `r`: the context vector's for a context row. -/
def vecAt (md : Vec Ideal S2x8x12288 .f32) (k : Fin 6) (b : Fin 2) (r : Fin 8448) (d : Fin 2048) : EReal :=
  if r.val < 256 then md (ix3 0 2 ⟨2048 * k.val + d.val, by omega⟩) else md (ix3 0 ⟨b.val, by omega⟩ ⟨2048 * k.val + d.val, by omega⟩)

/-- Entry `(b, r, d)` of the residual plus its gated projection. -/
def residRow (y : Vec Ideal S2x8448x2048 .bf16) (w : Vec Ideal S2x2048x2048 .bf16) (x : Vec Ideal S2x8448x2048 .f32)
    (md : Vec Ideal S2x8x12288 .f32) (b : Fin 2) (r : Fin 8448) (d : Fin 2048) : EReal :=
  x (ix3 b r d) + vecAt md 2 b r d * ∑ e : Fin 2048, y (ix3 b r e) * w (ix3 0 e d)

/-- Entry `(b, r, d)` of the normalized and modulated rows. -/
def normRow (y : Vec Ideal S2x8448x2048 .bf16) (w : Vec Ideal S2x2048x2048 .bf16) (x : Vec Ideal S2x8448x2048 .f32)
    (md : Vec Ideal S2x8x12288 .f32) (g : Vec Ideal S2048 .f32) (b : Fin 2) (r : Fin 8448) (d : Fin 2048) : EReal :=
  modEntry (residRow y w x md b r) (g (ix1 d)) (vecAt md 4 b r d) (vecAt md 3 b r d) d

/-- The first result: the residual plus its gated projection. -/
def residAll (y : Vec Ideal S2x8448x2048 .bf16) (w : Vec Ideal S2x2048x2048 .bf16) (x : Vec Ideal S2x8448x2048 .f32)
    (md : Vec Ideal S2x8x12288 .f32) : Vec Ideal S2x8448x2048 .f32 := fun i => residRow y w x md (i 0) (i 1) (i 2)

/-- The second result: the normalized rows, features before rows. -/
def normAll (y : Vec Ideal S2x8448x2048 .bf16) (w : Vec Ideal S2x2048x2048 .bf16) (x : Vec Ideal S2x8448x2048 .f32)
    (md : Vec Ideal S2x8x12288 .f32) (g : Vec Ideal S2048 .f32) : Vec Ideal S2x2048x8448 .bf16 := fun i =>
  normRow y w x md g (i 0) (i 2) (i 1)

/-! ## The blocks of the arrays -/

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem index1 : ∀ t : Fin cfg0.N, win0_1.index t = ![0, 0, 0] := (by decide +kernel : ∀ t : Fin grid0.N, win0_1.index t = ![0, 0, 0])
theorem index2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem index3 : ∀ t : Fin cfg0.N, win0_3.index t = ![0, 0, 2] := (by decide +kernel : ∀ t : Fin grid0.N, win0_3.index t = ![0, 0, 2])
theorem index4 : ∀ t : Fin cfg0.N, win0_4.index t = ![0, 0, 3] := (by decide +kernel : ∀ t : Fin grid0.N, win0_4.index t = ![0, 0, 3])
theorem index5 : ∀ t : Fin cfg0.N, win0_5.index t = ![0, 0, 4] := (by decide +kernel : ∀ t : Fin grid0.N, win0_5.index t = ![0, 0, 4])
theorem index6 : ∀ t : Fin cfg0.N, win0_6.index t = ![0, 0] := (by decide +kernel : ∀ t : Fin grid0.N, win0_6.index t = ![0, 0])
theorem index7 : ∀ t : Fin cfg0.N, win0_7.index t = ![(grid0.coords t 0).val, (grid0.coords t 1).val, 0] :=
  (by decide +kernel : ∀ t : Fin grid0.N, win0_7.index t = ![(grid0.coords t 0).val, (grid0.coords t 1).val, 0])
theorem index8 : ∀ t : Fin cfg0.N, win0_8.index t = ![(grid0.coords t 0).val, 0, (grid0.coords t 1).val] :=
  (by decide +kernel : ∀ t : Fin grid0.N, win0_8.index t = ![(grid0.coords t 0).val, 0, (grid0.coords t 1).val])
theorem coord0_lt (t : Fin cfg0.N) : (grid0.coords t 0).val < 2 := (grid0.coords t 0).isLt
theorem coord1_lt (t : Fin cfg0.N) : (grid0.coords t 1).val < 22 := (grid0.coords t 1).isLt

/-- The batch and the array's row of row `r` of point `t`'s block, and the batch as a row of the modulation. -/
abbrev batch (t : Fin cfg0.N) : Fin 2 := ⟨(grid0.coords t 0).val, coord0_lt t⟩
abbrev row (t : Fin cfg0.N) (r : Fin 384) : Fin 8448 := ⟨384 * (grid0.coords t 1).val + r.val, by have := coord1_lt t; omega⟩
abbrev batch8 (t : Fin cfg0.N) : Fin 8 := ⟨(grid0.coords t 0).val, by have := coord0_lt t; omega⟩

variable (m : (ℓ : Loc nD τ sig) → Buf (Elt Ideal) ℓ) (c : Dev nD)

/-- The arrays as the launch finds them. -/
abbrev yArr : Vec Ideal S2x8448x2048 .bf16 := m ((c : Thread nD τ).loc main_arg0)
abbrev wArr : Vec Ideal S2x2048x2048 .bf16 := m ((c : Thread nD τ).loc main_arg1)
abbrev xArr : Vec Ideal S2x8448x2048 .f32 := m ((c : Thread nD τ).loc main_arg2)
abbrev mArr : Vec Ideal S2x8x12288 .f32 := m ((c : Thread nD τ).loc main_arg3)
abbrev gArr : Vec Ideal S2048 .f32 := m ((c : Thread nD τ).loc main_arg4)

theorem iblk0_apply (t : Fin cfg0.N) (r : Fin 384) (d : Fin 2048) :
    (iblk m c 0 t (ix3 (n0 := 1) (n1 := 384) (n2 := 2048) 0 r d) : EReal) = yArr m c (ix3 (batch t) (row t r) d) := by
  unfold yArr
  rw [← V_main_arg0 m c]
  blk_simp [iblk]
  refine congrArg _ ?_
  blk_ext [index0]

theorem iblk1_apply (t : Fin cfg0.N) (e d : Fin 2048) :
    (iblk m c 1 t (ix3 (n0 := 1) (n1 := 2048) (n2 := 2048) 0 e d) : EReal) = wArr m c (ix3 0 e d) := by
  unfold wArr
  rw [← V_main_arg1 m c]
  blk_simp [iblk]
  refine congrArg _ ?_
  blk_ext [index1]

theorem iblk2_apply (t : Fin cfg0.N) (r : Fin 384) (d : Fin 2048) :
    (iblk m c 2 t (ix3 (n0 := 1) (n1 := 384) (n2 := 2048) 0 r d) : EReal) = xArr m c (ix3 (batch t) (row t r) d) := by
  unfold xArr
  rw [← V_main_arg2 m c]
  blk_simp [iblk]
  refine congrArg _ ?_
  blk_ext [index2]

theorem iblk3_apply (t : Fin cfg0.N) (r : Fin 8) (d : Fin 2048) :
    (iblk m c 3 t (ix3 (n0 := 1) (n1 := 8) (n2 := 2048) 0 r d) : EReal) = mArr m c (ix3 0 r ⟨4096 + d.val, by omega⟩) := by
  unfold mArr
  rw [← V_main_arg3 m c]
  blk_simp [iblk]
  refine congrArg _ ?_
  blk_ext [index3]

theorem iblk4_apply (t : Fin cfg0.N) (r : Fin 8) (d : Fin 2048) :
    (iblk m c 4 t (ix3 (n0 := 1) (n1 := 8) (n2 := 2048) 0 r d) : EReal) = mArr m c (ix3 0 r ⟨6144 + d.val, by omega⟩) := by
  unfold mArr
  rw [← V_main_arg3 m c]
  blk_simp [iblk]
  refine congrArg _ ?_
  blk_ext [index4]

theorem iblk5_apply (t : Fin cfg0.N) (r : Fin 8) (d : Fin 2048) :
    (iblk m c 5 t (ix3 (n0 := 1) (n1 := 8) (n2 := 2048) 0 r d) : EReal) = mArr m c (ix3 0 r ⟨8192 + d.val, by omega⟩) := by
  unfold mArr
  rw [← V_main_arg3 m c]
  blk_simp [iblk]
  refine congrArg _ ?_
  blk_ext [index5]

theorem gain_apply (g : Vec Ideal S2048 .f32) (d : Fin 2048) :
    shapeCast S1x2048 g shapeCasts_S2048_S1x2048 (ix2 0 d) = g (ix1 d) := by
  pointwise []

theorem iblk6_apply (t : Fin cfg0.N) (d : Fin 2048) :
    (iblk m c 6 t (ix2 (n0 := 1) (n1 := 2048) 0 d) : EReal) = gArr m c (ix1 d) := by
  have h : V m c main_v0 = shapeCast S1x2048 (gArr m c) shapeCasts_S2048_S1x2048 := by rfl
  refine Eq.trans ?_ (gain_apply (gArr m c) d)
  rw [← h]
  blk_simp [iblk]
  refine congrArg _ ?_
  blk_ext [index6]

/-! ## The output arrays -/

theorem residAt_eq (t : Fin cfg0.N) (r : Fin 384) (d : Fin 2048) :
    residAt (grid0.coords t 1).val (batch8 t) (iblk m c 0 t) (iblk m c 1 t) (iblk m c 2 t) (iblk m c 3 t) r d
      = residRow (yArr m c) (wArr m c) (xArr m c) (mArr m c) (batch t) (row t r) d := by
  unfold residAt
  rw [iblk2_apply, iblk3_apply, iblk3_apply]
  simp only [iblk0_apply, iblk1_apply]
  rfl

theorem normAt_eq (t : Fin cfg0.N) (r : Fin 384) (d : Fin 2048) :
    normAt (grid0.coords t 1).val (batch8 t) (iblk m c 0 t) (iblk m c 1 t) (iblk m c 2 t) (iblk m c 3 t) (iblk m c 4 t) (iblk m c 5 t)
        (iblk m c 6 t) r d
      = normRow (yArr m c) (wArr m c) (xArr m c) (mArr m c) (gArr m c) (batch t) (row t r) d := by
  unfold normAt
  rw [iblk4_apply, iblk4_apply, iblk5_apply, iblk5_apply, iblk6_apply]
  simp only [residAt_eq]
  rfl

theorem block7_apply (t : Fin cfg0.N) (r : Fin 384) (d : Fin 2048) :
    ((outsAt0 m c t).1 (ix3 0 r d) : EReal) = residRow (yArr m c) (wArr m c) (xArr m c) (mArr m c) (batch t) (row t r) d := by
  unfold outsAt0
  dsimp only
  rw [← residAt_eq]
  exact out_resid c _ _ _ _ _ _ _ _ _ _ _ _ _ _ _ _ _ _ _ _ _ _ _ _ _ _ (batch8 t) rfl r d

theorem block8_apply (t : Fin cfg0.N) (r : Fin 384) (d : Fin 2048) :
    ((outsAt0 m c t).2 (ix3 0 d r) : EReal)
      = normRow (yArr m c) (wArr m c) (xArr m c) (mArr m c) (gArr m c) (batch t) (row t r) d := by
  unfold outsAt0
  dsimp only
  rw [← normAt_eq]
  exact out_norm c _ _ _ _ _ _ _ _ _ _ _ _ _ _ _ _ _ _ _ _ _ _ _ _ _ _ (batch8 t) rfl r d

/-- The first output array after the run. -/
theorem final7 : (dats m 0 c).arrAt 7 cfg0.N = residAll (yArr m c) (wArr m c) (xArr m c) (mArr m c) := by
  refine (dats m 0 c).arrAt_eq_of_covers 7 _ (by decide +kernel) fun t hf y => ?_
  blk_simp
  rw [after0_7]
  have h0 : (y 0).val < 1 := (y 0).isLt
  have e0 : ((win0_7.blk t).view.emb y 0).val = (grid0.coords t 0).val := by blk_simp [index7]
  have e1 : ((win0_7.blk t).view.emb y 1).val = (grid0.coords t 1).val * 384 + (y 1).val := by blk_simp [index7]
  have e2 : ((win0_7.blk t).view.emb y 2).val = (y 2).val := by blk_simp [index7]
  have hy : y = ix3 (n0 := 1) (n1 := 384) (n2 := 2048) 0 (y 1) (y 2) := by
    funext a
    match a with
    | ⟨0, _⟩ => exact Fin.ext (by show (y 0).val = 0; omega)
    | ⟨1, _⟩ => rfl
    | ⟨2, _⟩ => rfl
  refine (congrArg (outsAt0 m c t).1 hy).trans ((block7_apply m c t (y 1) (y 2)).trans ?_)
  show residAll _ _ _ _ (ix3 (batch t) (row t (y 1)) (y 2)) = _
  refine congrArg (residAll _ _ _ _) (funext fun a => Fin.ext ?_)
  match a with
  | ⟨0, _⟩ => exact e0.symm
  | ⟨1, _⟩ => refine Eq.trans ?_ e1.symm; show 384 * _ + (y 1).val = _; omega
  | ⟨2, _⟩ => exact e2.symm

/-- The second output array after the run. -/
theorem final8 : (dats m 0 c).arrAt 8 cfg0.N = normAll (yArr m c) (wArr m c) (xArr m c) (mArr m c) (gArr m c) := by
  refine (dats m 0 c).arrAt_eq_of_covers 8 _ (by decide +kernel) fun t hf y => ?_
  blk_simp
  rw [after0_8]
  have h0 : (y 0).val < 1 := (y 0).isLt
  have e0 : ((win0_8.blk t).view.emb y 0).val = (grid0.coords t 0).val := by blk_simp [index8]
  have e1 : ((win0_8.blk t).view.emb y 1).val = (y 1).val := by blk_simp [index8]
  have e2 : ((win0_8.blk t).view.emb y 2).val = (grid0.coords t 1).val * 384 + (y 2).val := by blk_simp [index8]
  have hy : y = ix3 (n0 := 1) (n1 := 2048) (n2 := 384) 0 (y 1) (y 2) := by
    funext a
    match a with
    | ⟨0, _⟩ => exact Fin.ext (by show (y 0).val = 0; omega)
    | ⟨1, _⟩ => rfl
    | ⟨2, _⟩ => rfl
  refine (congrArg (outsAt0 m c t).2 hy).trans ((block8_apply m c t (y 2) (y 1)).trans ?_)
  show normAll _ _ _ _ _ (ix3 (batch t) (y 1) (row t (y 2))) = _
  refine congrArg (normAll _ _ _ _ _) (funext fun a => Fin.ext ?_)
  match a with
  | ⟨0, _⟩ => exact e0.symm
  | ⟨1, _⟩ => exact e1.symm
  | ⟨2, _⟩ => refine Eq.trans ?_ e2.symm; show 384 * _ + (y 2).val = _; omega

/-- The run: the output arrays end holding the new residual and its normalized rows. -/
theorem run_value (ρ : Dev nD → PrngReg) :
    θ_run defs (onTc (τ := τ) (main (F := Ideal))) ⟨m, fun _ => 0, ρ⟩ fun r => ∀ c : Dev nD,
      r.2.mem ((c.tc : Thread nD τ).loc main_v1_0) = residAll (yArr m c) (wArr m c) (xArr m c) (mArr m c)
      ∧ r.2.mem ((c.tc : Thread nD τ).loc main_v1_1) = normAll (yArr m c) (wArr m c) (xArr m c) (mArr m c) (gArr m c) :=
  (θ_run defs _ _).mono (fun r hr c => ⟨(hr c).1.trans (final7 m c), (hr c).2.1.trans (final8 m c)⟩) (Value.run_blocks m ρ)

end Cert.Kernel4Ideal.Body
end
-- ==== Proof.OutRef.lean ====
/- The reference of the output projection, read at an index over the extended reals. -/
module

public import proofs.«01_k».proof.Proof.OutPoint
public import proofs.«01_k».proof.Proof.Gen.Reference4Ideal.Run
public import proofs.«01_k».proof.Proof.Gen.Reference4Ideal.Read

@[expose] public section
set_option maxRecDepth 16384
noncomputable section
namespace Cert.Reference4Ideal.Body
open Cert.Reference4Ideal Cert.Reference4Ideal.Gen Cert.Reference4Ideal.Read
open Idealize.ShloMosaic
open Cert.Kernel2Ideal.Body (modEntry rowScale)
open Cert.Kernel4Ideal.Body (vecAt residRow normRow residAll normAll)

variable (x0 : Vec Ideal S2x8448x2048 .bf16) (x1 : Vec Ideal S2x2048x2048 .bf16) (x2 : Vec Ideal S2x8448x2048 .f32)
  (x3 : Vec Ideal S2x8x12288 .f32) (x4 : Vec Ideal S2048 .f32)

/-! ## The modulation's vectors and the weights -/

theorem v1_apply (d : Fin 2048) : (val_main_v1 (F := Ideal) x3 (ix1 d) : EReal) = x3 (ix3 0 2 ⟨4096 + d.val, by omega⟩) := by
  pointwise [val_main_v1, val_main_v0]

theorem v4_apply (b : Fin 2) (d : Fin 2048) :
    (val_main_v4 (F := Ideal) x3 (ix3 b 0 d) : EReal) = x3 (ix3 0 ⟨b.val, by omega⟩ ⟨4096 + d.val, by omega⟩) := by
  pointwise [val_main_v4, val_main_v3, val_main_v2]

theorem v6_apply (d : Fin 2048) : (val_main_v6 (F := Ideal) x3 (ix1 d) : EReal) = x3 (ix3 0 2 ⟨6144 + d.val, by omega⟩) := by
  pointwise [val_main_v6, val_main_v5]

theorem v9_apply (b : Fin 2) (d : Fin 2048) :
    (val_main_v9 (F := Ideal) x3 (ix3 b 0 d) : EReal) = x3 (ix3 0 ⟨b.val, by omega⟩ ⟨6144 + d.val, by omega⟩) := by
  pointwise [val_main_v9, val_main_v8, val_main_v7]

theorem v47_apply (d : Fin 2048) : (val_main_v47 (F := Ideal) x3 (ix1 d) : EReal) = 1 + x3 (ix3 0 2 ⟨8192 + d.val, by omega⟩) := by
  pointwise [val_main_v47, val_main_v46, val_main_v11, val_main_v10, val_main_cst_2]

theorem v68_apply (b : Fin 2) (d : Fin 2048) :
    (val_main_v68 (F := Ideal) x3 (ix3 b 0 d) : EReal) = 1 + x3 (ix3 0 ⟨b.val, by omega⟩ ⟨8192 + d.val, by omega⟩) := by
  pointwise [val_main_v68, val_main_v67, val_main_v14, val_main_v13, val_main_v12, val_main_cst_6]

theorem v17_apply (e d : Fin 2048) : (val_main_v17 (F := Ideal) x1 (ix2 e d) : EReal) = x1 (ix3 0 e d) := by
  pointwise [val_main_v17, val_main_v16, val_main_v15]

/-! ## The context rows -/

theorem v20_apply (b : Fin 2) (r : Fin 256) (d : Fin 2048) :
    (val_main_v20 (F := Ideal) x0 (ix3 b r d) : EReal) = x0 (ix3 b ⟨r.val, by omega⟩ d) := by
  pointwise [val_main_v20, val_main_v19]

theorem v25_apply (b : Fin 2) (r : Fin 256) (d : Fin 2048) :
    (val_main_v25 (F := Ideal) x0 x1 x2 x3 (ix3 b r d) : EReal)
      = x2 (ix3 b ⟨r.val, by omega⟩ d) + val_main_v1 (F := Ideal) x3 (ix1 d)
          * ∑ e : Fin 2048, val_main_v20 (F := Ideal) x0 (ix3 b r e) * val_main_v17 (F := Ideal) x1 (ix2 e d) := by
  unfold val_main_v25 val_main_v24 val_main_v23 val_main_v22 val_main_v21 val_main_v18
  generalize val_main_v1 (F := Ideal) x3 = u
  generalize val_main_v20 (F := Ideal) x0 = y
  generalize val_main_v17 (F := Ideal) x1 = z
  pointwise []

theorem ctx_resid (b : Fin 2) (r : Fin 256) (d : Fin 2048) :
    (val_main_v25 (F := Ideal) x0 x1 x2 x3 (ix3 b r d) : EReal) = residRow x0 x1 x2 x3 b ⟨r.val, by omega⟩ d := by
  have hr : r.val < 256 := r.isLt
  rw [v25_apply, v1_apply]
  unfold residRow vecAt
  simp only [v20_apply, v17_apply, if_pos hr]
  rfl

theorem v40_apply (b : Fin 2) (r : Fin 256) :
    (val_main_v40 (F := Ideal) x0 x1 x2 x3 (ix3 b r 0) : EReal) = rowScale (fun e => val_main_v25 (F := Ideal) x0 x1 x2 x3 (ix3 b r e)) := by
  unfold val_main_v40 val_main_v39 val_main_v37 val_main_v35 val_main_v34 val_main_v33
  generalize val_main_v25 (F := Ideal) x0 x1 x2 x3 = y
  pointwise [val_main_v36, val_main_v38, val_main_cst, val_main_cst_0, val_main_cst_1, rowScale]

theorem v53_apply (b : Fin 2) (r : Fin 256) (d : Fin 2048) :
    (val_main_v53 (F := Ideal) x0 x1 x2 x3 x4 (ix3 b r d) : EReal)
      = val_main_v25 (F := Ideal) x0 x1 x2 x3 (ix3 b r d) * val_main_v40 (F := Ideal) x0 x1 x2 x3 (ix3 b r 0) * x4 (ix1 d)
          * val_main_v47 (F := Ideal) x3 (ix1 d) + val_main_v6 (F := Ideal) x3 (ix1 d) := by
  unfold val_main_v53 val_main_v52 val_main_v51 val_main_v50 val_main_v49 val_main_v48 val_main_v45 val_main_v44 val_main_v43 val_main_v42 val_main_v41
  generalize val_main_v25 (F := Ideal) x0 x1 x2 x3 = y
  generalize val_main_v40 (F := Ideal) x0 x1 x2 x3 = z
  generalize val_main_v47 (F := Ideal) x3 = u
  generalize val_main_v6 (F := Ideal) x3 = w
  pointwise []

theorem ctx_norm (b : Fin 2) (r : Fin 256) (d : Fin 2048) :
    (val_main_v53 (F := Ideal) x0 x1 x2 x3 x4 (ix3 b r d) : EReal) = normRow x0 x1 x2 x3 x4 b ⟨r.val, by omega⟩ d := by
  have hr : r.val < 256 := r.isLt
  rw [v53_apply, v40_apply, v47_apply, v6_apply]
  unfold normRow modEntry vecAt
  simp only [ctx_resid, if_pos hr]
  rfl

/-! ## The latent rows -/

theorem v28_apply (b : Fin 2) (r : Fin 8192) (d : Fin 2048) :
    (val_main_v28 (F := Ideal) x0 (ix3 b r d) : EReal) = x0 (ix3 b ⟨256 + r.val, by omega⟩ d) := by
  pointwise [val_main_v28, val_main_v27]

theorem v32_apply (b : Fin 2) (r : Fin 8192) (d : Fin 2048) :
    (val_main_v32 (F := Ideal) x0 x1 x2 x3 (ix3 b r d) : EReal)
      = x2 (ix3 b ⟨256 + r.val, by omega⟩ d) + val_main_v4 (F := Ideal) x3 (ix3 b 0 d)
          * ∑ e : Fin 2048, val_main_v28 (F := Ideal) x0 (ix3 b r e) * val_main_v17 (F := Ideal) x1 (ix2 e d) := by
  unfold val_main_v32 val_main_v31 val_main_v30 val_main_v29 val_main_v26
  generalize val_main_v4 (F := Ideal) x3 = u
  generalize val_main_v28 (F := Ideal) x0 = y
  generalize val_main_v17 (F := Ideal) x1 = z
  pointwise []

theorem lat_resid (b : Fin 2) (r : Fin 8192) (d : Fin 2048) :
    (val_main_v32 (F := Ideal) x0 x1 x2 x3 (ix3 b r d) : EReal) = residRow x0 x1 x2 x3 b ⟨256 + r.val, by omega⟩ d := by
  have hr : ¬(256 + r.val < 256) := by omega
  rw [v32_apply, v4_apply]
  unfold residRow vecAt
  simp only [v28_apply, v17_apply, if_neg hr]
  rfl

theorem v61_apply (b : Fin 2) (r : Fin 8192) :
    (val_main_v61 (F := Ideal) x0 x1 x2 x3 (ix3 b r 0) : EReal) = rowScale (fun e => val_main_v32 (F := Ideal) x0 x1 x2 x3 (ix3 b r e)) := by
  unfold val_main_v61 val_main_v60 val_main_v58 val_main_v56 val_main_v55 val_main_v54
  generalize val_main_v32 (F := Ideal) x0 x1 x2 x3 = y
  pointwise [val_main_v57, val_main_v59, val_main_cst_3, val_main_cst_4, val_main_cst_5, rowScale]

theorem v72_apply (b : Fin 2) (r : Fin 8192) (d : Fin 2048) :
    (val_main_v72 (F := Ideal) x0 x1 x2 x3 x4 (ix3 b r d) : EReal)
      = val_main_v32 (F := Ideal) x0 x1 x2 x3 (ix3 b r d) * val_main_v61 (F := Ideal) x0 x1 x2 x3 (ix3 b r 0) * x4 (ix1 d)
          * val_main_v68 (F := Ideal) x3 (ix3 b 0 d) + val_main_v9 (F := Ideal) x3 (ix3 b 0 d) := by
  unfold val_main_v72 val_main_v71 val_main_v70 val_main_v69 val_main_v66 val_main_v65 val_main_v64 val_main_v63 val_main_v62
  generalize val_main_v32 (F := Ideal) x0 x1 x2 x3 = y
  generalize val_main_v61 (F := Ideal) x0 x1 x2 x3 = z
  generalize val_main_v68 (F := Ideal) x3 = u
  generalize val_main_v9 (F := Ideal) x3 = w
  pointwise []

theorem lat_norm (b : Fin 2) (r : Fin 8192) (d : Fin 2048) :
    (val_main_v72 (F := Ideal) x0 x1 x2 x3 x4 (ix3 b r d) : EReal) = normRow x0 x1 x2 x3 x4 b ⟨256 + r.val, by omega⟩ d := by
  have hr : ¬(256 + r.val < 256) := by omega
  rw [v72_apply, v61_apply, v68_apply, v9_apply]
  unfold normRow modEntry vecAt
  simp only [lat_resid, if_neg hr]
  rfl

/-! ## The results -/

theorem v73_apply (b : Fin 2) (r : Fin 8448) (d : Fin 2048) :
    (val_main_v73 (F := Ideal) x0 x1 x2 x3 (ix3 b r d) : EReal)
      = if h : r.val < 256 then val_main_v25 (F := Ideal) x0 x1 x2 x3 (ix3 b ⟨r.val, h⟩ d)
        else val_main_v32 (F := Ideal) x0 x1 x2 x3 (ix3 b ⟨r.val - 256, by omega⟩ d) := by
  unfold val_main_v73
  generalize val_main_v25 (F := Ideal) x0 x1 x2 x3 = y
  generalize val_main_v32 (F := Ideal) x0 x1 x2 x3 = z
  pointwise []

theorem v76_apply (b : Fin 2) (d : Fin 2048) (r : Fin 8448) :
    (val_main_v76 (F := Ideal) x0 x1 x2 x3 x4 (ix3 b d r) : EReal)
      = if h : r.val < 256 then val_main_v53 (F := Ideal) x0 x1 x2 x3 x4 (ix3 b ⟨r.val, h⟩ d)
        else val_main_v72 (F := Ideal) x0 x1 x2 x3 x4 (ix3 b ⟨r.val - 256, by omega⟩ d) := by
  unfold val_main_v76 val_main_v75 val_main_v74
  generalize val_main_v53 (F := Ideal) x0 x1 x2 x3 x4 = y
  generalize val_main_v72 (F := Ideal) x0 x1 x2 x3 x4 = z
  pointwise []

theorem resid_apply (b : Fin 2) (r : Fin 8448) (d : Fin 2048) :
    (val_main_v73 (F := Ideal) x0 x1 x2 x3 (ix3 b r d) : EReal) = residRow x0 x1 x2 x3 b r d := by
  rw [v73_apply]
  by_cases h : r.val < 256
  · rw [dif_pos h, ctx_resid]
  · have e : (⟨256 + (r.val - 256), by omega⟩ : Fin 8448) = r := Fin.ext (by show 256 + (r.val - 256) = r.val; omega)
    rw [dif_neg h, lat_resid, e]

theorem norm_apply (b : Fin 2) (d : Fin 2048) (r : Fin 8448) :
    (val_main_v76 (F := Ideal) x0 x1 x2 x3 x4 (ix3 b d r) : EReal) = normRow x0 x1 x2 x3 x4 b r d := by
  rw [v76_apply]
  by_cases h : r.val < 256
  · rw [dif_pos h, ctx_norm]
  · have e : (⟨256 + (r.val - 256), by omega⟩ : Fin 8448) = r := Fin.ext (by show 256 + (r.val - 256) = r.val; omega)
    rw [dif_neg h, lat_norm, e]

/-- The reference's first result is the new residual. -/
theorem resid_eq : val_main_v73 (F := Ideal) x0 x1 x2 x3 = residAll x0 x1 x2 x3 := by
  funext i
  rw [eq_ix3 i]
  exact resid_apply x0 x1 x2 x3 (i 0) (i 1) (i 2)

/-- Its second result is the normalized rows, features before rows. -/
theorem norm_eq : val_main_v76 (F := Ideal) x0 x1 x2 x3 x4 = normAll x0 x1 x2 x3 x4 := by
  funext i
  rw [eq_ix3 i]
  exact norm_apply x0 x1 x2 x3 x4 (i 0) (i 1) (i 2)

end Cert.Reference4Ideal.Body
end
-- ==== Proof.OutClaims.lean ====
/- The claims about the output projection, one theorem each. -/
module

public import proofs.«01_k».proof.Defs
public import proofs.«01_k».proof.Proof.OutRef
public import Idealize.ShloMosaic.Lib.Claim

@[expose] public section
noncomputable section
namespace Cert.Proof
open Idealize.ShloMosaic Idealize.ShloMosaic.TcCoe Idealize.SL.Sem
open Cert.Kernel4Ideal.Body (residAll normAll yArr wArr xArr mArr gArr)

/-- The reference has no semaphore, and its run leaves its arguments alone. -/
theorem quiescent_out_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Kernel and reference end with the same residual and the same normalized rows. -/
theorem algebraic_out : Cert.algebraic_Kernel4Ideal_Reference4Ideal := by
  intro m ρ m' ρ' _ hagree
  refine ⟨fun c => residAll (yArr m c) (wArr m c) (xArr m c) (mArr m c),
    fun c => normAll (yArr m c) (wArr m c) (xArr m c) (mArr m c) (gArr m c), ?_, ?_⟩
  · exact (θ_run Cert.Kernel4Ideal.defs _ _).mono (fun r h c => ⟨(h.1 c).1, (h.1 c).2, (h.2 c).2.2⟩)
      (θ_run_and (Cert.Kernel4Ideal.Body.run_value m ρ) (Cert.Kernel4Ideal.Value.run_blocks m ρ))
  · refine (θ_run Cert.Reference4Ideal.defs _ _).mono (fun r h c => ⟨(h c).1.trans ?_, (h c).2.1.trans ?_, (h c).2.2⟩)
      (Cert.Reference4Ideal.Value.run (F := Ideal) m' ρ')
    · obtain ⟨a0, a1, a2, a3, a4⟩ := hagree c
      rw [Cert.Reference4Ideal.Read.val_main_v73_eq, a0, a1, a2, a3]
      exact Cert.Reference4Ideal.Body.resid_eq _ _ _ _
    · obtain ⟨a0, a1, a2, a3, a4⟩ := hagree c
      rw [Cert.Reference4Ideal.Read.val_main_v76_eq, a0, a1, a2, a3, a4]
      exact Cert.Reference4Ideal.Body.norm_eq _ _ _ _ _

end Cert.Proof
end
-- ==== Proof.SconvPay.lean ====
/- What one point of the short convolution's grid computes, read at one index over the extended reals. -/
module

public import proofs.«01_k».proof.Proof.Gen.Kernel5Ideal.Value
public import Idealize.ShloMosaic.Lib.Pointwise

@[expose] public section
set_option maxRecDepth 16384
noncomputable section
namespace Cert.Kernel5Ideal.Body
open Cert.Kernel5Ideal.Gen
open Idealize.ShloMosaic Idealize.ShloMosaic.TcCoe

theorem pay2_apply (a u : Vec Ideal S1x768x512 .bf16) (r : Fin 768) (n : Fin 512) :
    (k0_pay2 a u (ix2 r n) : EReal) = a (ix3 0 r n) * u (ix3 0 r n) := by
  pointwise [k0_pay2]

theorem pay3_apply (a u : Vec Ideal S1x8x512 .bf16) (r : Fin 8) (n : Fin 512) :
    (k0_pay3 a u (ix2 r n) : EReal) = a (ix3 0 r n) * u (ix3 0 r n) := by
  pointwise [k0_pay3]

theorem pay4_apply (a u : Vec Ideal S1x8x512 .bf16) (r : Fin 8) (n : Fin 512) :
    (k0_pay4 a u (ix2 r n) : EReal) = a (ix3 0 r n) * u (ix3 0 r n) := by
  pointwise [k0_pay4]

theorem pay1_apply (y : FVec Ideal S768x512 .f32) (g : Vec Ideal S1x768x512 .bf16) (r : Fin 768) (n : Fin 512) :
    (k0_pay1 y g (ix3 0 r n) : EReal) = g (ix3 0 r n) * y (ix2 r n) := by
  pointwise [k0_pay1]

/-- The array's row of a block's row, as the kernel counts it. -/
abbrev rowWord (a : Fin 11) (r : Fin 768) : BitVec 32 :=
  IntOp.addi (Scalar.muli (BitVec.ofNat 32 a.val) 768#32) (BitVec.ofNat 32 r.val)

theorem pay5_apply (i : grid0.Coords) (r : Fin 768) : k0_pay5 i (ix2 r 0) = rowWord (i 1) r := by
  pointwise [k0_pay5]

theorem pay7_apply (i : grid0.Coords) (r : Fin 768) :
    k0_pay7 i (ix2 r 0) = Scalar.select (IntOp.cmpi .slt (rowWord (i 1) r) 256#32) 0#32 256#32 := by
  rw [← pay5_apply]
  pointwise [k0_pay7, k0_pay6]

theorem pay8_apply (i : grid0.Coords) (r : Fin 768) :
    k0_pay8 i (ix2 r 0) = Scalar.select (IntOp.cmpi .slt (rowWord (i 1) r) 256#32) 255#32 8447#32 := by
  rw [← pay5_apply]
  pointwise [k0_pay8, k0_pay6]

/-! ## Which rows have a neighbour -/

/-- A row has a row before it in its own sequence unless it is that sequence's first one. -/
theorem has_before : ∀ (a : Fin 11) (r : Fin 768),
    IntOp.cmpi .sge (IntOp.subi (rowWord a r) 1#32) (Scalar.select (IntOp.cmpi .slt (rowWord a r) 256#32) 0#32 256#32)
      = if 768 * a.val + r.val = 0 ∨ 768 * a.val + r.val = 256 then 0#1 else 1#1 := by
  decide +kernel

/-- A row has a row after it in its own sequence unless it is that sequence's last one. -/
theorem has_after : ∀ (a : Fin 11) (r : Fin 768),
    IntOp.cmpi .sle (IntOp.addi (rowWord a r) 1#32) (Scalar.select (IntOp.cmpi .slt (rowWord a r) 256#32) 255#32 8447#32)
      = if 768 * a.val + r.val = 255 ∨ 768 * a.val + r.val = 8447 then 0#1 else 1#1 := by
  decide +kernel

theorem is_first : ∀ r : Fin 768, IntOp.cmpi .eq (BitVec.ofNat 32 r.val) 0#32 = if r.val = 0 then 1#1 else 0#1 := by
  decide +kernel

theorem is_last : ∀ r : Fin 768, IntOp.cmpi .eq (BitVec.ofNat 32 r.val) 767#32 = if r.val = 767 then 1#1 else 0#1 := by
  decide +kernel

/-! ## The convolution of a block -/

/-- The entry before row `r` of a block: the last row of the block before it stands before row 0. -/
def above (z : FVec Ideal S768x512 .f32) (pv : FVec Ideal S8x512 .f32) (r : Fin 768) (n : Fin 512) : EReal :=
  if r.val = 0 then pv (ix2 7 n) else z (ix2 ⟨r.val - 1, by omega⟩ n)

/-- The entry after row `r` of a block: the first row of the block after it stands after row 767. -/
def below (z : FVec Ideal S768x512 .f32) (nx : FVec Ideal S8x512 .f32) (r : Fin 768) (n : Fin 512) : EReal :=
  if h : r.val = 767 then nx (ix2 0 n) else z (ix2 ⟨r.val + 1, by omega⟩ n)

theorem select_one (x y : EReal) : (Scalar.select 1#1 x y : EReal) = x := rfl
theorem select_zero (x y : EReal) : (Scalar.select 0#1 x y : EReal) = y := rfl

theorem above_eq (z : FVec Ideal S768x512 .f32) (pv : FVec Ideal S8x512 .f32) (r : Fin 768) (n : Fin 512) :
    (Scalar.select (IntOp.cmpi .eq (BitVec.ofNat 32 r.val) 0#32) (pv (ix2 7 n))
      (z (ix2 ⟨(r.val + 768 - 1) % 768, Nat.mod_lt _ (by decide)⟩ n)) : EReal) = above z pv r n := by
  rw [is_first]
  unfold above
  by_cases h : r.val = 0
  · rw [if_pos h, if_pos h]
    exact select_one _ _
  · rw [if_neg h, if_neg h]
    refine (select_zero _ _).trans (congrArg (fun k => (z (ix2 k n) : EReal)) (Fin.ext ?_))
    show (r.val + 768 - 1) % 768 = r.val - 1
    omega

theorem below_eq (z : FVec Ideal S768x512 .f32) (nx : FVec Ideal S8x512 .f32) (r : Fin 768) (n : Fin 512) :
    (Scalar.select (IntOp.cmpi .eq (BitVec.ofNat 32 r.val) 767#32) (nx (ix2 0 n))
      (z (ix2 ⟨(r.val + 768 - 767) % 768, Nat.mod_lt _ (by decide)⟩ n)) : EReal) = below z nx r n := by
  rw [is_last]
  unfold below
  by_cases h : r.val = 767
  · rw [if_pos h, dif_pos h]
    exact select_one _ _
  · rw [if_neg h, dif_neg h]
    refine (select_zero _ _).trans (congrArg (fun k => (z (ix2 k n) : EReal)) (Fin.ext ?_))
    show (r.val + 768 - 767) % 768 = r.val + 1
    omega

theorem pay9_apply (i : grid0.Coords) (z : FVec Ideal S768x512 .f32) (pv nx : FVec Ideal S8x512 .f32)
    (w : Vec Ideal S3x512 .f32) (b : Vec Ideal S1x512 .f32) (r : Fin 768) (n : Fin 512) :
    (k0_pay9 z pv nx (iota .tc S768x1 32 [0] iota_S768x1_d0_w32) (k0_pay5 i) (k0_pay7 i) (k0_pay8 i) w b (ix2 r n) : EReal)
      = b (ix2 0 n) + w (ix2 1 n) * z (ix2 r n)
        + w (ix2 0 n) * (if 768 * (i 1).val + r.val = 0 ∨ 768 * (i 1).val + r.val = 256 then 0 else above z pv r n)
        + w (ix2 2 n) * (if 768 * (i 1).val + r.val = 255 ∨ 768 * (i 1).val + r.val = 8447 then 0 else below z nx r n) := by
  have h5 := pay5_apply i r
  have h7 := pay7_apply i r
  have h8 := pay8_apply i r
  generalize k0_pay5 i = ro at *
  generalize k0_pay7 i = fi at *
  generalize k0_pay8 i = la at *
  pointwise [k0_pay9]
  rw [h5, h7, h8, above_eq, below_eq]
  have hb := has_before (i 1) r
  have ha := has_after (i 1) r
  refine congrArg₂ (· + ·) (congrArg₂ (· + ·) rfl ?_) ?_
  · refine (congrArg (fun s => (Scalar.select s _ _ : EReal)) hb).trans ?_
    split_ifs
    · exact (select_zero _ _).trans (mul_zero _).symm
    · exact select_one _ _
  · refine (congrArg (fun s => (Scalar.select s _ _ : EReal)) ha).trans ?_
    split_ifs
    · exact (select_zero _ _).trans (mul_zero _).symm
    · exact select_one _ _

end Cert.Kernel5Ideal.Body
end
-- ==== Proof.SconvPoint.lean ====
/- What the short convolution's grid leaves in the output array. -/
module

public import proofs.«01_k».proof.Proof.SconvPay
public import Idealize.ShloMosaic.Lib.VecWindow
public import Idealize.ShloMosaic.Lib.Pipeline.ValueKit.Geometry

@[expose] public section
set_option maxRecDepth 16384
noncomputable section
namespace Cert.Kernel5Ideal.Body
open Cert.Kernel5Ideal.Gen
open Idealize.ShloMosaic Idealize.ShloMosaic.TcCoe Idealize.SL.Sem
open Idealize.ShloMosaic.Pipeline (Dat Cfg Window)

/-! ## The gated short convolution -/

/-- What is convolved: the product of two columns of the projected row. -/
def zAt (p : Vec Ideal S2x8448x19456 .bf16) (b : Fin 2) (r : Fin 8448) (n : Fin 2048) : EReal :=
  p (ix3 b r ⟨9216 + n.val, by omega⟩) * p (ix3 b r ⟨11264 + n.val, by omega⟩)

/-- Its entry in the row before, 0 before the first context row and before the first latent row. -/
def zBefore (p : Vec Ideal S2x8448x19456 .bf16) (b : Fin 2) (r : Fin 8448) (n : Fin 2048) : EReal :=
  if r.val = 0 ∨ r.val = 256 then 0 else zAt p b ⟨r.val - 1, by omega⟩ n

/-- Its entry in the row after, 0 after the last context row and after the last latent row. -/
def zAfter (p : Vec Ideal S2x8448x19456 .bf16) (b : Fin 2) (r : Fin 8448) (n : Fin 2048) : EReal :=
  if h : r.val = 255 ∨ r.val = 8447 then 0 else zAt p b ⟨r.val + 1, by omega⟩ n

/-- The gated short convolution: each of the two sequences is convolved by itself. -/
def convAt (p : Vec Ideal S2x8448x19456 .bf16) (w : Vec Ideal S3x2048 .f32) (bi : Vec Ideal S2048 .f32)
    (b : Fin 2) (r : Fin 8448) (n : Fin 2048) : EReal :=
  p (ix3 b r ⟨7168 + n.val, by omega⟩)
    * (bi (ix1 n) + w (ix2 1 n) * zAt p b r n + w (ix2 0 n) * zBefore p b r n + w (ix2 2 n) * zAfter p b r n)

/-- The whole array of it. -/
def convAll (p : Vec Ideal S2x8448x19456 .bf16) (w : Vec Ideal S3x2048 .f32) (bi : Vec Ideal S2048 .f32) :
    Vec Ideal S2x8448x2048 .bf16 := fun i => convAt p w bi (i 0) (i 1) (i 2)

/-! ## One block from its input blocks -/

theorem out_apply (i : grid0.Coords) (x0 x1 x2 : Vec Ideal S1x768x512 .bf16) (x3 x4 x5 x6 : Vec Ideal S1x8x512 .bf16)
    (x7 : Vec Ideal S3x512 .f32) (x8 : Vec Ideal S1x512 .f32) (r : Fin 768) (n : Fin 512) :
    (out0_9 i x0 x1 x2 x3 x4 x5 x6 x7 x8 (ix3 0 r n) : EReal)
      = x0 (ix3 0 r n) * (x8 (ix2 0 n) + x7 (ix2 1 n) * (x1 (ix3 0 r n) * x2 (ix3 0 r n))
        + x7 (ix2 0 n) * (if 768 * (i 1).val + r.val = 0 ∨ 768 * (i 1).val + r.val = 256 then 0 else above (k0_pay2 x1 x2) (k0_pay3 x3 x4) r n)
        + x7 (ix2 2 n) * (if 768 * (i 1).val + r.val = 255 ∨ 768 * (i 1).val + r.val = 8447 then 0 else below (k0_pay2 x1 x2) (k0_pay4 x5 x6) r n)) := by
  unfold out0_9
  have hz : (![0, 0, 0] : Fin 3 → ℕ) = fun _ => 0 := by decide
  have hz2 : (![0, 0] : Fin 2 → ℕ) = fun _ => 0 := by decide
  rw [View.canon_unit_zero hz]
  simp only [View.ld_unit_zero (S := S1x768x512) hz, View.ld_unit_zero (S := S1x8x512) hz, View.ld_unit_zero (S := S3x512) hz2,
    View.ld_unit_zero (S := S1x512) hz2]
  refine (pay1_apply _ _ r n).trans (congrArg (fun f => (x0 (ix3 0 r n) * f : EReal)) ?_)
  refine (pay9_apply i _ _ _ _ _ r n).trans ?_
  rw [pay2_apply]

/-! ## The blocks of the arrays -/

theorem index0 : ∀ t : Fin cfg0.N, win0_0.index t = ![(grid0.coords t 0).val, (grid0.coords t 1).val, 14 + (grid0.coords t 2).val] :=
  (by decide +kernel : ∀ t : Fin grid0.N, win0_0.index t = ![(grid0.coords t 0).val, (grid0.coords t 1).val, 14 + (grid0.coords t 2).val])
theorem index1 : ∀ t : Fin cfg0.N, win0_1.index t = ![(grid0.coords t 0).val, (grid0.coords t 1).val, 18 + (grid0.coords t 2).val] :=
  (by decide +kernel : ∀ t : Fin grid0.N, win0_1.index t = ![(grid0.coords t 0).val, (grid0.coords t 1).val, 18 + (grid0.coords t 2).val])
theorem index2 : ∀ t : Fin cfg0.N, win0_2.index t = ![(grid0.coords t 0).val, (grid0.coords t 1).val, 22 + (grid0.coords t 2).val] :=
  (by decide +kernel : ∀ t : Fin grid0.N, win0_2.index t = ![(grid0.coords t 0).val, (grid0.coords t 1).val, 22 + (grid0.coords t 2).val])
theorem index3 : ∀ t : Fin cfg0.N, win0_3.index t = ![(grid0.coords t 0).val, 96 * (grid0.coords t 1).val - 1, 18 + (grid0.coords t 2).val] :=
  (by decide +kernel : ∀ t : Fin grid0.N, win0_3.index t = ![(grid0.coords t 0).val, 96 * (grid0.coords t 1).val - 1, 18 + (grid0.coords t 2).val])
theorem index4 : ∀ t : Fin cfg0.N, win0_4.index t = ![(grid0.coords t 0).val, 96 * (grid0.coords t 1).val - 1, 22 + (grid0.coords t 2).val] :=
  (by decide +kernel : ∀ t : Fin grid0.N, win0_4.index t = ![(grid0.coords t 0).val, 96 * (grid0.coords t 1).val - 1, 22 + (grid0.coords t 2).val])
theorem index5 : ∀ t : Fin cfg0.N, win0_5.index t = ![(grid0.coords t 0).val, min (96 * ((grid0.coords t 1).val + 1)) 1055, 18 + (grid0.coords t 2).val] :=
  (by decide +kernel : ∀ t : Fin grid0.N, win0_5.index t = ![(grid0.coords t 0).val, min (96 * ((grid0.coords t 1).val + 1)) 1055, 18 + (grid0.coords t 2).val])
theorem index6 : ∀ t : Fin cfg0.N, win0_6.index t = ![(grid0.coords t 0).val, min (96 * ((grid0.coords t 1).val + 1)) 1055, 22 + (grid0.coords t 2).val] :=
  (by decide +kernel : ∀ t : Fin grid0.N, win0_6.index t = ![(grid0.coords t 0).val, min (96 * ((grid0.coords t 1).val + 1)) 1055, 22 + (grid0.coords t 2).val])
theorem index7 : ∀ t : Fin cfg0.N, win0_7.index t = ![0, (grid0.coords t 2).val] :=
  (by decide +kernel : ∀ t : Fin grid0.N, win0_7.index t = ![0, (grid0.coords t 2).val])
theorem index8 : ∀ t : Fin cfg0.N, win0_8.index t = ![0, (grid0.coords t 2).val] :=
  (by decide +kernel : ∀ t : Fin grid0.N, win0_8.index t = ![0, (grid0.coords t 2).val])
theorem index9 : ∀ t : Fin cfg0.N, win0_9.index t = ![(grid0.coords t 0).val, (grid0.coords t 1).val, (grid0.coords t 2).val] :=
  (by decide +kernel : ∀ t : Fin grid0.N, win0_9.index t = ![(grid0.coords t 0).val, (grid0.coords t 1).val, (grid0.coords t 2).val])
theorem coord0_lt (t : Fin cfg0.N) : (grid0.coords t 0).val < 2 := (grid0.coords t 0).isLt
theorem coord1_lt (t : Fin cfg0.N) : (grid0.coords t 1).val < 11 := (grid0.coords t 1).isLt
theorem coord2_lt (t : Fin cfg0.N) : (grid0.coords t 2).val < 4 := (grid0.coords t 2).isLt

/-- The batch, the row and the column of entry `(r, n)` of point `t`'s block. -/
abbrev batch (t : Fin cfg0.N) : Fin 2 := ⟨(grid0.coords t 0).val, coord0_lt t⟩
abbrev row (t : Fin cfg0.N) (r : Fin 768) : Fin 8448 := ⟨768 * (grid0.coords t 1).val + r.val, by have := coord1_lt t; omega⟩
abbrev col (t : Fin cfg0.N) (n : Fin 512) : Fin 2048 := ⟨512 * (grid0.coords t 2).val + n.val, by have := coord2_lt t; omega⟩
/-- The array's row of row `r` of the eight before a block, and of the eight after it. -/
abbrev rowPrev (t : Fin cfg0.N) (r : Fin 8) : Fin 8448 := ⟨8 * (96 * (grid0.coords t 1).val - 1) + r.val, by have := coord1_lt t; omega⟩
abbrev rowNext (t : Fin cfg0.N) (r : Fin 8) : Fin 8448 :=
  ⟨8 * min (96 * ((grid0.coords t 1).val + 1)) 1055 + r.val, by have := coord1_lt t; omega⟩

variable (m : (ℓ : Loc nD τ sig) → Buf (Elt Ideal) ℓ) (c : Dev nD)

/-- The arrays as the launch finds them. -/
abbrev pArr : Vec Ideal S2x8448x19456 .bf16 := m ((c : Thread nD τ).loc main_arg0)
abbrev wArr : Vec Ideal S3x2048 .f32 := m ((c : Thread nD τ).loc main_arg1)
abbrev bArr : Vec Ideal S2048 .f32 := m ((c : Thread nD τ).loc main_arg2)

theorem iblk0_apply (t : Fin cfg0.N) (r : Fin 768) (n : Fin 512) :
    (iblk m c 0 t (ix3 (n0 := 1) (n1 := 768) (n2 := 512) 0 r n) : EReal) = pArr m c (ix3 (batch t) (row t r) ⟨7168 + (col t n).val, by omega⟩) := by
  unfold pArr
  rw [← V_main_arg0 m c]
  blk_simp [iblk]
  refine congrArg _ ?_
  blk_ext [index0]

theorem iblk1_apply (t : Fin cfg0.N) (r : Fin 768) (n : Fin 512) :
    (iblk m c 1 t (ix3 (n0 := 1) (n1 := 768) (n2 := 512) 0 r n) : EReal) = pArr m c (ix3 (batch t) (row t r) ⟨9216 + (col t n).val, by omega⟩) := by
  unfold pArr
  rw [← V_main_arg0 m c]
  blk_simp [iblk]
  refine congrArg _ ?_
  blk_ext [index1]

theorem iblk2_apply (t : Fin cfg0.N) (r : Fin 768) (n : Fin 512) :
    (iblk m c 2 t (ix3 (n0 := 1) (n1 := 768) (n2 := 512) 0 r n) : EReal) = pArr m c (ix3 (batch t) (row t r) ⟨11264 + (col t n).val, by omega⟩) := by
  unfold pArr
  rw [← V_main_arg0 m c]
  blk_simp [iblk]
  refine congrArg _ ?_
  blk_ext [index2]

theorem iblk3_apply (t : Fin cfg0.N) (r : Fin 8) (n : Fin 512) :
    (iblk m c 3 t (ix3 (n0 := 1) (n1 := 8) (n2 := 512) 0 r n) : EReal) = pArr m c (ix3 (batch t) (rowPrev t r) ⟨9216 + (col t n).val, by omega⟩) := by
  unfold pArr
  rw [← V_main_arg0 m c]
  blk_simp [iblk]
  refine congrArg _ ?_
  blk_ext [index3]

theorem iblk4_apply (t : Fin cfg0.N) (r : Fin 8) (n : Fin 512) :
    (iblk m c 4 t (ix3 (n0 := 1) (n1 := 8) (n2 := 512) 0 r n) : EReal) = pArr m c (ix3 (batch t) (rowPrev t r) ⟨11264 + (col t n).val, by omega⟩) := by
  unfold pArr
  rw [← V_main_arg0 m c]
  blk_simp [iblk]
  refine congrArg _ ?_
  blk_ext [index4]

theorem iblk5_apply (t : Fin cfg0.N) (r : Fin 8) (n : Fin 512) :
    (iblk m c 5 t (ix3 (n0 := 1) (n1 := 8) (n2 := 512) 0 r n) : EReal) = pArr m c (ix3 (batch t) (rowNext t r) ⟨9216 + (col t n).val, by omega⟩) := by
  unfold pArr
  rw [← V_main_arg0 m c]
  blk_simp [iblk]
  refine congrArg _ ?_
  blk_ext [index5]

theorem iblk6_apply (t : Fin cfg0.N) (r : Fin 8) (n : Fin 512) :
    (iblk m c 6 t (ix3 (n0 := 1) (n1 := 8) (n2 := 512) 0 r n) : EReal) = pArr m c (ix3 (batch t) (rowNext t r) ⟨11264 + (col t n).val, by omega⟩) := by
  unfold pArr
  rw [← V_main_arg0 m c]
  blk_simp [iblk]
  refine congrArg _ ?_
  blk_ext [index6]

theorem iblk7_apply (t : Fin cfg0.N) (k : Fin 3) (n : Fin 512) :
    (iblk m c 7 t (ix2 (n0 := 3) (n1 := 512) k n) : EReal) = wArr m c (ix2 k (col t n)) := by
  unfold wArr
  rw [← V_main_arg1 m c]
  blk_simp [iblk]
  refine congrArg _ ?_
  blk_ext [index7]

theorem iblk8_apply (t : Fin cfg0.N) (n : Fin 512) :
    (iblk m c 8 t (ix2 (n0 := 1) (n1 := 512) 0 n) : EReal) = bArr m c (ix1 (col t n)) := by
  have h : V m c main_v0 = shapeCast S1x2048 (bArr m c) shapeCasts_S2048_S1x2048 := by rfl
  have e : (V m c main_v0 (ix2 0 (col t n)) : EReal) = bArr m c (ix1 (col t n)) := by
    rw [h]
    pointwise []
  rw [← e]
  blk_simp [iblk]
  refine congrArg _ ?_
  blk_ext [index8]

/-! ## The output array -/

/-- The neighbours of a block's entry are the array's. -/
theorem above_apply (t : Fin cfg0.N) (r : Fin 768) (n : Fin 512)
    (h : ¬(768 * (grid0.coords t 1).val + r.val = 0 ∨ 768 * (grid0.coords t 1).val + r.val = 256)) :
    above (k0_pay2 (iblk m c 1 t) (iblk m c 2 t)) (k0_pay3 (iblk m c 3 t) (iblk m c 4 t)) r n
      = zAt (pArr m c) (batch t) ⟨768 * (grid0.coords t 1).val + r.val - 1, by have := coord1_lt t; omega⟩ (col t n) := by
  unfold above
  by_cases hr : r.val = 0
  · rw [if_pos hr]
    refine (pay3_apply _ _ 7 n).trans ?_
    rw [iblk3_apply, iblk4_apply]
    have e : rowPrev t 7 = ⟨768 * (grid0.coords t 1).val + r.val - 1, by have := coord1_lt t; omega⟩ :=
      Fin.ext (by show 8 * (96 * (grid0.coords t 1).val - 1) + 7 = 768 * (grid0.coords t 1).val + r.val - 1; omega)
    rw [e]
    rfl
  · rw [if_neg hr]
    refine (pay2_apply _ _ _ n).trans ?_
    rw [iblk1_apply, iblk2_apply]
    have e : row t ⟨r.val - 1, by omega⟩ = ⟨768 * (grid0.coords t 1).val + r.val - 1, by have := coord1_lt t; omega⟩ :=
      Fin.ext (by show 768 * (grid0.coords t 1).val + (r.val - 1) = 768 * (grid0.coords t 1).val + r.val - 1; omega)
    rw [e]
    rfl

theorem below_apply (t : Fin cfg0.N) (r : Fin 768) (n : Fin 512)
    (h : ¬(768 * (grid0.coords t 1).val + r.val = 255 ∨ 768 * (grid0.coords t 1).val + r.val = 8447)) :
    below (k0_pay2 (iblk m c 1 t) (iblk m c 2 t)) (k0_pay4 (iblk m c 5 t) (iblk m c 6 t)) r n
      = zAt (pArr m c) (batch t) ⟨768 * (grid0.coords t 1).val + r.val + 1, by have := coord1_lt t; omega⟩ (col t n) := by
  have h1 := coord1_lt t
  unfold below
  by_cases hr : r.val = 767
  · rw [dif_pos hr]
    refine (pay4_apply _ _ 0 n).trans ?_
    rw [iblk5_apply, iblk6_apply]
    have e : rowNext t 0 = ⟨768 * (grid0.coords t 1).val + r.val + 1, by omega⟩ :=
      Fin.ext (by show 8 * min (96 * ((grid0.coords t 1).val + 1)) 1055 + 0 = 768 * (grid0.coords t 1).val + r.val + 1; omega)
    rw [e]
    rfl
  · rw [dif_neg hr]
    refine (pay2_apply _ _ _ n).trans ?_
    rw [iblk1_apply, iblk2_apply]
    have e : row t ⟨r.val + 1, by omega⟩ = ⟨768 * (grid0.coords t 1).val + r.val + 1, by omega⟩ :=
      Fin.ext (by show 768 * (grid0.coords t 1).val + (r.val + 1) = 768 * (grid0.coords t 1).val + r.val + 1; omega)
    rw [e]
    rfl

/-- An output block's entry. -/
theorem block_apply (t : Fin cfg0.N) (r : Fin 768) (n : Fin 512) :
    (out0_9 (grid0.coords t) (iblk m c 0 t) (iblk m c 1 t) (iblk m c 2 t) (iblk m c 3 t) (iblk m c 4 t) (iblk m c 5 t) (iblk m c 6 t)
      (iblk m c 7 t) (iblk m c 8 t) (ix3 0 r n) : EReal)
      = convAll (pArr m c) (wArr m c) (bArr m c) (ix3 (batch t) (row t r) (col t n)) := by
  refine (out_apply _ _ _ _ _ _ _ _ _ _ r n).trans ?_
  rw [iblk0_apply, iblk1_apply, iblk2_apply, iblk7_apply, iblk7_apply, iblk7_apply, iblk8_apply]
  show _ = convAt (pArr m c) (wArr m c) (bArr m c) (batch t) (row t r) (col t n)
  unfold convAt zBefore zAfter
  refine congrArg (fun f => (_ * f : EReal)) (congrArg₂ (· + ·) (congrArg₂ (· + ·) rfl (congrArg (fun f => (_ * f : EReal)) ?_))
    (congrArg (fun f => (_ * f : EReal)) ?_))
  · by_cases h : 768 * (grid0.coords t 1).val + r.val = 0 ∨ 768 * (grid0.coords t 1).val + r.val = 256
    · rw [if_pos h, if_pos h]
    · rw [if_neg h, if_neg h]
      exact above_apply m c t r n h
  · by_cases h : 768 * (grid0.coords t 1).val + r.val = 255 ∨ 768 * (grid0.coords t 1).val + r.val = 8447
    · rw [if_pos h, dif_pos h]
    · rw [if_neg h, dif_neg h]
      exact below_apply m c t r n h

/-- The output array after the run. -/
theorem final : (dats m 0 c).arrAt 9 cfg0.N = convAll (pArr m c) (wArr m c) (bArr m c) := by
  refine (dats m 0 c).arrAt_eq_of_covers 9 _ (by decide +kernel) fun t hf y => ?_
  blk_simp
  rw [after0_9]
  have h0 : (y 0).val < 1 := (y 0).isLt
  have e0 : ((win0_9.blk t).view.emb y 0).val = (grid0.coords t 0).val := by blk_simp [index9]
  have e1 : ((win0_9.blk t).view.emb y 1).val = (grid0.coords t 1).val * 768 + (y 1).val := by blk_simp [index9]
  have e2 : ((win0_9.blk t).view.emb y 2).val = (grid0.coords t 2).val * 512 + (y 2).val := by blk_simp [index9]
  have hy : y = ix3 (n0 := 1) (n1 := 768) (n2 := 512) 0 (y 1) (y 2) := by
    funext a
    match a with
    | ⟨0, _⟩ => exact Fin.ext (by show (y 0).val = 0; omega)
    | ⟨1, _⟩ => rfl
    | ⟨2, _⟩ => rfl
  refine (congrArg (out0_9 _ _ _ _ _ _ _ _ _ _) hy).trans ((block_apply m c t (y 1) (y 2)).trans ?_)
  refine congrArg (convAll _ _ _) (funext fun a => Fin.ext ?_)
  match a with
  | ⟨0, _⟩ => exact e0.symm
  | ⟨1, _⟩ => refine Eq.trans ?_ e1.symm; show 768 * _ + (y 1).val = _; omega
  | ⟨2, _⟩ => refine Eq.trans ?_ e2.symm; show 512 * _ + (y 2).val = _; omega

/-- The run: the output array ends holding the gated short convolution. -/
theorem run_value (ρ : Dev nD → PrngReg) :
    θ_run defs (onTc (τ := τ) (main (F := Ideal))) ⟨m, fun _ => 0, ρ⟩ fun r => ∀ c : Dev nD,
      r.2.mem ((c.tc : Thread nD τ).loc main_v1) = convAll (pArr m c) (wArr m c) (bArr m c) :=
  (θ_run defs _ _).mono (fun r hr c => (hr c).1.trans (final m c)) (Value.run_blocks m ρ)

end Cert.Kernel5Ideal.Body
end
-- ==== Proof.SconvRef.lean ====
/- The reference of the short convolution, read at an index over the extended reals. -/
module

public import proofs.«01_k».proof.Proof.SconvPoint
public import proofs.«01_k».proof.Proof.Gen.Reference5Ideal.Run
public import proofs.«01_k».proof.Proof.Gen.Reference5Ideal.Read

@[expose] public section
set_option maxRecDepth 16384
noncomputable section
namespace Cert.Reference5Ideal.Body
open Cert.Reference5Ideal Cert.Reference5Ideal.Gen Cert.Reference5Ideal.Read
open Idealize.ShloMosaic
open Cert.Kernel5Ideal.Body (zAt zBefore zAfter convAt convAll)

/-- The padding's value. -/
theorem pad_zero : (FloatOps.sitofp (F := Ideal) FTy.f32 (0#32) : EReal) = 0 := by
  show (((0#32 : BitVec 32).toInt : ℝ) : EReal) = 0
  simp

/-- The reference adds the bias to the taps' sum, the kernel the taps to the bias. -/
theorem sum_order (b p0 p1 p2 : EReal) : b + (p0 + p1 + p2) = b + p1 + p0 + p2 := by
  rw [add_comm p0 p1, ← add_assoc, ← add_assoc]

variable (x0 : Vec Ideal S2x8448x19456 .bf16) (x1 : Vec Ideal S3x2048 .f32) (x2 : Vec Ideal S2048 .f32)

/-! ## The context rows -/

theorem v7_apply (b : Fin 2) (r : Fin 256) (n : Fin 2048) :
    (val_main_v7 (F := Ideal) x0 (ix3 b r n) : EReal) = x0 (ix3 b ⟨r.val, by omega⟩ ⟨7168 + n.val, by omega⟩) := by
  pointwise [val_main_v7, val_main_v2, val_main_v1, val_main_v0]

theorem v10_apply (b : Fin 2) (r : Fin 256) (n : Fin 2048) :
    (val_main_v10 (F := Ideal) x0 (ix3 b r n) : EReal) = zAt x0 b ⟨r.val, by omega⟩ n := by
  pointwise [val_main_v10, val_main_v9, val_main_v8, val_main_v6, val_main_v5, val_main_v4, val_main_v3, val_main_v0, zAt]

/-- The padded products: row `r + 1` is row `r`'s, rows 0 and 257 are zero. -/
theorem v11_apply (b : Fin 2) (r : Fin 258) (n : Fin 2048) :
    (val_main_v11 (F := Ideal) x0 (ix3 b r n) : EReal)
      = if h : 1 ≤ r.val ∧ r.val - 1 < 256 then val_main_v10 (F := Ideal) x0 (ix3 b ⟨r.val - 1, h.2⟩ n) else 0 := by
  unfold val_main_v11
  generalize val_main_v10 (F := Ideal) x0 = z
  pointwise [val_main_call0_v0, val_main_c]
  rw [pad_zero]

/-- The convolution's sum. -/
theorem v36_apply (b : Fin 2) (r : Fin 256) (n : Fin 2048) :
    (val_main_v36 (F := Ideal) x0 x1 x2 (ix3 b r n) : EReal)
      = x2 (ix1 n) + (x1 (ix2 0 n) * val_main_v11 (F := Ideal) x0 (ix3 b ⟨r.val, by omega⟩ n)
        + x1 (ix2 1 n) * val_main_v11 (F := Ideal) x0 (ix3 b ⟨1 + r.val, by omega⟩ n)
        + x1 (ix2 2 n) * val_main_v11 (F := Ideal) x0 (ix3 b ⟨2 + r.val, by omega⟩ n)) := by
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12
  generalize val_main_v11 (F := Ideal) x0 = z
  pointwise [val_main_cst]

/-- The rows' results. -/
theorem v37_apply (b : Fin 2) (r : Fin 256) (n : Fin 2048) :
    (val_main_v37 (F := Ideal) x0 x1 x2 (ix3 b r n) : EReal) = convAt x0 x1 x2 b ⟨r.val, by omega⟩ n := by
  have e : (val_main_v37 (F := Ideal) x0 x1 x2 (ix3 b r n) : EReal)
      = val_main_v7 (F := Ideal) x0 (ix3 b r n) * val_main_v36 (F := Ideal) x0 x1 x2 (ix3 b r n) := rfl
  have h0 : (val_main_v11 (F := Ideal) x0 (ix3 b ⟨r.val, by omega⟩ n) : EReal) = zBefore x0 b ⟨r.val, by omega⟩ n := by
    rw [v11_apply]
    unfold zBefore
    by_cases h : r.val = 0
    · rw [dif_neg (by show ¬(1 ≤ r.val ∧ r.val - 1 < 256); omega), if_pos (by show r.val = 0 ∨ r.val = 256; omega)]
    · rw [dif_pos (by show 1 ≤ r.val ∧ r.val - 1 < 256; omega), if_neg (by show ¬(r.val = 0 ∨ r.val = 256); omega), v10_apply]
  have h1 : (val_main_v11 (F := Ideal) x0 (ix3 b ⟨1 + r.val, by omega⟩ n) : EReal) = zAt x0 b ⟨r.val, by omega⟩ n := by
    rw [v11_apply, dif_pos (by show 1 ≤ 1 + r.val ∧ 1 + r.val - 1 < 256; omega), v10_apply]
    exact congrArg (fun k => zAt x0 b k n) (Fin.ext (by show 1 + r.val - 1 = r.val; omega))
  have h2 : (val_main_v11 (F := Ideal) x0 (ix3 b ⟨2 + r.val, by omega⟩ n) : EReal) = zAfter x0 b ⟨r.val, by omega⟩ n := by
    rw [v11_apply]
    unfold zAfter
    by_cases h : r.val = 255
    · rw [dif_neg (by show ¬(1 ≤ 2 + r.val ∧ 2 + r.val - 1 < 256); omega), dif_pos (by show r.val = 255 ∨ r.val = 8447; omega)]
    · rw [dif_pos (by show 1 ≤ 2 + r.val ∧ 2 + r.val - 1 < 256; omega), dif_neg (by show ¬(r.val = 255 ∨ r.val = 8447); omega), v10_apply]
      exact congrArg (fun k => zAt x0 b k n) (Fin.ext (by show 2 + r.val - 1 = r.val + 1; omega))
  rw [e, v7_apply, v36_apply, h0, h1, h2]
  exact congrArg (fun f => (_ * f : EReal)) (sum_order _ _ _ _)

/-! ## The latent rows -/

theorem v38_apply (b : Fin 2) (r : Fin 8192) (n : Fin 2048) :
    (val_main_v38 (F := Ideal) x0 (ix3 b r n) : EReal) = x0 (ix3 b ⟨256 + r.val, by omega⟩ ⟨7168 + n.val, by omega⟩) := by
  pointwise [val_main_v38, val_main_v2, val_main_v1, val_main_v0]

theorem v41_apply (b : Fin 2) (r : Fin 8192) (n : Fin 2048) :
    (val_main_v41 (F := Ideal) x0 (ix3 b r n) : EReal) = zAt x0 b ⟨256 + r.val, by omega⟩ n := by
  pointwise [val_main_v41, val_main_v40, val_main_v39, val_main_v6, val_main_v5, val_main_v4, val_main_v3, val_main_v0, zAt]

/-- The padded products: row `r + 1` is row `r`'s, rows 0 and 8193 are zero. -/
theorem v42_apply (b : Fin 2) (r : Fin 8194) (n : Fin 2048) :
    (val_main_v42 (F := Ideal) x0 (ix3 b r n) : EReal)
      = if h : 1 ≤ r.val ∧ r.val - 1 < 8192 then val_main_v41 (F := Ideal) x0 (ix3 b ⟨r.val - 1, h.2⟩ n) else 0 := by
  unfold val_main_v42
  generalize val_main_v41 (F := Ideal) x0 = z
  pointwise [val_main_call1_v0, val_main_c_0]
  rw [pad_zero]

/-- The convolution's sum. -/
theorem v67_apply (b : Fin 2) (r : Fin 8192) (n : Fin 2048) :
    (val_main_v67 (F := Ideal) x0 x1 x2 (ix3 b r n) : EReal)
      = x2 (ix1 n) + (x1 (ix2 0 n) * val_main_v42 (F := Ideal) x0 (ix3 b ⟨r.val, by omega⟩ n)
        + x1 (ix2 1 n) * val_main_v42 (F := Ideal) x0 (ix3 b ⟨1 + r.val, by omega⟩ n)
        + x1 (ix2 2 n) * val_main_v42 (F := Ideal) x0 (ix3 b ⟨2 + r.val, by omega⟩ n)) := by
  unfold val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43
  generalize val_main_v42 (F := Ideal) x0 = z
  pointwise [val_main_cst_1]

/-- The rows' results. -/
theorem v68_apply (b : Fin 2) (r : Fin 8192) (n : Fin 2048) :
    (val_main_v68 (F := Ideal) x0 x1 x2 (ix3 b r n) : EReal) = convAt x0 x1 x2 b ⟨256 + r.val, by omega⟩ n := by
  have e : (val_main_v68 (F := Ideal) x0 x1 x2 (ix3 b r n) : EReal)
      = val_main_v38 (F := Ideal) x0 (ix3 b r n) * val_main_v67 (F := Ideal) x0 x1 x2 (ix3 b r n) := rfl
  have h0 : (val_main_v42 (F := Ideal) x0 (ix3 b ⟨r.val, by omega⟩ n) : EReal) = zBefore x0 b ⟨256 + r.val, by omega⟩ n := by
    rw [v42_apply]
    unfold zBefore
    by_cases h : r.val = 0
    · rw [dif_neg (by show ¬(1 ≤ r.val ∧ r.val - 1 < 8192); omega), if_pos (by show 256 + r.val = 0 ∨ 256 + r.val = 256; omega)]
    · rw [dif_pos (by show 1 ≤ r.val ∧ r.val - 1 < 8192; omega), if_neg (by show ¬(256 + r.val = 0 ∨ 256 + r.val = 256); omega), v41_apply]
      exact congrArg (fun k => zAt x0 b k n) (Fin.ext (by show 256 + (r.val - 1) = 256 + r.val - 1; omega))
  have h1 : (val_main_v42 (F := Ideal) x0 (ix3 b ⟨1 + r.val, by omega⟩ n) : EReal) = zAt x0 b ⟨256 + r.val, by omega⟩ n := by
    rw [v42_apply, dif_pos (by show 1 ≤ 1 + r.val ∧ 1 + r.val - 1 < 8192; omega), v41_apply]
    exact congrArg (fun k => zAt x0 b k n) (Fin.ext (by show 256 + (1 + r.val - 1) = 256 + r.val; omega))
  have h2 : (val_main_v42 (F := Ideal) x0 (ix3 b ⟨2 + r.val, by omega⟩ n) : EReal) = zAfter x0 b ⟨256 + r.val, by omega⟩ n := by
    rw [v42_apply]
    unfold zAfter
    by_cases h : r.val = 8191
    · rw [dif_neg (by show ¬(1 ≤ 2 + r.val ∧ 2 + r.val - 1 < 8192); omega), dif_pos (by show 256 + r.val = 255 ∨ 256 + r.val = 8447; omega)]
    · rw [dif_pos (by show 1 ≤ 2 + r.val ∧ 2 + r.val - 1 < 8192; omega), dif_neg (by show ¬(256 + r.val = 255 ∨ 256 + r.val = 8447); omega), v41_apply]
      exact congrArg (fun k => zAt x0 b k n) (Fin.ext (by show 256 + (2 + r.val - 1) = 256 + r.val + 1; omega))
  rw [e, v38_apply, v67_apply, h0, h1, h2]
  exact congrArg (fun f => (_ * f : EReal)) (sum_order _ _ _ _)

/-! ## The result -/

theorem v69_apply (b : Fin 2) (r : Fin 8448) (n : Fin 2048) :
    (val_main_v69 (F := Ideal) x0 x1 x2 (ix3 b r n) : EReal)
      = if h : r.val < 256 then val_main_v37 (F := Ideal) x0 x1 x2 (ix3 b ⟨r.val, h⟩ n)
        else val_main_v68 (F := Ideal) x0 x1 x2 (ix3 b ⟨r.val - 256, by omega⟩ n) := by
  unfold val_main_v69
  generalize val_main_v37 (F := Ideal) x0 x1 x2 = a
  generalize val_main_v68 (F := Ideal) x0 x1 x2 = d
  pointwise []

theorem result_apply (b : Fin 2) (r : Fin 8448) (n : Fin 2048) :
    (val_main_v70 (F := Ideal) x0 x1 x2 (ix3 b r n) : EReal) = convAll x0 x1 x2 (ix3 b r n) := by
  have e : (val_main_v70 (F := Ideal) x0 x1 x2 (ix3 b r n) : EReal) = val_main_v69 (F := Ideal) x0 x1 x2 (ix3 b r n) := rfl
  rw [e, v69_apply]
  show _ = convAt x0 x1 x2 b r n
  by_cases h : r.val < 256
  · rw [dif_pos h, v37_apply]
  · rw [dif_neg h, v68_apply]
    exact congrArg (fun k => convAt x0 x1 x2 b k n) (Fin.ext (by show 256 + (r.val - 256) = r.val; omega))

/-- The reference's result is the gated short convolution of the two sequences. -/
theorem result_eq : val_main_v70 (F := Ideal) x0 x1 x2 = convAll x0 x1 x2 := by
  funext i
  rw [eq_ix3 i]
  exact result_apply x0 x1 x2 (i 0) (i 1) (i 2)

end Cert.Reference5Ideal.Body
end
-- ==== Proof.SconvClaims.lean ====
/- The claims about the short convolution, one theorem each. -/
module

public import proofs.«01_k».proof.Defs
public import proofs.«01_k».proof.Proof.SconvRef
public import Idealize.ShloMosaic.Lib.Claim

@[expose] public section
noncomputable section
namespace Cert.Proof
open Idealize.ShloMosaic Idealize.ShloMosaic.TcCoe Idealize.SL.Sem
open Cert.Kernel5Ideal.Body (convAll pArr wArr bArr)

/-- The reference has no semaphore, and its run leaves its arguments alone. -/
theorem quiescent_sconv_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference end with the same convolved rows. -/
theorem algebraic_sconv : Cert.algebraic_Kernel5Ideal_Reference5Ideal := by
  intro m ρ m' ρ' _ hagree
  refine ⟨fun c => convAll (pArr m c) (wArr m c) (bArr m c), ?_, ?_⟩
  · exact (θ_run Cert.Kernel5Ideal.defs _ _).mono (fun r h c => ⟨h.1 c, (h.2 c).2⟩)
      (θ_run_and (Cert.Kernel5Ideal.Body.run_value m ρ) (Cert.Kernel5Ideal.Value.run_blocks m ρ))
  · refine (θ_run Cert.Reference5Ideal.defs _ _).mono (fun r h c => ⟨(h c).1.trans ?_, (h c).2⟩)
      (Cert.Reference5Ideal.Value.run (F := Ideal) m' ρ')
    obtain ⟨a0, a1, a2⟩ := hagree c
    rw [Cert.Reference5Ideal.Read.val_main_v70_eq, a0, a1, a2]
    exact Cert.Reference5Ideal.Body.result_eq _ _ _

end Cert.Proof
end
-- ==== Proof.ResidPoint.lean ====
/- What the last residual's grid leaves in the output array. -/
module

public import proofs.«01_k».proof.Proof.InBlock
public import proofs.«01_k».proof.Proof.Gen.Kernel6Ideal.Value
public import Idealize.ShloMosaic.Lib.Pointwise
public import Idealize.ShloMosaic.Lib.VecWindow
public import Idealize.ShloMosaic.Lib.Pipeline.ValueKit.Geometry

@[expose] public section
set_option maxRecDepth 16384
noncomputable section
namespace Cert.Kernel6Ideal.Body
open Cert.Kernel6Ideal.Gen
open Idealize.ShloMosaic Idealize.ShloMosaic.TcCoe Idealize.SL.Sem
open Idealize.ShloMosaic.Pipeline (Dat Cfg Window)
open Cert.Kernel2Ideal.Body (slt_word select_ite)

/-! ## What one point computes -/

/-- The test for a context row fails: the grid visits the latents' row blocks only. -/
theorem row_word (n r : ℕ) (hn : n < 32) (hr : r < 256) :
    IntOp.cmpi CmpIPredicate.slt (IntOp.addi (Scalar.muli (Scalar.addi (BitVec.ofNat 32 n) 1#32) 256#32) (BitVec.ofNat 32 r)) 256#32 = 0#1 := by
  have e : IntOp.addi (Scalar.muli (Scalar.addi (BitVec.ofNat 32 n) 1#32) 256#32) (BitVec.ofNat 32 r) = BitVec.ofNat 32 (256 * (n + 1) + r) := by
    apply BitVec.eq_of_toNat_eq
    simp [IntOp.addi, Scalar.muli, IntOp.muli, Scalar.addi]
    omega
  rw [e, slt_word _ (by omega), if_neg (by omega)]

/-- A residual row: the gate is the batch's. -/
theorem pay1_apply (i : grid0.Coords) (x : Vec Ideal S1x256x2048 .f32) (g2 gb : Vec Ideal S1x1x2048 .f32) (y : Vec Ideal S1x2048x256 .f32)
    (r : Fin 256) (d : Fin 2048) :
    (k0_pay1 i x g2 gb y (ix3 0 r d) : EReal) = x (ix3 0 r d) + gb (ix3 0 0 d) * y (ix3 0 d r) := by
  have hi : (i 1).val < 32 := (i 1).isLt
  have hs : Scalar.select (IntOp.cmpi CmpIPredicate.slt
      (IntOp.addi (Scalar.muli (Scalar.addi (BitVec.ofNat 32 (i 1).val) 1#32) 256#32) (BitVec.ofNat 32 r.val)) 256#32)
      (g2 (ix3 0 0 d) : EReal) (gb (ix3 0 0 d)) = gb (ix3 0 0 d) := by
    rw [row_word _ _ hi r.isLt]; rfl
  refine Eq.trans ?_ (congrArg (fun f => (x (ix3 0 r d) + f * y (ix3 0 d r) : EReal)) hs)
  unfold k0_pay1
  generalize (i 1).val = n at hi
  pointwise []

/-- The row of the modulation's context vector. -/
def rM2 : Rect S1x8x2048 := Rect.unit (s := S1x8x2048) ![0, 2, 0] S1x1x2048.size inb_S1x8x2048_S1x1x2048_0_2_0
/-- The row of the modulation's vector of this batch. -/
def rMb (i : grid0.Coords) : Rect S1x8x2048 := Rect.unit (s := S1x8x2048) (k0_off1 i) S1x1x2048.size (k0_off1_inb i)

theorem off1_eq (i : grid0.Coords) : k0_off1 i = ![0, (i 0).val, 0] := by
  have h : (i 0).val < 2 := (i 0).isLt
  unfold k0_off1
  interval_cases (i 0).val <;> decide

theorem ld_mb (i : grid0.Coords) (x : Vec Ideal S1x8x2048 .f32) (b : Fin 8) (hb : b.val = (i 0).val)
    (d : Fin 2048) : View.ld x (rMb i) (ix3 0 0 d) = x (ix3 0 b d) := by
  refine congrArg x (funext fun a => Fin.ext ?_)
  match a with
  | ⟨0, _⟩ => show (k0_off1 i) 0 + 1 * 0 = 0; rw [off1_eq]; rfl
  | ⟨1, _⟩ => show (k0_off1 i) 1 + 1 * 0 = b.val; rw [off1_eq, hb]; rfl
  | ⟨2, _⟩ => show (k0_off1 i) 2 + 1 * d.val = d.val; rw [off1_eq, Nat.one_mul]; exact Nat.zero_add _

/-- Entry `(r, d)` of a block of batch `b`, from the block's windows. -/
def lastAt (b : Fin 8) (x : Vec Ideal S1x256x2048 .f32) (y : Vec Ideal S1x2048x256 .f32) (g : Vec Ideal S1x8x2048 .f32)
    (r : Fin 256) (d : Fin 2048) : EReal :=
  x (ix3 0 r d) + g (ix3 0 b d) * y (ix3 0 d r)

section
variable (c : Dev nD) (i : grid0.Coords) (arg2 : Memref sig .tc .vmem S1x256x2048 .f32) (harg2 : arg2.IsWhole)
    (arg3 : Memref sig .tc .vmem S1x2048x256 .f32) (harg3 : arg3.IsWhole) (arg4 : Memref sig .tc .vmem S1x8x2048 .f32) (harg4 : arg4.IsWhole)
    (arg5 : Memref sig .tc .vmem S1x256x2048 .f32) (harg5 : arg5.IsWhole)
    (x0 : Vec Ideal S1x256x2048 .f32) (x1 : Vec Ideal S1x2048x256 .f32) (x2 : Vec Ideal S1x8x2048 .f32)

theorem run_resid :
    (kernelRun0_A c i arg2 harg2 arg3 harg3 arg4 harg4 arg5 harg5 x0 x1 x2).1
      = [⟨Rect.unit (s := S1x256x2048) ![0, 0, 0] S1x256x2048.size inb_S1x256x2048_S1x256x2048_0_0_0,
          k0_pay1 i
            (arg2.view.readAt (Elt Ideal) (Rect.unit (s := S1x256x2048) ![0, 0, 0] S1x256x2048.size inb_S1x256x2048_S1x256x2048_0_0_0).toLoadRect (harg2.unread x0))
            (arg4.view.readAt (Elt Ideal) rM2.toLoadRect (harg4.unread x2)) (arg4.view.readAt (Elt Ideal) (rMb i).toLoadRect (harg4.unread x2))
            (arg3.view.readAt (Elt Ideal) (Rect.unit (s := S1x2048x256) ![0, 0, 0] S1x2048x256.size inb_S1x2048x256_S1x2048x256_0_0_0).toLoadRect (harg3.unread x1))⟩] := by
  rfl

theorem out_resid (b : Fin 8) (hb : b.val = (i 0).val) (r : Fin 256) (d : Fin 2048) :
    (out0_A_3 c i arg2 harg2 arg3 harg3 arg4 harg4 arg5 harg5 x0 x1 x2 (ix3 0 r d) : EReal)
      = lastAt b x0 x1 x2 r d := by
  unfold out0_A_3
  rw [run_resid, View.read_writes_full, View.readAt_full, View.readAt_full, harg2.read_unread, harg3.read_unread,
    View.readAt_eq_ld, View.readAt_eq_ld, harg4.read_unread]
  refine (pay1_apply i _ _ _ _ r d).trans ?_
  rw [ld_mb i x2 b hb]
  rfl
end

/-! ## The blocks of the arrays -/

/-- Entry `(b, r, d)` of the last residual: latent row `r` plus its gated channel mixing. -/
def lastRow (x : Vec Ideal S2x8448x2048 .f32) (y : Vec Ideal S2x2048x8448 .f32) (md : Vec Ideal S2x8x12288 .f32)
    (b : Fin 2) (r : Fin 8192) (d : Fin 2048) : EReal :=
  x (ix3 b ⟨256 + r.val, by omega⟩ d) + md (ix3 1 ⟨b.val, by omega⟩ ⟨10240 + d.val, by omega⟩) * y (ix3 b d ⟨256 + r.val, by omega⟩)

/-- The whole array of it. -/
def lastAll (x : Vec Ideal S2x8448x2048 .f32) (y : Vec Ideal S2x2048x8448 .f32) (md : Vec Ideal S2x8x12288 .f32) :
    Vec Ideal S2x8192x2048 .f32 := fun i => lastRow x y md (i 0) (i 1) (i 2)

theorem index0 : ∀ t : Fin cfg0.N, win0_0.index t = ![(grid0.coords t 0).val, (grid0.coords t 1).val + 1, 0] :=
  (by decide +kernel : ∀ t : Fin grid0.N, win0_0.index t = ![(grid0.coords t 0).val, (grid0.coords t 1).val + 1, 0])
theorem index1 : ∀ t : Fin cfg0.N, win0_1.index t = ![(grid0.coords t 0).val, 0, (grid0.coords t 1).val + 1] :=
  (by decide +kernel : ∀ t : Fin grid0.N, win0_1.index t = ![(grid0.coords t 0).val, 0, (grid0.coords t 1).val + 1])
theorem index2 : ∀ t : Fin cfg0.N, win0_2.index t = ![1, 0, 5] := (by decide +kernel : ∀ t : Fin grid0.N, win0_2.index t = ![1, 0, 5])
theorem index3 : ∀ t : Fin cfg0.N, win0_3.index t = ![(grid0.coords t 0).val, (grid0.coords t 1).val, 0] :=
  (by decide +kernel : ∀ t : Fin grid0.N, win0_3.index t = ![(grid0.coords t 0).val, (grid0.coords t 1).val, 0])
theorem coord0_lt (t : Fin cfg0.N) : (grid0.coords t 0).val < 2 := (grid0.coords t 0).isLt
theorem coord1_lt (t : Fin cfg0.N) : (grid0.coords t 1).val < 32 := (grid0.coords t 1).isLt

/-- The batch and the latent row of row `r` of point `t`'s block, and the batch as a row of the modulation. -/
abbrev batch (t : Fin cfg0.N) : Fin 2 := ⟨(grid0.coords t 0).val, coord0_lt t⟩
abbrev row (t : Fin cfg0.N) (r : Fin 256) : Fin 8192 := ⟨256 * (grid0.coords t 1).val + r.val, by have := coord1_lt t; omega⟩
abbrev batch8 (t : Fin cfg0.N) : Fin 8 := ⟨(grid0.coords t 0).val, by have := coord0_lt t; omega⟩

variable (m : (ℓ : Loc nD τ sig) → Buf (Elt Ideal) ℓ) (c : Dev nD)

/-- The arrays as the launch finds them. -/
abbrev xArr : Vec Ideal S2x8448x2048 .f32 := m ((c : Thread nD τ).loc main_arg0)
abbrev yArr : Vec Ideal S2x2048x8448 .f32 := m ((c : Thread nD τ).loc main_arg1)
abbrev mArr : Vec Ideal S2x8x12288 .f32 := m ((c : Thread nD τ).loc main_arg2)

theorem iblk0_apply (t : Fin cfg0.N) (r : Fin 256) (d : Fin 2048) :
    (iblk m c 0 t (ix3 (n0 := 1) (n1 := 256) (n2 := 2048) 0 r d) : EReal)
      = xArr m c (ix3 (batch t) ⟨256 + (row t r).val, by omega⟩ d) := by
  unfold xArr
  rw [← V_main_arg0 m c]
  blk_simp [iblk]
  refine congrArg _ ?_
  blk_ext [index0]

theorem iblk1_apply (t : Fin cfg0.N) (r : Fin 256) (d : Fin 2048) :
    (iblk m c 1 t (ix3 (n0 := 1) (n1 := 2048) (n2 := 256) 0 d r) : EReal)
      = yArr m c (ix3 (batch t) d ⟨256 + (row t r).val, by omega⟩) := by
  unfold yArr
  rw [← V_main_arg1 m c]
  blk_simp [iblk]
  refine congrArg _ ?_
  blk_ext [index1]

theorem iblk2_apply (t : Fin cfg0.N) (r : Fin 8) (d : Fin 2048) :
    (iblk m c 2 t (ix3 (n0 := 1) (n1 := 8) (n2 := 2048) 0 r d) : EReal) = mArr m c (ix3 1 r ⟨10240 + d.val, by omega⟩) := by
  unfold mArr
  rw [← V_main_arg2 m c]
  blk_simp [iblk]
  refine congrArg _ ?_
  blk_ext [index2]

/-! ## The output array -/

theorem lastAt_eq (t : Fin cfg0.N) (r : Fin 256) (d : Fin 2048) :
    lastAt (batch8 t) (iblk m c 0 t) (iblk m c 1 t) (iblk m c 2 t) r d
      = lastRow (xArr m c) (yArr m c) (mArr m c) (batch t) (row t r) d :=
  congrArg₂ (fun a b => (a + b : EReal)) (iblk0_apply m c t r d)
    (congrArg₂ (fun a b => (a * b : EReal)) (iblk2_apply m c t (batch8 t) d) (iblk1_apply m c t r d))

theorem block_apply (t : Fin cfg0.N) (r : Fin 256) (d : Fin 2048) :
    (outsAt0 m c t (ix3 0 r d) : EReal) = lastRow (xArr m c) (yArr m c) (mArr m c) (batch t) (row t r) d := by
  unfold outsAt0
  rw [← lastAt_eq]
  exact out_resid c _ _ _ _ _ _ _ _ _ _ _ _ (batch8 t) rfl r d

/-- The output array after the run. -/
theorem final : (dats m 0 c).arrAt 3 cfg0.N = lastAll (xArr m c) (yArr m c) (mArr m c) := by
  refine (dats m 0 c).arrAt_eq_of_covers 3 _ (by decide +kernel) fun t hf y => ?_
  blk_simp
  rw [after0_3]
  have h0 : (y 0).val < 1 := (y 0).isLt
  have e0 : ((win0_3.blk t).view.emb y 0).val = (grid0.coords t 0).val := by blk_simp [index3]
  have e1 : ((win0_3.blk t).view.emb y 1).val = (grid0.coords t 1).val * 256 + (y 1).val := by blk_simp [index3]
  have e2 : ((win0_3.blk t).view.emb y 2).val = (y 2).val := by blk_simp [index3]
  have hy : y = ix3 (n0 := 1) (n1 := 256) (n2 := 2048) 0 (y 1) (y 2) := by
    funext a
    match a with
    | ⟨0, _⟩ => exact Fin.ext (by show (y 0).val = 0; omega)
    | ⟨1, _⟩ => rfl
    | ⟨2, _⟩ => rfl
  refine (congrArg (outsAt0 m c t) hy).trans ((block_apply m c t (y 1) (y 2)).trans ?_)
  show lastAll _ _ _ (ix3 (batch t) (row t (y 1)) (y 2)) = _
  refine congrArg (lastAll _ _ _) (funext fun a => Fin.ext ?_)
  match a with
  | ⟨0, _⟩ => exact e0.symm
  | ⟨1, _⟩ => refine Eq.trans ?_ e1.symm; show 256 * _ + (y 1).val = _; omega
  | ⟨2, _⟩ => exact e2.symm

/-- The run: the output array ends holding the last residual's latent rows. -/
theorem run_value (ρ : Dev nD → PrngReg) :
    θ_run defs (onTc (τ := τ) (main (F := Ideal))) ⟨m, fun _ => 0, ρ⟩ fun r => ∀ c : Dev nD,
      r.2.mem ((c.tc : Thread nD τ).loc main_v0) = lastAll (xArr m c) (yArr m c) (mArr m c) :=
  (θ_run defs _ _).mono (fun r hr c => (hr c).1.trans (final m c)) (Value.run_blocks m ρ)

end Cert.Kernel6Ideal.Body
end
-- ==== Proof.ResidRef.lean ====
/- The reference of the last residual, read at an index over the extended reals. -/
module

public import proofs.«01_k».proof.Proof.ResidPoint
public import proofs.«01_k».proof.Proof.Gen.Reference6Ideal.Run
public import proofs.«01_k».proof.Proof.Gen.Reference6Ideal.Read

@[expose] public section
set_option maxRecDepth 16384
noncomputable section
namespace Cert.Reference6Ideal.Body
open Cert.Reference6Ideal Cert.Reference6Ideal.Gen Cert.Reference6Ideal.Read
open Idealize.ShloMosaic
open Cert.Kernel6Ideal.Body (lastRow lastAll)

variable (x0 : Vec Ideal S2x8448x2048 .f32) (x1 : Vec Ideal S2x2048x8448 .f32) (x2 : Vec Ideal S2x8x12288 .f32)

theorem result_apply (b : Fin 2) (r : Fin 8192) (d : Fin 2048) :
    (val_main_v8 (F := Ideal) x0 x1 x2 (ix3 b r d) : EReal) = lastRow x0 x1 x2 b r d := by
  pointwise [val_main_v8, val_main_v7, val_main_v6, val_main_v5, val_main_v4, val_main_v3, val_main_v2, val_main_v1, val_main_v0, lastRow]

/-- The reference's result is the last residual. -/
theorem result_eq : val_main_v8 (F := Ideal) x0 x1 x2 = lastAll x0 x1 x2 := by
  funext i
  rw [eq_ix3 i]
  exact result_apply x0 x1 x2 (i 0) (i 1) (i 2)

end Cert.Reference6Ideal.Body
end
-- ==== Proof.ResidClaims.lean ====
/- The claims about the last residual, one theorem each. -/
module

public import proofs.«01_k».proof.Defs
public import proofs.«01_k».proof.Proof.ResidRef
public import Idealize.ShloMosaic.Lib.Claim

@[expose] public section
noncomputable section
namespace Cert.Proof
open Idealize.ShloMosaic Idealize.ShloMosaic.TcCoe Idealize.SL.Sem
open Cert.Kernel6Ideal.Body (lastAll xArr yArr mArr)

/-- The reference has no semaphore, and its run leaves its arguments alone. -/
theorem quiescent_resid_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Kernel and reference end with the same residual rows. -/
theorem algebraic_resid : Cert.algebraic_Kernel6Ideal_Reference6Ideal := by
  intro m ρ m' ρ' _ hagree
  refine ⟨fun c => lastAll (xArr m c) (yArr m c) (mArr m c), ?_, ?_⟩
  · exact (θ_run Cert.Kernel6Ideal.defs _ _).mono (fun r h c => ⟨h.1 c, (h.2 c).2⟩)
      (θ_run_and (Cert.Kernel6Ideal.Body.run_value m ρ) (Cert.Kernel6Ideal.Value.run_blocks m ρ))
  · refine (θ_run Cert.Reference6Ideal.defs _ _).mono (fun r h c => ⟨(h c).1.trans ?_, (h c).2⟩)
      (Cert.Reference6Ideal.Value.run (F := Ideal) m' ρ')
    obtain ⟨a0, a1, a2⟩ := hagree c
    refine (Cert.Reference6Ideal.Read.val_main_v8_eq _ _ _).trans ?_
    rw [a0, a1, a2]
    exact Cert.Reference6Ideal.Body.result_eq _ _ _

end Cert.Proof
end
-- ==== Proof.ModPoint.lean ====
/- What the modulation's grid leaves in the output array. -/
module

public import proofs.«01_k».proof.Proof.Gen.Kernel7Ideal.Value
public import Idealize.ShloMosaic.Lib.Pointwise
public import Idealize.ShloMosaic.Lib.VecWindow
public import Idealize.ShloMosaic.Lib.Pipeline.ValueKit.Geometry

@[expose] public section
set_option maxRecDepth 16384
noncomputable section
namespace Cert.Kernel7Ideal.Body
open Cert.Kernel7Ideal.Gen
open Idealize.ShloMosaic Idealize.ShloMosaic.TcCoe Idealize.SL.Sem
open Idealize.ShloMosaic.Pipeline (Dat Cfg Window)

/-! ## What one point computes -/

/-- The activation `s / (1 + exp (-s))`. -/
def silu (s : EReal) : EReal := s * Ideal.div 1 (1 + Ideal.exp (-s))

theorem pay1_apply (s : Vec Ideal S8x2048 .f32) (w : Vec Ideal S1x2048x1024 .f32) (b : Vec Ideal S1x1x1024 .f32) (r : Fin 8) (n : Fin 1024) :
    (k0_pay1 s w b (ix3 0 r n) : EReal) = (∑ d : Fin 2048, silu (s (ix2 r d)) * w (ix3 0 d n)) + b (ix3 0 0 n) := by
  pointwise [k0_pay1, silu]
  rfl

theorem out_apply (x0 : Vec Ideal S8x2048 .f32) (x1 : Vec Ideal S1x2048x1024 .f32) (x2 : Vec Ideal S1x1x1024 .f32) (r : Fin 8) (n : Fin 1024) :
    (out0_3 x0 x1 x2 (ix3 0 r n) : EReal) = (∑ d : Fin 2048, silu (x0 (ix2 r d)) * x1 (ix3 0 d n)) + x2 (ix3 0 0 n) := by
  unfold out0_3
  have hz : (![0, 0, 0] : Fin 3 → ℕ) = fun _ => 0 := by decide
  have hz2 : (![0, 0] : Fin 2 → ℕ) = fun _ => 0 := by decide
  rw [View.canon_unit_zero hz]
  simp only [View.ld_unit_zero (S := S8x2048) hz2, View.ld_unit_zero (S := S1x2048x1024) hz, View.ld_unit_zero (S := S1x1x1024) hz]
  exact pay1_apply _ _ _ r n

/-! ## The blocks of the arrays -/

/-- Entry `(l, r, n)` of the modulation: layer `l`'s affine map of the activated vector `r`. -/
def modAt (s : Vec Ideal S8x2048 .f32) (w : Vec Ideal S2x2048x12288 .f32) (b : Vec Ideal S2x12288 .f32)
    (l : Fin 2) (r : Fin 8) (n : Fin 12288) : EReal :=
  (∑ d : Fin 2048, silu (s (ix2 r d)) * w (ix3 l d n)) + b (ix2 l n)

/-- The whole array of it. -/
def modAll (s : Vec Ideal S8x2048 .f32) (w : Vec Ideal S2x2048x12288 .f32) (b : Vec Ideal S2x12288 .f32) :
    Vec Ideal S2x8x12288 .f32 := fun i => modAt s w b (i 0) (i 1) (i 2)

theorem index0 : ∀ t : Fin cfg0.N, win0_0.index t = ![0, 0] := (by decide +kernel : ∀ t : Fin grid0.N, win0_0.index t = ![0, 0])
theorem index1 : ∀ t : Fin cfg0.N, win0_1.index t = ![(grid0.coords t 0).val, 0, (grid0.coords t 1).val] :=
  (by decide +kernel : ∀ t : Fin grid0.N, win0_1.index t = ![(grid0.coords t 0).val, 0, (grid0.coords t 1).val])
theorem index2 : ∀ t : Fin cfg0.N, win0_2.index t = ![(grid0.coords t 0).val, 0, (grid0.coords t 1).val] :=
  (by decide +kernel : ∀ t : Fin grid0.N, win0_2.index t = ![(grid0.coords t 0).val, 0, (grid0.coords t 1).val])
theorem index3 : ∀ t : Fin cfg0.N, win0_3.index t = ![(grid0.coords t 0).val, 0, (grid0.coords t 1).val] :=
  (by decide +kernel : ∀ t : Fin grid0.N, win0_3.index t = ![(grid0.coords t 0).val, 0, (grid0.coords t 1).val])
theorem coord0_lt (t : Fin cfg0.N) : (grid0.coords t 0).val < 2 := (grid0.coords t 0).isLt
theorem coord1_lt (t : Fin cfg0.N) : (grid0.coords t 1).val < 12 := (grid0.coords t 1).isLt

/-- The layer and the column of an entry of point `t`'s block. -/
abbrev layer (t : Fin cfg0.N) : Fin 2 := ⟨(grid0.coords t 0).val, coord0_lt t⟩
abbrev col (t : Fin cfg0.N) (n : Fin 1024) : Fin 12288 := ⟨1024 * (grid0.coords t 1).val + n.val, by have := coord1_lt t; omega⟩

variable (m : (ℓ : Loc nD τ sig) → Buf (Elt Ideal) ℓ) (c : Dev nD)

/-- The arrays as the launch finds them. -/
abbrev sArr : Vec Ideal S8x2048 .f32 := m ((c : Thread nD τ).loc main_arg0)
abbrev wArr : Vec Ideal S2x2048x12288 .f32 := m ((c : Thread nD τ).loc main_arg1)
abbrev bArr : Vec Ideal S2x12288 .f32 := m ((c : Thread nD τ).loc main_arg2)

theorem iblk0_apply (t : Fin cfg0.N) (r : Fin 8) (d : Fin 2048) :
    (iblk m c 0 t (ix2 (n0 := 8) (n1 := 2048) r d) : EReal) = sArr m c (ix2 r d) := by
  unfold sArr
  rw [← V_main_arg0 m c]
  blk_simp [iblk]
  refine congrArg _ ?_
  blk_ext [index0]

theorem iblk1_apply (t : Fin cfg0.N) (d : Fin 2048) (n : Fin 1024) :
    (iblk m c 1 t (ix3 (n0 := 1) (n1 := 2048) (n2 := 1024) 0 d n) : EReal) = wArr m c (ix3 (layer t) d (col t n)) := by
  unfold wArr
  rw [← V_main_arg1 m c]
  blk_simp [iblk]
  refine congrArg _ ?_
  blk_ext [index1]

theorem iblk2_apply (t : Fin cfg0.N) (n : Fin 1024) :
    (iblk m c 2 t (ix3 (n0 := 1) (n1 := 1) (n2 := 1024) 0 0 n) : EReal) = bArr m c (ix2 (layer t) (col t n)) := by
  have h : V m c main_v0 = shapeCast S2x1x12288 (bArr m c) shapeCasts_S2x12288_S2x1x12288 := by rfl
  have e : (V m c main_v0 (ix3 (layer t) 0 (col t n)) : EReal) = bArr m c (ix2 (layer t) (col t n)) := by
    rw [h]
    generalize layer t = l
    generalize col t n = k
    pointwise []
  rw [← e]
  blk_simp [iblk]
  refine congrArg _ ?_
  blk_ext [index2]

/-! ## The output array -/

/-- An output block's entry. -/
theorem block_apply (t : Fin cfg0.N) (r : Fin 8) (n : Fin 1024) :
    (out0_3 (iblk m c 0 t) (iblk m c 1 t) (iblk m c 2 t) (ix3 0 r n) : EReal)
      = modAll (sArr m c) (wArr m c) (bArr m c) (ix3 (layer t) r (col t n)) := by
  refine (out_apply _ _ _ r n).trans ?_
  refine congrArg₂ (fun a b => (a + b : EReal)) (Finset.sum_congr rfl fun d _ => ?_) (iblk2_apply m c t n)
  exact congrArg₂ (fun a b => (silu a * b : EReal)) (iblk0_apply m c t r d) (iblk1_apply m c t d n)

/-- The output array after the run. -/
theorem final : (dats m 0 c).arrAt 3 cfg0.N = modAll (sArr m c) (wArr m c) (bArr m c) := by
  refine (dats m 0 c).arrAt_eq_of_covers 3 _ (by decide +kernel) fun t hf y => ?_
  blk_simp
  rw [after0_3]
  have h0 : (y 0).val < 1 := (y 0).isLt
  have e0 : ((win0_3.blk t).view.emb y 0).val = (grid0.coords t 0).val := by blk_simp [index3]
  have e1 : ((win0_3.blk t).view.emb y 1).val = (y 1).val := by blk_simp [index3]
  have e2 : ((win0_3.blk t).view.emb y 2).val = (grid0.coords t 1).val * 1024 + (y 2).val := by blk_simp [index3]
  have hy : y = ix3 (n0 := 1) (n1 := 8) (n2 := 1024) 0 (y 1) (y 2) := by
    funext a
    match a with
    | ⟨0, _⟩ => exact Fin.ext (by show (y 0).val = 0; omega)
    | ⟨1, _⟩ => rfl
    | ⟨2, _⟩ => rfl
  refine (congrArg (out0_3 _ _ _) hy).trans ((block_apply m c t (y 1) (y 2)).trans ?_)
  refine congrArg (modAll _ _ _) (funext fun a => Fin.ext ?_)
  match a with
  | ⟨0, _⟩ => exact e0.symm
  | ⟨1, _⟩ => exact e1.symm
  | ⟨2, _⟩ => refine Eq.trans ?_ e2.symm; show 1024 * _ + (y 2).val = _; omega

/-- The run: the output array ends holding the modulation. -/
theorem run_value (ρ : Dev nD → PrngReg) :
    θ_run defs (onTc (τ := τ) (main (F := Ideal))) ⟨m, fun _ => 0, ρ⟩ fun r => ∀ c : Dev nD,
      r.2.mem ((c.tc : Thread nD τ).loc main_v1) = modAll (sArr m c) (wArr m c) (bArr m c) :=
  (θ_run defs _ _).mono (fun r hr c => (hr c).1.trans (final m c)) (Value.run_blocks m ρ)

end Cert.Kernel7Ideal.Body
end
-- ==== Proof.ModRef.lean ====
/- The reference of the modulation, read at an index over the extended reals. -/
module

public import proofs.«01_k».proof.Proof.ModPoint
public import proofs.«01_k».proof.Proof.Gen.Reference7Ideal.Run
public import proofs.«01_k».proof.Proof.Gen.Reference7Ideal.Read

@[expose] public section
set_option maxRecDepth 16384
noncomputable section
namespace Cert.Reference7Ideal.Body
open Cert.Reference7Ideal Cert.Reference7Ideal.Gen Cert.Reference7Ideal.Read
open Idealize.ShloMosaic
open Cert.Kernel7Ideal.Body (silu modAt modAll)

/-- The word of the constant one. -/
theorem one_word : (FloatOps.ofBits (F := Ideal) FTy.f32 0x3F800000#32 : EReal) = 1 := by
  pointwise []

variable (x0 : Vec Ideal S8x2048 .f32) (x1 : Vec Ideal S2x2048x12288 .f32) (x2 : Vec Ideal S2x12288 .f32)

theorem v0_apply (r : Fin 8) (d : Fin 2048) : (val_main_v0 (F := Ideal) x0 (ix2 r d) : EReal) = silu (x0 (ix2 r d)) := by
  pointwise [val_main_v0, val_main_call0_v5, val_main_call0_v4, val_main_call0_v3, val_main_call0_v2, val_main_call0_v1, val_main_call0_v0,
    val_main_call0_cst, val_main_call0_cst_0, silu]

/-- The first layer's modulation. -/
theorem v8_apply (r : Fin 8) (n : Fin 12288) : (val_main_v8 (F := Ideal) x0 x1 x2 (ix2 r n) : EReal) = modAt x0 x1 x2 0 r n := by
  unfold modAt
  simp only [← v0_apply]
  unfold val_main_v8 val_main_v7 val_main_v6 val_main_v5 val_main_v4 val_main_v3 val_main_v2 val_main_v1
  generalize val_main_v0 (F := Ideal) x0 = s
  pointwise []

/-- The second layer's modulation. -/
theorem v16_apply (r : Fin 8) (n : Fin 12288) : (val_main_v16 (F := Ideal) x0 x1 x2 (ix2 r n) : EReal) = modAt x0 x1 x2 1 r n := by
  unfold modAt
  simp only [← v0_apply]
  unfold val_main_v16 val_main_v15 val_main_v14 val_main_v13 val_main_v12 val_main_v11 val_main_v10 val_main_v9
  generalize val_main_v0 (F := Ideal) x0 = s
  pointwise []

/-- The two stacked. -/
theorem v19_apply (l : Fin 2) (r : Fin 8) (n : Fin 12288) :
    (val_main_v19 (F := Ideal) x0 x1 x2 (ix3 l r n) : EReal)
      = if l.val < 1 then val_main_v8 (F := Ideal) x0 x1 x2 (ix2 r n) else val_main_v16 (F := Ideal) x0 x1 x2 (ix2 r n) := by
  unfold val_main_v19 val_main_v17 val_main_v18
  generalize val_main_v8 (F := Ideal) x0 x1 x2 = a
  generalize val_main_v16 (F := Ideal) x0 x1 x2 = b
  pointwise []
  exact dite_eq_ite

theorem result_apply (l : Fin 2) (r : Fin 8) (n : Fin 12288) :
    (val_main_v19 (F := Ideal) x0 x1 x2 (ix3 l r n) : EReal) = modAt x0 x1 x2 l r n := by
  rw [v19_apply]
  by_cases h : l.val < 1
  · rw [if_pos h, v8_apply, show l = 0 from Fin.ext (by show l.val = 0; omega)]
  · rw [if_neg h, v16_apply, show l = 1 from Fin.ext (by show l.val = 1; omega)]

/-- The reference's result is the modulation of both layers. -/
theorem result_eq : val_main_v19 (F := Ideal) x0 x1 x2 = modAll x0 x1 x2 := by
  funext i
  rw [eq_ix3 i]
  exact result_apply x0 x1 x2 (i 0) (i 1) (i 2)

end Cert.Reference7Ideal.Body
end
-- ==== Proof.ModClaims.lean ====
/- The claims about the modulation, one theorem each. -/
module

public import proofs.«01_k».proof.Defs
public import proofs.«01_k».proof.Proof.ModRef
public import Idealize.ShloMosaic.Lib.Claim

@[expose] public section
noncomputable section
namespace Cert.Proof
open Idealize.ShloMosaic Idealize.ShloMosaic.TcCoe Idealize.SL.Sem
open Cert.Kernel7Ideal.Body (modAll sArr wArr bArr)

/-- The reference has no semaphore, and its run leaves its arguments alone. -/
theorem quiescent_mod_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Kernel and reference end with the same modulation vectors. -/
theorem algebraic_mod : Cert.algebraic_Kernel7Ideal_Reference7Ideal := by
  intro m ρ m' ρ' _ hagree
  refine ⟨fun c => modAll (sArr m c) (wArr m c) (bArr m c), ?_, ?_⟩
  · exact (θ_run Cert.Kernel7Ideal.defs _ _).mono (fun r h c => ⟨h.1 c, (h.2 c).2⟩)
      (θ_run_and (Cert.Kernel7Ideal.Body.run_value m ρ) (Cert.Kernel7Ideal.Value.run_blocks m ρ))
  · refine (θ_run Cert.Reference7Ideal.defs _ _).mono (fun r h c => ⟨(h c).1.trans ?_, (h c).2⟩)
      (Cert.Reference7Ideal.Value.run (F := Ideal) m' ρ')
    obtain ⟨a0, a1, a2⟩ := hagree c
    refine (Cert.Reference7Ideal.Read.val_main_v19_eq _ _ _).trans ?_
    rw [a0, a1, a2]
    exact Cert.Reference7Ideal.Body.result_eq _ _ _

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_prepared
public import proofs.«01_k».proof.Proof.AttnClaims
public import proofs.«01_k».proof.Proof.InClaims
public import proofs.«01_k».proof.Proof.MergeClaims
public import proofs.«01_k».proof.Proof.OutClaims
public import proofs.«01_k».proof.Proof.SconvClaims
public import proofs.«01_k».proof.Proof.ResidClaims
public import proofs.«01_k».proof.Proof.ModClaims
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_prepared.Gen.facts,
  fun m ρ _ => Cert.Kernel.Body.frame m ρ,
  fun m ρ _ => Cert.KernelIdeal.Body.frame m ρ,
  fun m ρ _ => Cert.KernelIdeal.Body.frame m ρ,
  quiescent_reference,
  quiescent_reference_prepared,
  fun m ρ _ => Cert.Kernel2.Gen.frame m ρ,
  fun m ρ _ => Cert.Kernel2Ideal.Gen.frame m ρ,
  quiescent_in_reference,
  fun m ρ _ => Cert.Kernel3.Gen.frame m ρ,
  fun m ρ _ => Cert.Kernel3Ideal.Gen.frame m ρ,
  quiescent_merge_reference,
  fun m ρ _ => Cert.Kernel4.Gen.frame m ρ,
  fun m ρ _ => Cert.Kernel4Ideal.Gen.frame m ρ,
  quiescent_out_reference,
  fun m ρ _ => Cert.Kernel5.Gen.frame m ρ,
  fun m ρ _ => Cert.Kernel5Ideal.Gen.frame m ρ,
  quiescent_sconv_reference,
  fun m ρ _ => Cert.Kernel6.Gen.frame m ρ,
  fun m ρ _ => Cert.Kernel6Ideal.Gen.frame m ρ,
  quiescent_resid_reference,
  fun m ρ _ => Cert.Kernel7.Gen.frame m ρ,
  fun m ρ _ => Cert.Kernel7Ideal.Gen.frame m ρ,
  quiescent_mod_reference,
  trivial,
  algebraic_attention,
  trivial,
  algebraic_in,
  trivial,
  algebraic_merge,
  trivial,
  algebraic_out,
  trivial,
  algebraic_sconv,
  trivial,
  algebraic_resid,
  trivial,
  algebraic_mod⟩

end Cert.Proof

end
